-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_finite [hPre_attn_finite : Cert.Pre_attn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_finite [hPre_attn_finite : Cert.Pre_attn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_PQuery (m : (ℓ : Loc Cert.PQuery.nD Cert.PQuery.τ Cert.PQuery.sig) → Buf (Elt Bits) ℓ) : Prop :=
  True

def Pre_PQueryIdeal (m : (ℓ : Loc Cert.PQueryIdeal.nD Cert.PQueryIdeal.τ Cert.PQueryIdeal.sig) → Buf (Elt Ideal) ℓ) : Prop :=
  True

def Pre_PQueryRefIdeal (m : (ℓ : Loc Cert.PQueryRefIdeal.nD Cert.PQueryRefIdeal.τ Cert.PQueryRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_attn_finite [hKernelIdeal : Cert.KernelIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_attn_finite [hReferenceIdeal : Cert.ReferenceIdeal.Facts] [hPre_attn_finite : Cert.Pre_attn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_PQuery [hPQuery : Cert.PQuery.Facts] : Prop :=
  ∀ (m : (ℓ : Loc Cert.PQuery.nD Cert.PQuery.τ Cert.PQuery.sig) → Buf (Elt Bits) ℓ) (g : Dev Cert.PQuery.nD → PrngReg), Pre_PQuery m →
    θ_run (Cert.PQuery.defs (F := Bits)) (onTc (τ := Cert.PQuery.τ) (Cert.PQuery.main (F := Bits))) ⟨m, fun _ => 0, g⟩ (fun r => (∀ c : Dev Cert.PQuery.nD,
      r.2.mem ((c.tc : Thread Cert.PQuery.nD Cert.PQuery.τ).loc Cert.PQuery.main_arg0) = m ((c.tc : Thread Cert.PQuery.nD Cert.PQuery.τ).loc Cert.PQuery.main_arg0)
      ∧ r.2.mem ((c.tc : Thread Cert.PQuery.nD Cert.PQuery.τ).loc Cert.PQuery.main_arg1) = m ((c.tc : Thread Cert.PQuery.nD Cert.PQuery.τ).loc Cert.PQuery.main_arg1)
      ∧ r.2.mem ((c.tc : Thread Cert.PQuery.nD Cert.PQuery.τ).loc Cert.PQuery.main_arg2) = m ((c.tc : Thread Cert.PQuery.nD Cert.PQuery.τ).loc Cert.PQuery.main_arg2)
      ∧ r.2.mem ((c.tc : Thread Cert.PQuery.nD Cert.PQuery.τ).loc Cert.PQuery.main_arg3) = m ((c.tc : Thread Cert.PQuery.nD Cert.PQuery.τ).loc Cert.PQuery.main_arg3)
      ∧ r.2.mem ((c.tc : Thread Cert.PQuery.nD Cert.PQuery.τ).loc Cert.PQuery.main_arg4) = m ((c.tc : Thread Cert.PQuery.nD Cert.PQuery.τ).loc Cert.PQuery.main_arg4)
      ∧ r.2.mem ((c.tc : Thread Cert.PQuery.nD Cert.PQuery.τ).loc Cert.PQuery.main_arg5) = m ((c.tc : Thread Cert.PQuery.nD Cert.PQuery.τ).loc Cert.PQuery.main_arg5))
      ∧ r.2.sem = fun _ => 0)

def quiescent_PQueryIdeal [hPQueryIdeal : Cert.PQueryIdeal.Facts] : Prop :=
  ∀ (m : (ℓ : Loc Cert.PQueryIdeal.nD Cert.PQueryIdeal.τ Cert.PQueryIdeal.sig) → Buf (Elt Ideal) ℓ) (g : Dev Cert.PQueryIdeal.nD → PrngReg), Pre_PQueryIdeal m →
    θ_run (Cert.PQueryIdeal.defs (F := Ideal)) (onTc (τ := Cert.PQueryIdeal.τ) (Cert.PQueryIdeal.main (F := Ideal))) ⟨m, fun _ => 0, g⟩ (fun r => (∀ c : Dev Cert.PQueryIdeal.nD,
      r.2.mem ((c.tc : Thread Cert.PQueryIdeal.nD Cert.PQueryIdeal.τ).loc Cert.PQueryIdeal.main_arg0) = m ((c.tc : Thread Cert.PQueryIdeal.nD Cert.PQueryIdeal.τ).loc Cert.PQueryIdeal.main_arg0)
      ∧ r.2.mem ((c.tc : Thread Cert.PQueryIdeal.nD Cert.PQueryIdeal.τ).loc Cert.PQueryIdeal.main_arg1) = m ((c.tc : Thread Cert.PQueryIdeal.nD Cert.PQueryIdeal.τ).loc Cert.PQueryIdeal.main_arg1)
      ∧ r.2.mem ((c.tc : Thread Cert.PQueryIdeal.nD Cert.PQueryIdeal.τ).loc Cert.PQueryIdeal.main_arg2) = m ((c.tc : Thread Cert.PQueryIdeal.nD Cert.PQueryIdeal.τ).loc Cert.PQueryIdeal.main_arg2)
      ∧ r.2.mem ((c.tc : Thread Cert.PQueryIdeal.nD Cert.PQueryIdeal.τ).loc Cert.PQueryIdeal.main_arg3) = m ((c.tc : Thread Cert.PQueryIdeal.nD Cert.PQueryIdeal.τ).loc Cert.PQueryIdeal.main_arg3)
      ∧ r.2.mem ((c.tc : Thread Cert.PQueryIdeal.nD Cert.PQueryIdeal.τ).loc Cert.PQueryIdeal.main_arg4) = m ((c.tc : Thread Cert.PQueryIdeal.nD Cert.PQueryIdeal.τ).loc Cert.PQueryIdeal.main_arg4)
      ∧ r.2.mem ((c.tc : Thread Cert.PQueryIdeal.nD Cert.PQueryIdeal.τ).loc Cert.PQueryIdeal.main_arg5) = m ((c.tc : Thread Cert.PQueryIdeal.nD Cert.PQueryIdeal.τ).loc Cert.PQueryIdeal.main_arg5))
      ∧ r.2.sem = fun _ => 0)

def quiescent_PQueryRefIdeal [hPQueryRefIdeal : Cert.PQueryRefIdeal.Facts] : Prop :=
  ∀ (m : (ℓ : Loc Cert.PQueryRefIdeal.nD Cert.PQueryRefIdeal.τ Cert.PQueryRefIdeal.sig) → Buf (Elt Ideal) ℓ) (g : Dev Cert.PQueryRefIdeal.nD → PrngReg), Pre_PQueryRefIdeal m →
    θ_run (Cert.PQueryRefIdeal.defs (F := Ideal)) (onTc (τ := Cert.PQueryRefIdeal.τ) (Cert.PQueryRefIdeal.main (F := Ideal))) ⟨m, fun _ => 0, g⟩ (fun r => (∀ c : Dev Cert.PQueryRefIdeal.nD,
      r.2.mem ((c.tc : Thread Cert.PQueryRefIdeal.nD Cert.PQueryRefIdeal.τ).loc Cert.PQueryRefIdeal.main_arg0) = m ((c.tc : Thread Cert.PQueryRefIdeal.nD Cert.PQueryRefIdeal.τ).loc Cert.PQueryRefIdeal.main_arg0)
      ∧ r.2.mem ((c.tc : Thread Cert.PQueryRefIdeal.nD Cert.PQueryRefIdeal.τ).loc Cert.PQueryRefIdeal.main_arg1) = m ((c.tc : Thread Cert.PQueryRefIdeal.nD Cert.PQueryRefIdeal.τ).loc Cert.PQueryRefIdeal.main_arg1)
      ∧ r.2.mem ((c.tc : Thread Cert.PQueryRefIdeal.nD Cert.PQueryRefIdeal.τ).loc Cert.PQueryRefIdeal.main_arg2) = m ((c.tc : Thread Cert.PQueryRefIdeal.nD Cert.PQueryRefIdeal.τ).loc Cert.PQueryRefIdeal.main_arg2)
      ∧ r.2.mem ((c.tc : Thread Cert.PQueryRefIdeal.nD Cert.PQueryRefIdeal.τ).loc Cert.PQueryRefIdeal.main_arg3) = m ((c.tc : Thread Cert.PQueryRefIdeal.nD Cert.PQueryRefIdeal.τ).loc Cert.PQueryRefIdeal.main_arg3)
      ∧ r.2.mem ((c.tc : Thread Cert.PQueryRefIdeal.nD Cert.PQueryRefIdeal.τ).loc Cert.PQueryRefIdeal.main_arg4) = m ((c.tc : Thread Cert.PQueryRefIdeal.nD Cert.PQueryRefIdeal.τ).loc Cert.PQueryRefIdeal.main_arg4)
      ∧ r.2.mem ((c.tc : Thread Cert.PQueryRefIdeal.nD Cert.PQueryRefIdeal.τ).loc Cert.PQueryRefIdeal.main_arg5) = m ((c.tc : Thread Cert.PQueryRefIdeal.nD Cert.PQueryRefIdeal.τ).loc Cert.PQueryRefIdeal.main_arg5))
      ∧ r.2.sem = fun _ => 0)

def preserves_Kernel_KernelIdeal : Prop :=
  True

def algebraic_KernelIdeal_ReferenceIdeal_pre_attn_finite [hKernelIdeal : Cert.KernelIdeal.Facts] [hReferenceIdeal : Cert.ReferenceIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Proj_ProjIdeal : Prop :=
  True

def algebraic_ProjIdeal_ProjRefIdeal_pre_proj_finite [hProjIdeal : Cert.ProjIdeal.Facts] [hProjRefIdeal : Cert.ProjRefIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v81_0)) (v1 : (c : Dev Cert.ProjIdeal.nD) → Buf (Elt Ideal) ((c.tc : Thread Cert.ProjIdeal.nD Cert.ProjIdeal.τ).loc Cert.ProjIdeal.main_v81_1)) (v2 : (c : Dev Cert.ProjIdeal.nD) → Buf (Elt Ideal) ((c.tc : Thread Cert.ProjIdeal.nD Cert.ProjIdeal.τ).loc Cert.ProjIdeal.main_v81_2)) (v3 : (c : Dev Cert.ProjIdeal.nD) → Buf (Elt Ideal) ((c.tc : Thread Cert.ProjIdeal.nD Cert.ProjIdeal.τ).loc Cert.ProjIdeal.main_v81_3)) (v4 : (c : Dev Cert.ProjIdeal.nD) → Buf (Elt Ideal) ((c.tc : Thread Cert.ProjIdeal.nD Cert.ProjIdeal.τ).loc Cert.ProjIdeal.main_v81_4)) (v5 : (c : Dev Cert.ProjIdeal.nD) → Buf (Elt Ideal) ((c.tc : Thread Cert.ProjIdeal.nD Cert.ProjIdeal.τ).loc Cert.ProjIdeal.main_v81_5)) (v6 : (c : Dev Cert.ProjIdeal.nD) → Buf (Elt Ideal) ((c.tc : Thread Cert.ProjIdeal.nD Cert.ProjIdeal.τ).loc Cert.ProjIdeal.main_v81_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v81_0) = v0 c
          ∧ r.2.mem ((c.tc : Thread Cert.ProjIdeal.nD Cert.ProjIdeal.τ).loc Cert.ProjIdeal.main_v81_1) = v1 c
          ∧ r.2.mem ((c.tc : Thread Cert.ProjIdeal.nD Cert.ProjIdeal.τ).loc Cert.ProjIdeal.main_v81_2) = v2 c
          ∧ r.2.mem ((c.tc : Thread Cert.ProjIdeal.nD Cert.ProjIdeal.τ).loc Cert.ProjIdeal.main_v81_3) = v3 c
          ∧ r.2.mem ((c.tc : Thread Cert.ProjIdeal.nD Cert.ProjIdeal.τ).loc Cert.ProjIdeal.main_v81_4) = v4 c
          ∧ r.2.mem ((c.tc : Thread Cert.ProjIdeal.nD Cert.ProjIdeal.τ).loc Cert.ProjIdeal.main_v81_5) = v5 c
          ∧ r.2.mem ((c.tc : Thread Cert.ProjIdeal.nD Cert.ProjIdeal.τ).loc Cert.ProjIdeal.main_v81_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v129) = v0 c
          ∧ r.2.mem ((c.tc : Thread Cert.ProjRefIdeal.nD Cert.ProjRefIdeal.τ).loc Cert.ProjRefIdeal.main_v130) = v1 c
          ∧ r.2.mem ((c.tc : Thread Cert.ProjRefIdeal.nD Cert.ProjRefIdeal.τ).loc Cert.ProjRefIdeal.main_v131) = v2 c
          ∧ r.2.mem ((c.tc : Thread Cert.ProjRefIdeal.nD Cert.ProjRefIdeal.τ).loc Cert.ProjRefIdeal.main_v132) = v3 c
          ∧ r.2.mem ((c.tc : Thread Cert.ProjRefIdeal.nD Cert.ProjRefIdeal.τ).loc Cert.ProjRefIdeal.main_v134) = v4 c
          ∧ r.2.mem ((c.tc : Thread Cert.ProjRefIdeal.nD Cert.ProjRefIdeal.τ).loc Cert.ProjRefIdeal.main_v136) = v5 c
          ∧ r.2.mem ((c.tc : Thread Cert.ProjRefIdeal.nD Cert.ProjRefIdeal.τ).loc Cert.ProjRefIdeal.main_v137) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v21)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v21) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v70) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_PQuery_PQueryIdeal : Prop :=
  True

def algebraic_PQueryIdeal_PQueryRefIdeal [hPQueryIdeal : Cert.PQueryIdeal.Facts] [hPQueryRefIdeal : Cert.PQueryRefIdeal.Facts] : Prop :=
  ∀ (m : (ℓ : Loc Cert.PQueryIdeal.nD Cert.PQueryIdeal.τ Cert.PQueryIdeal.sig) → Buf (Elt Ideal) ℓ) (g : Dev Cert.PQueryIdeal.nD → PrngReg)
    (m' : (ℓ : Loc Cert.PQueryRefIdeal.nD Cert.PQueryRefIdeal.τ Cert.PQueryRefIdeal.sig) → Buf (Elt Ideal) ℓ) (g' : Dev Cert.PQueryRefIdeal.nD → PrngReg), Pre_PQueryIdeal m →
    (∀ c : Dev Cert.PQueryIdeal.nD,
      m' ((c.tc : Thread Cert.PQueryRefIdeal.nD Cert.PQueryRefIdeal.τ).loc Cert.PQueryRefIdeal.main_arg0) = m ((c.tc : Thread Cert.PQueryIdeal.nD Cert.PQueryIdeal.τ).loc Cert.PQueryIdeal.main_arg0)
      ∧ m' ((c.tc : Thread Cert.PQueryRefIdeal.nD Cert.PQueryRefIdeal.τ).loc Cert.PQueryRefIdeal.main_arg1) = m ((c.tc : Thread Cert.PQueryIdeal.nD Cert.PQueryIdeal.τ).loc Cert.PQueryIdeal.main_arg1)
      ∧ m' ((c.tc : Thread Cert.PQueryRefIdeal.nD Cert.PQueryRefIdeal.τ).loc Cert.PQueryRefIdeal.main_arg2) = m ((c.tc : Thread Cert.PQueryIdeal.nD Cert.PQueryIdeal.τ).loc Cert.PQueryIdeal.main_arg2)
      ∧ m' ((c.tc : Thread Cert.PQueryRefIdeal.nD Cert.PQueryRefIdeal.τ).loc Cert.PQueryRefIdeal.main_arg3) = m ((c.tc : Thread Cert.PQueryIdeal.nD Cert.PQueryIdeal.τ).loc Cert.PQueryIdeal.main_arg3)
      ∧ m' ((c.tc : Thread Cert.PQueryRefIdeal.nD Cert.PQueryRefIdeal.τ).loc Cert.PQueryRefIdeal.main_arg4) = m ((c.tc : Thread Cert.PQueryIdeal.nD Cert.PQueryIdeal.τ).loc Cert.PQueryIdeal.main_arg4)
      ∧ m' ((c.tc : Thread Cert.PQueryRefIdeal.nD Cert.PQueryRefIdeal.τ).loc Cert.PQueryRefIdeal.main_arg5) = m ((c.tc : Thread Cert.PQueryIdeal.nD Cert.PQueryIdeal.τ).loc Cert.PQueryIdeal.main_arg5)) →
    ∃ (v0 : (c : Dev Cert.PQueryIdeal.nD) → Buf (Elt Ideal) ((c.tc : Thread Cert.PQueryIdeal.nD Cert.PQueryIdeal.τ).loc Cert.PQueryIdeal.main_v4_0)) (v1 : (c : Dev Cert.PQueryIdeal.nD) → Buf (Elt Ideal) ((c.tc : Thread Cert.PQueryIdeal.nD Cert.PQueryIdeal.τ).loc Cert.PQueryIdeal.main_v4_1)),
      θ_run (Cert.PQueryIdeal.defs (F := Ideal)) (onTc (τ := Cert.PQueryIdeal.τ) (Cert.PQueryIdeal.main (F := Ideal))) ⟨m, fun _ => 0, g⟩ (fun r => ∀ c : Dev Cert.PQueryIdeal.nD,
          r.2.mem ((c.tc : Thread Cert.PQueryIdeal.nD Cert.PQueryIdeal.τ).loc Cert.PQueryIdeal.main_v4_0) = v0 c
          ∧ r.2.mem ((c.tc : Thread Cert.PQueryIdeal.nD Cert.PQueryIdeal.τ).loc Cert.PQueryIdeal.main_v4_1) = v1 c
          ∧ r.2.mem ((c.tc : Thread Cert.PQueryIdeal.nD Cert.PQueryIdeal.τ).loc Cert.PQueryIdeal.main_arg0) = m ((c.tc : Thread Cert.PQueryIdeal.nD Cert.PQueryIdeal.τ).loc Cert.PQueryIdeal.main_arg0)
          ∧ r.2.mem ((c.tc : Thread Cert.PQueryIdeal.nD Cert.PQueryIdeal.τ).loc Cert.PQueryIdeal.main_arg1) = m ((c.tc : Thread Cert.PQueryIdeal.nD Cert.PQueryIdeal.τ).loc Cert.PQueryIdeal.main_arg1)
          ∧ r.2.mem ((c.tc : Thread Cert.PQueryIdeal.nD Cert.PQueryIdeal.τ).loc Cert.PQueryIdeal.main_arg2) = m ((c.tc : Thread Cert.PQueryIdeal.nD Cert.PQueryIdeal.τ).loc Cert.PQueryIdeal.main_arg2)
          ∧ r.2.mem ((c.tc : Thread Cert.PQueryIdeal.nD Cert.PQueryIdeal.τ).loc Cert.PQueryIdeal.main_arg3) = m ((c.tc : Thread Cert.PQueryIdeal.nD Cert.PQueryIdeal.τ).loc Cert.PQueryIdeal.main_arg3)
          ∧ r.2.mem ((c.tc : Thread Cert.PQueryIdeal.nD Cert.PQueryIdeal.τ).loc Cert.PQueryIdeal.main_arg4) = m ((c.tc : Thread Cert.PQueryIdeal.nD Cert.PQueryIdeal.τ).loc Cert.PQueryIdeal.main_arg4)
          ∧ r.2.mem ((c.tc : Thread Cert.PQueryIdeal.nD Cert.PQueryIdeal.τ).loc Cert.PQueryIdeal.main_arg5) = m ((c.tc : Thread Cert.PQueryIdeal.nD Cert.PQueryIdeal.τ).loc Cert.PQueryIdeal.main_arg5))
      ∧ θ_run (Cert.PQueryRefIdeal.defs (F := Ideal)) (onTc (τ := Cert.PQueryRefIdeal.τ) (Cert.PQueryRefIdeal.main (F := Ideal))) ⟨m', fun _ => 0, g'⟩ (fun r => ∀ c : Dev Cert.PQueryRefIdeal.nD,
          r.2.mem ((c.tc : Thread Cert.PQueryRefIdeal.nD Cert.PQueryRefIdeal.τ).loc Cert.PQueryRefIdeal.main_v23) = v0 c
          ∧ r.2.mem ((c.tc : Thread Cert.PQueryRefIdeal.nD Cert.PQueryRefIdeal.τ).loc Cert.PQueryRefIdeal.main_v24) = v1 c
          ∧ r.2.mem ((c.tc : Thread Cert.PQueryRefIdeal.nD Cert.PQueryRefIdeal.τ).loc Cert.PQueryRefIdeal.main_arg0) = m' ((c.tc : Thread Cert.PQueryRefIdeal.nD Cert.PQueryRefIdeal.τ).loc Cert.PQueryRefIdeal.main_arg0)
          ∧ r.2.mem ((c.tc : Thread Cert.PQueryRefIdeal.nD Cert.PQueryRefIdeal.τ).loc Cert.PQueryRefIdeal.main_arg1) = m' ((c.tc : Thread Cert.PQueryRefIdeal.nD Cert.PQueryRefIdeal.τ).loc Cert.PQueryRefIdeal.main_arg1)
          ∧ r.2.mem ((c.tc : Thread Cert.PQueryRefIdeal.nD Cert.PQueryRefIdeal.τ).loc Cert.PQueryRefIdeal.main_arg2) = m' ((c.tc : Thread Cert.PQueryRefIdeal.nD Cert.PQueryRefIdeal.τ).loc Cert.PQueryRefIdeal.main_arg2)
          ∧ r.2.mem ((c.tc : Thread Cert.PQueryRefIdeal.nD Cert.PQueryRefIdeal.τ).loc Cert.PQueryRefIdeal.main_arg3) = m' ((c.tc : Thread Cert.PQueryRefIdeal.nD Cert.PQueryRefIdeal.τ).loc Cert.PQueryRefIdeal.main_arg3)
          ∧ r.2.mem ((c.tc : Thread Cert.PQueryRefIdeal.nD Cert.PQueryRefIdeal.τ).loc Cert.PQueryRefIdeal.main_arg4) = m' ((c.tc : Thread Cert.PQueryRefIdeal.nD Cert.PQueryRefIdeal.τ).loc Cert.PQueryRefIdeal.main_arg4)
          ∧ r.2.mem ((c.tc : Thread Cert.PQueryRefIdeal.nD Cert.PQueryRefIdeal.τ).loc Cert.PQueryRefIdeal.main_arg5) = m' ((c.tc : Thread Cert.PQueryRefIdeal.nD Cert.PQueryRefIdeal.τ).loc Cert.PQueryRefIdeal.main_arg5))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPQuery : Cert.PQuery.Facts) (hPQueryIdeal : Cert.PQueryIdeal.Facts) (hPQueryRefIdeal : Cert.PQueryRefIdeal.Facts) (hPre_attn_finite : Cert.Pre_attn_finite.Facts) (hPre_proj_finite : Cert.Pre_proj_finite.Facts),
    quiescent_Kernel (hKernel := hKernel)
    ∧ quiescent_KernelIdeal (hKernelIdeal := hKernelIdeal)
    ∧ quiescent_KernelIdeal_pre_attn_finite (hKernelIdeal := hKernelIdeal) (hPre_attn_finite := hPre_attn_finite)
    ∧ quiescent_ReferenceIdeal (hReferenceIdeal := hReferenceIdeal)
    ∧ quiescent_ReferenceIdeal_pre_attn_finite (hReferenceIdeal := hReferenceIdeal) (hPre_attn_finite := hPre_attn_finite)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ quiescent_Merge (hMerge := hMerge)
    ∧ quiescent_MergeIdeal (hMergeIdeal := hMergeIdeal)
    ∧ quiescent_MergeRefIdeal (hMergeRefIdeal := hMergeRefIdeal)
    ∧ quiescent_PQuery (hPQuery := hPQuery)
    ∧ quiescent_PQueryIdeal (hPQueryIdeal := hPQueryIdeal)
    ∧ quiescent_PQueryRefIdeal (hPQueryRefIdeal := hPQueryRefIdeal)
    ∧ preserves_Kernel_KernelIdeal
    ∧ algebraic_KernelIdeal_ReferenceIdeal_pre_attn_finite (hKernelIdeal := hKernelIdeal) (hReferenceIdeal := hReferenceIdeal) (hPre_attn_finite := hPre_attn_finite)
    ∧ preserves_Proj_ProjIdeal
    ∧ algebraic_ProjIdeal_ProjRefIdeal_pre_proj_finite (hProjIdeal := hProjIdeal) (hProjRefIdeal := hProjRefIdeal) (hPre_proj_finite := hPre_proj_finite)
    ∧ preserves_Merge_MergeIdeal
    ∧ algebraic_MergeIdeal_MergeRefIdeal (hMergeIdeal := hMergeIdeal) (hMergeRefIdeal := hMergeRefIdeal)
    ∧ preserves_PQuery_PQueryIdeal
    ∧ algebraic_PQueryIdeal_PQueryRefIdeal (hPQueryIdeal := hPQueryIdeal) (hPQueryRefIdeal := hPQueryRefIdeal)
-- ==== Pre_attn_finite.lean ====
abbrev S2x8192x512 : Shape := ⟨3, ![2, 8192, 512]⟩
abbrev S2x8192x128 : Shape := ⟨3, ![2, 8192, 128]⟩
abbrev S2x256x128 : Shape := ⟨3, ![2, 256, 128]⟩
abbrev S8x128 : Shape := ⟨2, ![8, 128]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x8192x128 : S_.BroadcastsInDim S2x8192x128 (![] : Fin 0 → Fin S2x8192x128.rank)
  reducesTo_S2x8192x128_S_d0_1_2 : S2x8192x128.ReducesTo [0, 1, 2] S_
  bcast_S_S2x256x128 : S_.BroadcastsInDim S2x256x128 (![] : Fin 0 → Fin S2x256x128.rank)
  reducesTo_S2x256x128_S_d0_1_2 : S2x256x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_v16 : IVec S_ 1) (main_v17 : FVec F S8x128 .f32) : IVec S_ 1 :=
  let main_cst_4 : FVec F S_ .f32 := constant S_ .f32 0x7F800000#32
  let main_v18 : FVec F S8x128 .f32 := broadcastInDim S8x128 ![] bcast_S_S8x128 main_cst_4
  let main_v19 : IVec S8x128 1 := cmpf .olt main_v17 main_v18
  let main_c_5 : IVec S_ 1 := constantI S_ 1 1#1
  let main_v20 : IVec S_ 1 := (fun x v => Host.reduce IntOp.andi x v reducesTo_S8x128_S_d0_1 h_S_) main_v19 main_c_5
  let main_v21 : IVec S_ 1 := andi main_v16 main_v20
  main_v21

def fn {F : FTy → Type} [FloatOps F] (main_arg0 : FVec F S2x8192x512 .bf16) (main_arg1 : FVec F S2x8192x128 .bf16) (main_arg2 : FVec F S2x8192x128 .bf16) (main_arg3 : FVec F S2x256x128 .bf16) (main_arg4 : FVec F S2x256x128 .bf16) (main_arg5 : FVec F S8x128 .f32) : IVec S_ 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  let main_v5 : FVec F S2x8192x128 .f32 := (extf .f32 · bitsLt_bf16_f32) main_arg1
  let main_v6 : FVec F S2x8192x128 .f32 := Host.absf main_v5
  let main_cst_0 : FVec F S_ .f32 := constant S_ .f32 0x7F800000#32
  let main_v7 : FVec F S2x8192x128 .f32 := broadcastInDim S2x8192x128 ![] bcast_S_S2x8192x128 main_cst_0
  let main_v8 : IVec S2x8192x128 1 := cmpf .olt main_v6 main_v7
  let main_c_1 : IVec S_ 1 := constantI S_ 1 1#1
  let main_v9 : IVec S_ 1 := (fun x v => Host.reduce IntOp.andi x v reducesTo_S2x8192x128_S_d0_1_2 h_S_) main_v8 main_c_1
  let main_v10 : IVec S_ 1 := andi main_v4 main_v9
  let main_v11 : FVec F S2x256x128 .f32 := (extf .f32 · bitsLt_bf16_f32) main_arg3
  let main_v12 : FVec F S2x256x128 .f32 := Host.absf main_v11
  let main_cst_2 : FVec F S_ .f32 := constant S_ .f32 0x7F800000#32
  let main_v13 : FVec F S2x256x128 .f32 := broadcastInDim S2x256x128 ![] bcast_S_S2x256x128 main_cst_2
  let main_v14 : IVec S2x256x128 1 := cmpf .olt main_v12 main_v13
  let main_c_3 : IVec S_ 1 := constantI S_ 1 1#1
  let main_v15 : IVec S_ 1 := (fun x v => Host.reduce IntOp.andi x v reducesTo_S2x256x128_S_d0_1_2 h_S_) main_v14 main_c_3
  let main_v16 : IVec S_ 1 := andi main_v10 main_v15
  let main_v17 : FVec F S8x128 .f32 := Host.absf main_arg5
  fn_part1 (F := F) main_v16 main_v17
-- ==== Pre_proj_finite.lean ====
abbrev S2x8192x1024 : Shape := ⟨3, ![2, 8192, 1024]⟩
abbrev S2x1x1024 : Shape := ⟨3, ![2, 1, 1024]⟩
abbrev S1024 : Shape := ⟨1, ![1024]⟩
abbrev S1024x4880 : Shape := ⟨2, ![1024, 4880]⟩
abbrev S16 : Shape := ⟨1, ![16]⟩
abbrev S64 : Shape := ⟨1, ![64]⟩
abbrev S_ : Shape := ⟨0, ![]⟩
abbrev S1024x640 : Shape := ⟨2, ![1024, 640]⟩

class Facts : Prop where
  bcast_S_S2x1x1024 : S_.BroadcastsInDim S2x1x1024 (![] : Fin 0 → Fin S2x1x1024.rank)
  reducesTo_S2x1x1024_S_d0_1_2 : S2x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  slices_S1024x4880_S1024x640_0_2064 : S1024x4880.Slices ![0, 2064] S1024x640
  bcast_S_S1024x640 : S_.BroadcastsInDim S1024x640 (![] : Fin 0 → Fin S1024x640.rank)
  reducesTo_S1024x640_S_d0_1 : S1024x640.ReducesTo [0, 1] S_

variable [Facts]

def fn_part1 {F : FTy → Type} [FloatOps F] (main_v13 : IVec S_ 1) (main_v15 : FVec F S1024x640 .f32) (main_v16 : FVec F S1024x640 .f32) : IVec S_ 1 :=
  let main_v17 : IVec S1024x640 1 := cmpf .olt main_v15 main_v16
  let main_c_5 : IVec S_ 1 := constantI S_ 1 1#1
  let main_v18 : IVec S_ 1 := (fun x v => Host.reduce IntOp.andi x v reducesTo_S1024x640_S_d0_1 h_S_) main_v17 main_c_5
  let main_v19 : IVec S_ 1 := andi main_v13 main_v18
  main_v19

def fn {F : FTy → Type} [FloatOps F] (main_arg0 : FVec F S2x8192x1024 .f32) (main_arg1 : FVec F S2x1x1024 .f32) (main_arg2 : FVec F S2x1x1024 .f32) (main_arg3 : FVec F S1024 .f32) (main_arg4 : FVec F S1024x4880 .f32) (main_arg5 : FVec F S16 .f32) (main_arg6 : FVec F S64 .f32) (main_arg7 : FVec F S64 .f32) : IVec S_ 1 :=
  let main_v0 : FVec F S2x1x1024 .f32 := Host.absf main_arg1
  let main_cst : FVec F S_ .f32 := constant S_ .f32 0x7F800000#32
  let main_v1 : FVec F S2x1x1024 .f32 := broadcastInDim S2x1x1024 ![] bcast_S_S2x1x1024 main_cst
  let main_v2 : IVec S2x1x1024 1 := cmpf .olt main_v0 main_v1
  let main_c : IVec S_ 1 := constantI S_ 1 1#1
  let main_v3 : IVec S_ 1 := (fun x v => Host.reduce IntOp.andi x v reducesTo_S2x1x1024_S_d0_1_2 h_S_) main_v2 main_c
  let main_v4 : FVec F S2x1x1024 .f32 := Host.absf main_arg2
  let main_cst_0 : FVec F S_ .f32 := constant S_ .f32 0x7F800000#32
  let main_v5 : FVec F S2x1x1024 .f32 := broadcastInDim S2x1x1024 ![] bcast_S_S2x1x1024 main_cst_0
  let main_v6 : IVec S2x1x1024 1 := cmpf .olt main_v4 main_v5
  let main_c_1 : IVec S_ 1 := constantI S_ 1 1#1
  let main_v7 : IVec S_ 1 := (fun x v => Host.reduce IntOp.andi x v reducesTo_S2x1x1024_S_d0_1_2 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x640 .f32 := (extractStridedSlice S1024x640 ![0, 2064] · slices_S1024x4880_S1024x640_0_2064) main_arg4
  let main_v15 : FVec F S1024x640 .f32 := Host.absf main_v14
  let main_cst_4 : FVec F S_ .f32 := constant S_ .f32 0x7F800000#32
  let main_v16 : FVec F S1024x640 .f32 := broadcastInDim S1024x640 ![] bcast_S_S1024x640 main_cst_4
  fn_part1 (F := F) main_v13 main_v15 main_v16
-- ==== Kernel.lean ====
abbrev S2x8192x512 : Shape := ⟨3, ![2, 8192, 512]⟩
abbrev S2x8192x128 : Shape := ⟨3, ![2, 8192, 128]⟩
abbrev S2x256x128 : Shape := ⟨3, ![2, 256, 128]⟩
abbrev S8x128 : Shape := ⟨2, ![8, 128]⟩
abbrev S2x128x512 : Shape := ⟨3, ![2, 128, 512]⟩
abbrev S2x128x128 : Shape := ⟨3, ![2, 128, 128]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S640x128 : Shape := ⟨2, ![640, 128]⟩
abbrev S640x256 : Shape := ⟨2, ![640, 256]⟩
abbrev S1024x128 : Shape := ⟨2, ![1024, 128]⟩
abbrev S1024x640 : Shape := ⟨2, ![1024, 640]⟩
abbrev S128x640 : Shape := ⟨2, ![128, 640]⟩
abbrev S128x256 : Shape := ⟨2, ![128, 256]⟩
abbrev S128 : Shape := ⟨1, ![128]⟩
abbrev S128x1 : Shape := ⟨2, ![128, 1]⟩
abbrev S1x1 : Shape := ⟨2, ![1, 1]⟩
abbrev S1024x256 : Shape := ⟨2, ![1024, 256]⟩

abbrev nBuf : Space → Nat
  | .hbm => 7
  | .vmem => 19
  | .smem => 0
  | _ => 0

abbrev bufTy : (tb : Table) → Fin (tcTables nBuf tb) → BufTy
  | .hbm, ⟨0, _⟩ => ⟨S2x8192x512, .bf16⟩
  | .hbm, ⟨1, _⟩ => ⟨S2x8192x128, .bf16⟩
  | .hbm, ⟨2, _⟩ => ⟨S2x8192x128, .bf16⟩
  | .hbm, ⟨3, _⟩ => ⟨S2x256x128, .bf16⟩
  | .hbm, ⟨4, _⟩ => ⟨S2x256x128, .bf16⟩
  | .hbm, ⟨5, _⟩ => ⟨S8x128, .f32⟩
  | .hbm, ⟨6, _⟩ => ⟨S2x8192x512, .bf16⟩
  | .local _ .vmem, ⟨0, _⟩ => ⟨S2x128x512, .bf16⟩
  | .local _ .vmem, ⟨1, _⟩ => ⟨S2x128x512, .bf16⟩
  | .local _ .vmem, ⟨2, _⟩ => ⟨S2x128x128, .bf16⟩
  | .local _ .vmem, ⟨3, _⟩ => ⟨S2x128x128, .bf16⟩
  | .local _ .vmem, ⟨4, _⟩ => ⟨S2x128x128, .bf16⟩
  | .local _ .vmem, ⟨5, _⟩ => ⟨S2x128x128, .bf16⟩
  | .local _ .vmem, ⟨6, _⟩ => ⟨S2x128x128, .bf16⟩
  | .local _ .vmem, ⟨7, _⟩ => ⟨S2x128x128, .bf16⟩
  | .local _ .vmem, ⟨8, _⟩ => ⟨S2x128x128, .bf16⟩
  | .local _ .vmem, ⟨9, _⟩ => ⟨S2x128x128, .bf16⟩
  | .local _ .vmem, ⟨10, _⟩ => ⟨S2x128x128, .bf16⟩
  | .local _ .vmem, ⟨11, _⟩ => ⟨S2x128x128, .bf16⟩
  | .local _ .vmem, ⟨12, _⟩ => ⟨S2x128x128, .bf16⟩
  | .local _ .vmem, ⟨13, _⟩ => ⟨S2x128x128, .bf16⟩
  | .local _ .vmem, ⟨14, _⟩ => ⟨S2x256x128, .bf16⟩
  | .local _ .vmem, ⟨15, _⟩ => ⟨S2x256x128, .bf16⟩
  | .local _ .vmem, ⟨16, _⟩ => ⟨S8x128, .f32⟩
  | .local _ .vmem, ⟨17, _⟩ => ⟨S2x128x512, .bf16⟩
  | .local _ .vmem, ⟨18, _⟩ => ⟨S2x128x512, .bf16⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x8192x512 : Shape := ⟨3, ![2, 8192, 512]⟩
abbrev S2x8192x128 : Shape := ⟨3, ![2, 8192, 128]⟩
abbrev S2x256x128 : Shape := ⟨3, ![2, 256, 128]⟩
abbrev S8x128 : Shape := ⟨2, ![8, 128]⟩
abbrev S2x64x128x4x2x64 : Shape := ⟨6, ![2, 64, 128, 4, 2, 64]⟩
abbrev S2x8192x2x64 : Shape := ⟨4, ![2, 8192, 2, 64]⟩
abbrev S2x256x2x64 : Shape := ⟨4, ![2, 256, 2, 64]⟩
abbrev S_ : Shape := ⟨0, ![]⟩
abbrev S2x8448x2x64 : Shape := ⟨4, ![2, 8448, 2, 64]⟩
abbrev S2x66x128x2x64 : Shape := ⟨5, ![2, 66, 128, 2, 64]⟩
abbrev S2x64x128x2x64 : Shape := ⟨5, ![2, 64, 128, 2, 64]⟩
abbrev S2x64x384x2x64 : Shape := ⟨5, ![2, 64, 384, 2, 64]⟩
abbrev S128 : Shape := ⟨1, ![128]⟩
abbrev S128x1 : Shape := ⟨2, ![128, 1]⟩
abbrev S384 : Shape := ⟨1, ![384]⟩
abbrev S1x384 : Shape := ⟨2, ![1, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S128x384 : Shape := ⟨2, ![128, 384]⟩
abbrev S1x128x384 : Shape := ⟨3, ![1, 128, 384]⟩
abbrev S64x128x384 : Shape := ⟨3, ![64, 128, 384]⟩
abbrev S2x64x2x384x128x4 : Shape := ⟨6, ![2, 64, 2, 384, 128, 4]⟩
abbrev S2x64x2x4x128x384 : Shape := ⟨6, ![2, 64, 2, 4, 128, 384]⟩
abbrev S1x64x1x1x128x384 : Shape := ⟨6, ![1, 64, 1, 1, 128, 384]⟩
abbrev S2x2x256x64x128x4 : Shape := ⟨6, ![2, 2, 256, 64, 128, 4]⟩
abbrev S2x64x2x4x128x256 : Shape := ⟨6, ![2, 64, 2, 4, 128, 256]⟩
abbrev S8x1 : Shape := ⟨2, ![8, 1]⟩
abbrev S8 : Shape := ⟨1, ![8]⟩
abbrev S4x2 : Shape := ⟨2, ![4, 2]⟩
abbrev S2x4 : Shape := ⟨2, ![2, 4]⟩
abbrev S2x4x1x1 : Shape := ⟨4, ![2, 4, 1, 1]⟩
abbrev S2x64x2x4x128x640 : Shape := ⟨6, ![2, 64, 2, 4, 128, 640]⟩
abbrev S2x64x2x4x128x1 : Shape := ⟨6, ![2, 64, 2, 4, 128, 1]⟩
abbrev S2x64x2x4x128x641 : Shape := ⟨6, ![2, 64, 2, 4, 128, 641]⟩
abbrev S2x64x2x4x128 : Shape := ⟨5, ![2, 64, 2, 4, 128]⟩
abbrev S2x64x2x64x4x128 : Shape := ⟨6, ![2, 64, 2, 64, 4, 128]⟩
abbrev S2x2x64x64x4x128 : Shape := ⟨6, ![2, 2, 64, 64, 4, 128]⟩

abbrev nBuf : Space → Nat
  | .hbm => 112
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x128, .bf16⟩
  | .hbm, ⟨2, _⟩ => ⟨S2x8192x128, .bf16⟩
  | .hbm, ⟨3, _⟩ => ⟨S2x256x128, .bf16⟩
  | .hbm, ⟨4, _⟩ => ⟨S2x256x128, .bf16⟩
  | .hbm, ⟨5, _⟩ => ⟨S8x128, .f32⟩
  | .hbm, ⟨6, _⟩ => ⟨S2x8192x512, .f32⟩
  | .hbm, ⟨7, _⟩ => ⟨S2x64x128x4x2x64, .f32⟩
  | .hbm, ⟨8, _⟩ => ⟨S2x8192x128, .f32⟩
  | .hbm, ⟨9, _⟩ => ⟨S2x8192x2x64, .f32⟩
  | .hbm, ⟨10, _⟩ => ⟨S2x8192x128, .f32⟩
  | .hbm, ⟨11, _⟩ => ⟨S2x8192x2x64, .f32⟩
  | .hbm, ⟨12, _⟩ => ⟨S2x256x128, .f32⟩
  | .hbm, ⟨13, _⟩ => ⟨S2x256x2x64, .f32⟩
  | .hbm, ⟨14, _⟩ => ⟨S2x256x128, .f32⟩
  | .hbm, ⟨15, _⟩ => ⟨S2x256x2x64, .f32⟩
  | .hbm, ⟨16, _⟩ => ⟨S_, .i32⟩
  | .hbm, ⟨17, _⟩ => ⟨S_, .f32⟩
  | .hbm, ⟨18, _⟩ => ⟨S2x8448x2x64, .f32⟩
  | .hbm, ⟨19, _⟩ => ⟨S2x66x128x2x64, .f32⟩
  | .hbm, ⟨20, _⟩ => ⟨S2x64x128x2x64, .f32⟩
  | .hbm, ⟨21, _⟩ => ⟨S2x64x128x2x64, .f32⟩
  | .hbm, ⟨22, _⟩ => ⟨S2x64x128x2x64, .f32⟩
  | .hbm, ⟨23, _⟩ => ⟨S2x64x384x2x64, .f32⟩
  | .hbm, ⟨24, _⟩ => ⟨S_, .i32⟩
  | .hbm, ⟨25, _⟩ => ⟨S_, .f32⟩
  | .hbm, ⟨26, _⟩ => ⟨S2x8448x2x64, .f32⟩
  | .hbm, ⟨27, _⟩ => ⟨S2x66x128x2x64, .f32⟩
  | .hbm, ⟨28, _⟩ => ⟨S2x64x128x2x64, .f32⟩
  | .hbm, ⟨29, _⟩ => ⟨S2x64x128x2x64, .f32⟩
  | .hbm, ⟨30, _⟩ => ⟨S2x64x128x2x64, .f32⟩
  | .hbm, ⟨31, _⟩ => ⟨S2x64x384x2x64, .f32⟩
  | .hbm, ⟨32, _⟩ => ⟨S128, .i32⟩
  | .hbm, ⟨33, _⟩ => ⟨S128x1, .i32⟩
  | .hbm, ⟨34, _⟩ => ⟨S384, .i32⟩
  | .hbm, ⟨35, _⟩ => ⟨S1x384, .i32⟩
  | .hbm, ⟨36, _⟩ => ⟨S64, .i32⟩
  | .hbm, ⟨37, _⟩ => ⟨S64x1x1, .i32⟩
  | .hbm, ⟨38, _⟩ => ⟨S_, .i32⟩
  | .hbm, ⟨39, _⟩ => ⟨S64x1x1, .i32⟩
  | .hbm, ⟨40, _⟩ => ⟨S64x1x1, .i32⟩
  | .hbm, ⟨41, _⟩ => ⟨S_, .i32⟩
  | .hbm, ⟨42, _⟩ => ⟨S64x1x1, .i32⟩
  | .hbm, ⟨43, _⟩ => ⟨S64x1x1, .i32⟩
  | .hbm, ⟨44, _⟩ => ⟨S1x1x384, .i32⟩
  | .hbm, ⟨45, _⟩ => ⟨S64x1x384, .i32⟩
  | .hbm, ⟨46, _⟩ => ⟨S64x1x384, .i32⟩
  | .hbm, ⟨47, _⟩ => ⟨S64x1x384, .i32⟩
  | .hbm, ⟨48, _⟩ => ⟨S_, .i32⟩
  | .hbm, ⟨49, _⟩ => ⟨S1x384, .i32⟩
  | .hbm, ⟨50, _⟩ => ⟨S1x384, .i32⟩
  | .hbm, ⟨51, _⟩ => ⟨S128x384, .i32⟩
  | .hbm, ⟨52, _⟩ => ⟨S128x384, .i32⟩
  | .hbm, ⟨53, _⟩ => ⟨S128x384, .i32⟩
  | .hbm, ⟨54, _⟩ => ⟨S128x384, .i32⟩
  | .hbm, ⟨55, _⟩ => ⟨S_, .i32⟩
  | .hbm, ⟨56, _⟩ => ⟨S128x384, .i32⟩
  | .hbm, ⟨57, _⟩ => ⟨S128x384, .i1⟩
  | .hbm, ⟨58, _⟩ => ⟨S1x128x384, .i1⟩
  | .hbm, ⟨59, _⟩ => ⟨S_, .i32⟩
  | .hbm, ⟨60, _⟩ => ⟨S64x1x384, .i32⟩
  | .hbm, ⟨61, _⟩ => ⟨S64x1x384, .i1⟩
  | .hbm, ⟨62, _⟩ => ⟨S64x128x384, .i1⟩
  | .hbm, ⟨63, _⟩ => ⟨S64x128x384, .i1⟩
  | .hbm, ⟨64, _⟩ => ⟨S64x128x384, .i1⟩
  | .hbm, ⟨65, _⟩ => ⟨S_, .i32⟩
  | .hbm, ⟨66, _⟩ => ⟨S64x1x384, .i32⟩
  | .hbm, ⟨67, _⟩ => ⟨S64x1x384, .i1⟩
  | .hbm, ⟨68, _⟩ => ⟨S64x128x384, .i1⟩
  | .hbm, ⟨69, _⟩ => ⟨S64x128x384, .i1⟩
  | .hbm, ⟨70, _⟩ => ⟨S2x64x2x384x128x4, .f32⟩
  | .hbm, ⟨71, _⟩ => ⟨S2x64x2x4x128x384, .f32⟩
  | .hbm, ⟨72, _⟩ => ⟨S1x64x1x1x128x384, .i1⟩
  | .hbm, ⟨73, _⟩ => ⟨S_, .f32⟩
  | .hbm, ⟨74, _⟩ => ⟨S_, .f32⟩
  | .hbm, ⟨75, _⟩ => ⟨S2x64x2x4x128x384, .i1⟩
  | .hbm, ⟨76, _⟩ => ⟨S2x64x2x4x128x384, .f32⟩
  | .hbm, ⟨77, _⟩ => ⟨S2x64x2x4x128x384, .f32⟩
  | .hbm, ⟨78, _⟩ => ⟨S2x2x256x64x128x4, .f32⟩
  | .hbm, ⟨79, _⟩ => ⟨S2x64x2x4x128x256, .f32⟩
  | .hbm, ⟨80, _⟩ => ⟨S8x1, .f32⟩
  | .hbm, ⟨81, _⟩ => ⟨S8, .f32⟩
  | .hbm, ⟨82, _⟩ => ⟨S4x2, .f32⟩
  | .hbm, ⟨83, _⟩ => ⟨S2x4, .f32⟩
  | .hbm, ⟨84, _⟩ => ⟨S2x4x1x1, .f32⟩
  | .hbm, ⟨85, _⟩ => ⟨S2x64x2x4x128x640, .f32⟩
  | .hbm, ⟨86, _⟩ => ⟨S2x64x2x4x128x1, .f32⟩
  | .hbm, ⟨87, _⟩ => ⟨S2x64x2x4x128x641, .f32⟩
  | .hbm, ⟨88, _⟩ => ⟨S_, .f32⟩
  | .hbm, ⟨89, _⟩ => ⟨S2x64x2x4x128, .f32⟩
  | .hbm, ⟨90, _⟩ => ⟨S_, .f32⟩
  | .hbm, ⟨91, _⟩ => ⟨S2x64x2x4x128, .f32⟩
  | .hbm, ⟨92, _⟩ => ⟨S2x64x2x4x128, .f32⟩
  | .hbm, ⟨93, _⟩ => ⟨S2x64x2x4x128x1, .f32⟩
  | .hbm, ⟨94, _⟩ => ⟨S2x64x2x4x128x641, .f32⟩
  | .hbm, ⟨95, _⟩ => ⟨S2x64x2x4x128x641, .f32⟩
  | .hbm, ⟨96, _⟩ => ⟨S2x64x2x4x128x641, .f32⟩
  | .hbm, ⟨97, _⟩ => ⟨S_, .f32⟩
  | .hbm, ⟨98, _⟩ => ⟨S2x64x2x4x128, .f32⟩
  | .hbm, ⟨99, _⟩ => ⟨S2x64x2x4x128x1, .f32⟩
  | .hbm, ⟨100, _⟩ => ⟨S2x64x2x4x128x641, .f32⟩
  | .hbm, ⟨101, _⟩ => ⟨S2x64x2x4x128x641, .f32⟩
  | .hbm, ⟨102, _⟩ => ⟨S2x64x2x4x128x640, .f32⟩
  | .hbm, ⟨103, _⟩ => ⟨S2x64x2x4x128x384, .f32⟩
  | .hbm, ⟨104, _⟩ => ⟨S2x64x2x4x128x256, .f32⟩
  | .hbm, ⟨105, _⟩ => ⟨S2x64x2x64x4x128, .f32⟩
  | .hbm, ⟨106, _⟩ => ⟨S2x64x128x4x2x64, .f32⟩
  | .hbm, ⟨107, _⟩ => ⟨S2x2x64x64x4x128, .f32⟩
  | .hbm, ⟨108, _⟩ => ⟨S2x64x128x4x2x64, .f32⟩
  | .hbm, ⟨109, _⟩ => ⟨S2x64x128x4x2x64, .f32⟩
  | .hbm, ⟨110, _⟩ => ⟨S2x8192x512, .f32⟩
  | .hbm, ⟨111, _⟩ => ⟨S2x8192x512, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_1 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_7 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_9 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Proj.lean ====
abbrev S2x8192x1024 : Shape := ⟨3, ![2, 8192, 1024]⟩
abbrev S2x1x1024 : Shape := ⟨3, ![2, 1, 1024]⟩
abbrev S1024 : Shape := ⟨1, ![1024]⟩
abbrev S1024x4880 : Shape := ⟨2, ![1024, 4880]⟩
abbrev S16 : Shape := ⟨1, ![16]⟩
abbrev S64 : Shape := ⟨1, ![64]⟩
abbrev S8 : Shape := ⟨1, ![8]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x128 : Shape := ⟨2, ![8192, 128]⟩
abbrev S1024x512 : Shape := ⟨2, ![1024, 512]⟩
abbrev S1024x16 : Shape := ⟨2, ![1024, 16]⟩
abbrev S1024x8x64 : Shape := ⟨3, ![1024, 8, 64]⟩
abbrev S8x1 : Shape := ⟨2, ![8, 1]⟩
abbrev S1024x128 : Shape := ⟨2, ![1024, 128]⟩
abbrev S1024x2432 : Shape := ⟨2, ![1024, 2432]⟩
abbrev S1x128 : Shape := ⟨2, ![1, 128]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S512x1 : Shape := ⟨2, ![512, 1]⟩
abbrev S512x512 : Shape := ⟨2, ![512, 512]⟩
abbrev S128x128 : Shape := ⟨2, ![128, 128]⟩
abbrev S1x1024 : Shape := ⟨2, ![1, 1024]⟩
abbrev S2x8192x512 : Shape := ⟨3, ![2, 8192, 512]⟩
abbrev S2x8192x128 : Shape := ⟨3, ![2, 8192, 128]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1x1024x128 : Shape := ⟨3, ![1, 1024, 128]⟩
abbrev S1024x1024 : Shape := ⟨2, ![1024, 1024]⟩
abbrev S1024x1 : Shape := ⟨2, ![1024, 1]⟩
abbrev S1024x1536 : Shape := ⟨2, ![1024, 1536]⟩

abbrev nBuf : Space → Nat
  | .hbm => 173
  | .vmem => 31
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024, .f32⟩
  | 4 => ⟨S1024x4880, .f32⟩
  | 5 => ⟨S16, .f32⟩
  | 6 => ⟨S64, .f32⟩
  | 7 => ⟨S64, .f32⟩
  | 8 => ⟨S8, .i32⟩
  | 9 => ⟨S128, .i32⟩
  | 10 => ⟨S128x1, .i32⟩
  | 11 => ⟨S128x64, .i32⟩
  | 12 => ⟨S8192, .i32⟩
  | 13 => ⟨S64, .i32⟩
  | 14 => ⟨S1x64, .i32⟩
  | 15 => ⟨S128x64, .i32⟩
  | 16 => ⟨S8192, .i32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S8192x1, .i32⟩
  | 26 => ⟨S8192x1, .f32⟩
  | 27 => ⟨S1x16, .f32⟩
  | 28 => ⟨S8192x16, .f32⟩
  | 29 => ⟨S8192x16, .f32⟩
  | 30 => ⟨S8192x16, .f32⟩
  | 31 => ⟨S8192x1, .i32⟩
  | 32 => ⟨S8192x1, .f32⟩
  | 33 => ⟨S1x16, .f32⟩
  | 34 => ⟨S8192x16, .f32⟩
  | 35 => ⟨S8192x16, .f32⟩
  | 36 => ⟨S8192x16, .f32⟩
  | 37 => ⟨S8192x32, .f32⟩
  | 38 => ⟨S8192x32, .f32⟩
  | 39 => ⟨S8192x32, .f32⟩
  | 40 => ⟨S8192x128, .f32⟩
  | 41 => ⟨S8192x32, .f32⟩
  | 42 => ⟨S8192x128, .f32⟩
  | 43 => ⟨S1024x512, .f32⟩
  | 44 => ⟨S1024x512, .f32⟩
  | 45 => ⟨S1024x512, .f32⟩
  | 46 => ⟨S1024x512, .f32⟩
  | 47 => ⟨S1024x16, .f32⟩
  | 48 => ⟨S1024x512, .f32⟩
  | 49 => ⟨S1024x8x64, .f32⟩
  | 50 => ⟨S_, .i32⟩
  | 51 => ⟨S8, .i32⟩
  | 52 => ⟨S8, .i1⟩
  | 53 => ⟨S_, .i32⟩
  | 54 => ⟨S8, .i32⟩
  | 55 => ⟨S8, .i32⟩
  | 56 => ⟨S8, .i32⟩
  | 57 => ⟨S8x1, .i32⟩
  | 58 => ⟨S1024x8x64, .f32⟩
  | 59 => ⟨S1024x512, .f32⟩
  | 60 => ⟨S1024x128, .f32⟩
  | 61 => ⟨S1024x128, .f32⟩
  | 62 => ⟨S_, .i32⟩
  | 63 => ⟨S_, .f32⟩
  | 64 => ⟨S1024x128, .f32⟩
  | 65 => ⟨S1024x2432, .f32⟩
  | 66 => ⟨S1024x2432, .bf16⟩
  | 67 => ⟨S_, .i32⟩
  | 68 => ⟨S_, .f32⟩
  | 69 => ⟨S128, .f32⟩
  | 70 => ⟨S1x128, .f32⟩
  | 71 => ⟨S1x64, .f32⟩
  | 72 => ⟨S8x64, .f32⟩
  | 73 => ⟨S512, .f32⟩
  | 74 => ⟨S1x512, .f32⟩
  | 75 => ⟨S1x64, .f32⟩
  | 76 => ⟨S2x64, .f32⟩
  | 77 => ⟨S128, .f32⟩
  | 78 => ⟨S1x128, .f32⟩
  | 79 => ⟨S512, .i32⟩
  | 80 => ⟨S512x1, .i32⟩
  | 81 => ⟨S_, .i32⟩
  | 82 => ⟨S_, .i32⟩
  | 83 => ⟨S512x1, .i32⟩
  | 84 => ⟨S512x1, .i32⟩
  | 85 => ⟨S512x1, .i32⟩
  | 86 => ⟨S_, .i32⟩
  | 87 => ⟨S512x1, .i32⟩
  | 88 => ⟨S512x1, .i1⟩
  | 89 => ⟨S512x1, .i32⟩
  | 90 => ⟨S512x1, .i32⟩
  | 91 => ⟨S_, .i32⟩
  | 92 => ⟨S512x1, .i32⟩
  | 93 => ⟨S512x1, .i1⟩
  | 94 => ⟨S512x1, .i1⟩
  | 95 => ⟨S_, .i32⟩
  | 96 => ⟨S512x1, .i32⟩
  | 97 => ⟨S512x1, .i32⟩
  | 98 => ⟨S512x1, .i32⟩
  | 99 => ⟨S1x512, .i32⟩
  | 100 => ⟨S_, .i32⟩
  | 101 => ⟨S_, .i32⟩
  | 102 => ⟨S1x512, .i32⟩
  | 103 => ⟨S1x512, .i32⟩
  | 104 => ⟨S1x512, .i32⟩
  | 105 => ⟨S_, .i32⟩
  | 106 => ⟨S1x512, .i32⟩
  | 107 => ⟨S1x512, .i1⟩
  | 108 => ⟨S1x512, .i32⟩
  | 109 => ⟨S1x512, .i32⟩
  | 110 => ⟨S_, .i32⟩
  | 111 => ⟨S1x512, .i32⟩
  | 112 => ⟨S1x512, .i1⟩
  | 113 => ⟨S1x512, .i1⟩
  | 114 => ⟨S_, .i32⟩
  | 115 => ⟨S1x512, .i32⟩
  | 116 => ⟨S1x512, .i32⟩
  | 117 => ⟨S1x512, .i32⟩
  | 118 => ⟨S512x512, .i32⟩
  | 119 => ⟨S512x512, .i32⟩
  | 120 => ⟨S512x512, .i1⟩
  | 121 => ⟨S512x512, .bf16⟩
  | 122 => ⟨S128, .i32⟩
  | 123 => ⟨S128x1, .i32⟩
  | 124 => ⟨S_, .i32⟩
  | 125 => ⟨S_, .i32⟩
  | 126 => ⟨S128x1, .i32⟩
  | 127 => ⟨S128x1, .i32⟩
  | _ => ⟨S2x8192x1024, .f32⟩

abbrev hbmTy0_1 (i : Nat) : BufTy := match i % 128 with
  | 0 => ⟨S128x1, .i32⟩
  | 1 => ⟨S_, .i32⟩
  | 2 => ⟨S128x1, .i32⟩
  | 3 => ⟨S128x1, .i1⟩
  | 4 => ⟨S128x1, .i32⟩
  | 5 => ⟨S128x1, .i32⟩
  | 6 => ⟨S_, .i32⟩
  | 7 => ⟨S128x1, .i32⟩
  | 8 => ⟨S128x1, .i1⟩
  | 9 => ⟨S128x1, .i1⟩
  | 10 => ⟨S_, .i32⟩
  | 11 => ⟨S128x1, .i32⟩
  | 12 => ⟨S128x1, .i32⟩
  | 13 => ⟨S128x1, .i32⟩
  | 14 => ⟨S1x128, .i32⟩
  | 15 => ⟨S_, .i32⟩
  | 16 => ⟨S_, .i32⟩
  | 17 => ⟨S1x128, .i32⟩
  | 18 => ⟨S1x128, .i32⟩
  | 19 => ⟨S1x128, .i32⟩
  | 20 => ⟨S_, .i32⟩
  | 21 => ⟨S1x128, .i32⟩
  | 22 => ⟨S1x128, .i1⟩
  | 23 => ⟨S1x128, .i32⟩
  | 24 => ⟨S1x128, .i32⟩
  | 25 => ⟨S_, .i32⟩
  | 26 => ⟨S1x128, .i32⟩
  | 27 => ⟨S1x128, .i1⟩
  | 28 => ⟨S1x128, .i1⟩
  | 29 => ⟨S_, .i32⟩
  | 30 => ⟨S1x128, .i32⟩
  | 31 => ⟨S1x128, .i32⟩
  | 32 => ⟨S1x128, .i32⟩
  | 33 => ⟨S128x128, .i32⟩
  | 34 => ⟨S128x128, .i32⟩
  | 35 => ⟨S128x128, .i1⟩
  | 36 => ⟨S128x128, .bf16⟩
  | 37 => ⟨S1x1024, .f32⟩
  | 38 => ⟨S2x8192x512, .bf16⟩
  | 39 => ⟨S2x8192x512, .bf16⟩
  | 40 => ⟨S2x8192x512, .bf16⟩
  | 41 => ⟨S2x8192x128, .f32⟩
  | 42 => ⟨S2x8192x512, .bf16⟩
  | 43 => ⟨S2x8192x128, .bf16⟩
  | 44 => ⟨S2x8192x128, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2432, .bf16⟩
  | .local _ .vmem, ⟨8, _⟩ => ⟨S1x128, .f32⟩
  | .local _ .vmem, ⟨9, _⟩ => ⟨S1x512, .f32⟩
  | .local _ .vmem, ⟨10, _⟩ => ⟨S1x128, .f32⟩
  | .local _ .vmem, ⟨11, _⟩ => ⟨S512x512, .bf16⟩
  | .local _ .vmem, ⟨12, _⟩ => ⟨S128x128, .bf16⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x128, .f32⟩
  | .local _ .vmem, ⟨24, _⟩ => ⟨S1x1024x128, .f32⟩
  | .local _ .vmem, ⟨25, _⟩ => ⟨S1x1024x512, .bf16⟩
  | .local _ .vmem, ⟨26, _⟩ => ⟨S1x1024x512, .bf16⟩
  | .local _ .vmem, ⟨27, _⟩ => ⟨S1x1024x128, .bf16⟩
  | .local _ .vmem, ⟨28, _⟩ => ⟨S1x1024x128, .bf16⟩
  | .local _ .vmem, ⟨29, _⟩ => ⟨S1x1024x128, .bf16⟩
  | .local _ .vmem, ⟨30, _⟩ => ⟨S1x1024x128, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_1 : Ref sig .tc := ⟨.hbm, 50, rfl⟩
abbrev main_v39 : Ref sig .tc := ⟨.hbm, 51, rfl⟩
abbrev main_v40 : Ref sig .tc := ⟨.hbm, 52, rfl⟩
abbrev main_c_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_3 : Ref sig .tc := ⟨.hbm, 62, rfl⟩
abbrev main_call0_v0 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_4 : Ref sig .tc := ⟨.hbm, 67, rfl⟩
abbrev main_call1_v0 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_5 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_c : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_0 : Ref sig .tc := ⟨.hbm, 95, rfl⟩
abbrev main_call2_v12 : Ref sig .tc := ⟨.hbm, 96, rfl⟩
abbrev main_call2_v13 : Ref sig .tc := ⟨.hbm, 97, rfl⟩
abbrev main_v64 : Ref sig .tc := ⟨.hbm, 98, rfl⟩
abbrev main_v65 : Ref sig .tc := ⟨.hbm, 99, rfl⟩
abbrev main_c_6 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_c : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_c_0 : Ref sig .tc := ⟨.hbm, 114, rfl⟩
abbrev main_call3_v12 : Ref sig .tc := ⟨.hbm, 115, rfl⟩
abbrev main_call3_v13 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_7 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_c : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_0 : Ref sig .tc := ⟨.hbm, 138, rfl⟩
abbrev main_call4_v12 : Ref sig .tc := ⟨.hbm, 139, rfl⟩
abbrev main_call4_v13 : Ref sig .tc := ⟨.hbm, 140, rfl⟩
abbrev main_v73 : Ref sig .tc := ⟨.hbm, 141, rfl⟩
abbrev main_v74 : Ref sig .tc := ⟨.hbm, 142, rfl⟩
abbrev main_c_8 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_c : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_0 : Ref sig .tc := ⟨.hbm, 157, rfl⟩
abbrev main_call5_v12 : Ref sig .tc := ⟨.hbm, 158, rfl⟩
abbrev main_call5_v13 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81_0 : Ref sig .tc := ⟨.hbm, 166, rfl⟩
abbrev main_v81_1 : Ref sig .tc := ⟨.hbm, 167, rfl⟩
abbrev main_v81_2 : Ref sig .tc := ⟨.hbm, 168, rfl⟩
abbrev main_v81_3 : Ref sig .tc := ⟨.hbm, 169, rfl⟩
abbrev main_v81_4 : Ref sig .tc := ⟨.hbm, 170, rfl⟩
abbrev main_v81_5 : Ref sig .tc := ⟨.hbm, 171, rfl⟩
abbrev main_v81_6 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjRefIdeal.lean ====
abbrev S2x8192x1024 : Shape := ⟨3, ![2, 8192, 1024]⟩
abbrev S2x1x1024 : Shape := ⟨3, ![2, 1, 1024]⟩
abbrev S1024 : Shape := ⟨1, ![1024]⟩
abbrev S1024x4880 : Shape := ⟨2, ![1024, 4880]⟩
abbrev S16 : Shape := ⟨1, ![16]⟩
abbrev S64 : Shape := ⟨1, ![64]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4880 : Shape := ⟨3, ![2, 8192, 4880]⟩
abbrev S2x8192x512 : Shape := ⟨3, ![2, 8192, 512]⟩
abbrev S2x8192x16 : Shape := ⟨3, ![2, 8192, 16]⟩
abbrev S1x1x16 : Shape := ⟨3, ![1, 1, 16]⟩
abbrev S2x8192x128 : Shape := ⟨3, ![2, 8192, 128]⟩
abbrev S2x8192x16x2x4 : Shape := ⟨5, ![2, 8192, 16, 2, 4]⟩
abbrev S2x8192x16x1x4 : Shape := ⟨5, ![2, 8192, 16, 1, 4]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x8x32 : Shape := ⟨4, ![2, 8192, 8, 32]⟩
abbrev S1x8192x1x32 : Shape := ⟨4, ![1, 8192, 1, 32]⟩
abbrev S2x8192x2x4x64 : Shape := ⟨5, ![2, 8192, 2, 4, 64]⟩
abbrev S2x8192x4x2x64 : Shape := ⟨5, ![2, 8192, 4, 2, 64]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x8192x2x32 : Shape := ⟨4, ![2, 8192, 2, 32]⟩

abbrev nBuf : Space → Nat
  | .hbm => 177
  | .vmem => 0
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024, .f32⟩
  | 4 => ⟨S1024x4880, .f32⟩
  | 5 => ⟨S16, .f32⟩
  | 6 => ⟨S64, .f32⟩
  | 7 => ⟨S64, .f32⟩
  | 8 => ⟨S128, .i32⟩
  | 9 => ⟨S128x1, .i32⟩
  | 10 => ⟨S128x64, .i32⟩
  | 11 => ⟨S8192, .i32⟩
  | 12 => ⟨S64, .i32⟩
  | 13 => ⟨S1x64, .i32⟩
  | 14 => ⟨S128x64, .i32⟩
  | 15 => ⟨S8192, .i32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S8192x1, .i32⟩
  | 25 => ⟨S8192x1, .f32⟩
  | 26 => ⟨S1x16, .f32⟩
  | 27 => ⟨S8192x16, .f32⟩
  | 28 => ⟨S8192x16, .f32⟩
  | 29 => ⟨S8192x16, .f32⟩
  | 30 => ⟨S8192x1, .i32⟩
  | 31 => ⟨S8192x1, .f32⟩
  | 32 => ⟨S1x16, .f32⟩
  | 33 => ⟨S8192x16, .f32⟩
  | 34 => ⟨S8192x16, .f32⟩
  | 35 => ⟨S8192x16, .f32⟩
  | 36 => ⟨S8192x32, .f32⟩
  | 37 => ⟨S8192x32, .f32⟩
  | 38 => ⟨S8192x32, .f32⟩
  | 39 => ⟨S2x8192x1024, .f32⟩
  | 40 => ⟨S_, .f32⟩
  | 41 => ⟨S2x8192, .f32⟩
  | 42 => ⟨S2x8192x1, .f32⟩
  | 43 => ⟨S_, .f32⟩
  | 44 => ⟨S2x8192x1, .f32⟩
  | 45 => ⟨S2x8192x1, .f32⟩
  | 46 => ⟨S_, .f32⟩
  | 47 => ⟨S2x8192x1, .f32⟩
  | 48 => ⟨S2x8192x1, .f32⟩
  | 49 => ⟨S2x8192x1, .f32⟩
  | 50 => ⟨S2x8192x1024, .f32⟩
  | 51 => ⟨S2x8192x1024, .f32⟩
  | 52 => ⟨S1x1x1024, .f32⟩
  | 53 => ⟨S2x8192x1024, .f32⟩
  | 54 => ⟨S2x8192x1024, .f32⟩
  | 55 => ⟨S_, .f32⟩
  | 56 => ⟨S2x1x1024, .f32⟩
  | 57 => ⟨S2x1x1024, .f32⟩
  | 58 => ⟨S2x8192x1024, .f32⟩
  | 59 => ⟨S2x8192x1024, .f32⟩
  | 60 => ⟨S2x8192x1024, .f32⟩
  | 61 => ⟨S2x8192x1024, .f32⟩
  | 62 => ⟨S2x8192x4880, .f32⟩
  | 63 => ⟨S2x8192x512, .f32⟩
  | 64 => ⟨S2x8192x512, .f32⟩
  | 65 => ⟨S_, .f32⟩
  | 66 => ⟨S2x8192x512, .f32⟩
  | 67 => ⟨S2x8192x512, .f32⟩
  | 68 => ⟨S2x8192x512, .f32⟩
  | 69 => ⟨S2x8192x16, .f32⟩
  | 70 => ⟨S1x1x16, .f32⟩
  | 71 => ⟨S2x8192x16, .f32⟩
  | 72 => ⟨S2x8192x16, .f32⟩
  | 73 => ⟨S_, .i32⟩
  | 74 => ⟨S_, .f32⟩
  | 75 => ⟨S2x8192x128, .f32⟩
  | 76 => ⟨S2x8192x16x2x4, .f32⟩
  | 77 => ⟨S2x8192x16x1x4, .f32⟩
  | 78 => ⟨S2x8192x16x1x4, .f32⟩
  | 79 => ⟨S2x8192x16x1x4, .f32⟩
  | 80 => ⟨S_, .f32⟩
  | 81 => ⟨S2x8192x16x1x4, .f32⟩
  | 82 => ⟨S2x8192x16x1x4, .f32⟩
  | 83 => ⟨S2x8192x16x1x4, .f32⟩
  | 84 => ⟨S2x8192x16x1x4, .f32⟩
  | 85 => ⟨S2x8192x16x1x4, .i1⟩
  | 86 => ⟨S2x8192x16x1x4, .f32⟩
  | 87 => ⟨S2x8192x16x1x4, .f32⟩
  | 88 => ⟨S2x8192x16x1x4, .f32⟩
  | 89 => ⟨S2x8192x16x1x4, .f32⟩
  | 90 => ⟨S2x8192x16x1x4, .f32⟩
  | 91 => ⟨S2x8192x16x1x4, .f32⟩
  | 92 => ⟨S2x8192x16x1x4, .f32⟩
  | 93 => ⟨S2x8192x16x1x4, .f32⟩
  | 94 => ⟨S2x8192x16x1x4, .f32⟩
  | 95 => ⟨S2x8192x16x2x4, .f32⟩
  | 96 => ⟨S2x8192x512, .f32⟩
  | 97 => ⟨S2x8192x8x64, .f32⟩
  | 98 => ⟨S2x8192x8x64, .f32⟩
  | 99 => ⟨S_, .f32⟩
  | 100 => ⟨S2x8192x8, .f32⟩
  | 101 => ⟨S2x8192x8x1, .f32⟩
  | 102 => ⟨S_, .f32⟩
  | 103 => ⟨S2x8192x8x1, .f32⟩
  | 104 => ⟨S2x8192x8x1, .f32⟩
  | 105 => ⟨S_, .f32⟩
  | 106 => ⟨S2x8192x8x1, .f32⟩
  | 107 => ⟨S2x8192x8x1, .f32⟩
  | 108 => ⟨S2x8192x8x1, .f32⟩
  | 109 => ⟨S2x8192x8x64, .f32⟩
  | 110 => ⟨S2x8192x8x64, .f32⟩
  | 111 => ⟨S1x1x1x64, .f32⟩
  | 112 => ⟨S2x8192x8x64, .f32⟩
  | 113 => ⟨S2x8192x8x64, .f32⟩
  | 114 => ⟨S2x8192x8x32, .f32⟩
  | 115 => ⟨S2x8192x8x32, .f32⟩
  | 116 => ⟨S1x8192x1x32, .f32⟩
  | 117 => ⟨S1x8192x1x32, .f32⟩
  | 118 => ⟨S2x8192x8x32, .f32⟩
  | 119 => ⟨S2x8192x8x32, .f32⟩
  | 120 => ⟨S2x8192x8x32, .f32⟩
  | 121 => ⟨S2x8192x8x32, .f32⟩
  | 122 => ⟨S2x8192x8x32, .f32⟩
  | 123 => ⟨S2x8192x8x32, .f32⟩
  | 124 => ⟨S2x8192x8x32, .f32⟩
  | 125 => ⟨S2x8192x8x32, .f32⟩
  | 126 => ⟨S2x8192x8x32, .f32⟩
  | 127 => ⟨S2x8192x8x32, .f32⟩
  | _ => ⟨S2x8192x1024, .f32⟩

abbrev hbmTy0_1 (i : Nat) : BufTy := match i % 128 with
  | 0 => ⟨S2x8192x8x64, .f32⟩
  | 1 => ⟨S2x8192x2x4x64, .f32⟩
  | 2 => ⟨S2x8192x4x2x64, .f32⟩
  | 3 => ⟨S_, .f32⟩
  | 4 => ⟨S2x8192x4x2x64, .f32⟩
  | 5 => ⟨S2x8192x4x2x64, .f32⟩
  | 6 => ⟨S2x8192x128, .f32⟩
  | 7 => ⟨S2x8192x2x64, .f32⟩
  | 8 => ⟨S2x8192x2x64, .f32⟩
  | 9 => ⟨S_, .f32⟩
  | 10 => ⟨S2x8192x2, .f32⟩
  | 11 => ⟨S2x8192x2x1, .f32⟩
  | 12 => ⟨S_, .f32⟩
  | 13 => ⟨S2x8192x2x1, .f32⟩
  | 14 => ⟨S2x8192x2x1, .f32⟩
  | 15 => ⟨S_, .f32⟩
  | 16 => ⟨S2x8192x2x1, .f32⟩
  | 17 => ⟨S2x8192x2x1, .f32⟩
  | 18 => ⟨S2x8192x2x1, .f32⟩
  | 19 => ⟨S2x8192x2x64, .f32⟩
  | 20 => ⟨S2x8192x2x64, .f32⟩
  | 21 => ⟨S1x1x1x64, .f32⟩
  | 22 => ⟨S2x8192x2x64, .f32⟩
  | 23 => ⟨S2x8192x2x64, .f32⟩
  | 24 => ⟨S2x8192x2x32, .f32⟩
  | 25 => ⟨S2x8192x2x32, .f32⟩
  | 26 => ⟨S1x8192x1x32, .f32⟩
  | 27 => ⟨S1x8192x1x32, .f32⟩
  | 28 => ⟨S2x8192x2x32, .f32⟩
  | 29 => ⟨S2x8192x2x32, .f32⟩
  | 30 => ⟨S2x8192x2x32, .f32⟩
  | 31 => ⟨S2x8192x2x32, .f32⟩
  | 32 => ⟨S2x8192x2x32, .f32⟩
  | 33 => ⟨S2x8192x2x32, .f32⟩
  | 34 => ⟨S2x8192x2x32, .f32⟩
  | 35 => ⟨S2x8192x2x32, .f32⟩
  | 36 => ⟨S2x8192x2x32, .f32⟩
  | 37 => ⟨S2x8192x2x32, .f32⟩
  | 38 => ⟨S2x8192x2x64, .f32⟩
  | 39 => ⟨S2x8192x128, .f32⟩
  | 40 => ⟨S2x8192x512, .bf16⟩
  | 41 => ⟨S2x8192x512, .bf16⟩
  | 42 => ⟨S2x8192x512, .bf16⟩
  | 43 => ⟨S2x8192x128, .f32⟩
  | 44 => ⟨S2x8192x512, .f32⟩
  | 45 => ⟨S2x8192x512, .bf16⟩
  | 46 => ⟨S2x8192x128, .f32⟩
  | 47 => ⟨S2x8192x128, .bf16⟩
  | 48 => ⟨S2x8192x128, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c : Ref sig .tc := ⟨.hbm, 73, rfl⟩
abbrev main_call0_v0 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call1_v0 : Ref sig .tc := ⟨.hbm, 79, rfl⟩
abbrev main_call1_call0_cst : Ref sig .tc := ⟨.hbm, 80, rfl⟩
abbrev main_call1_call0_v0 : Ref sig .tc := ⟨.hbm, 81, rfl⟩
abbrev main_call1_call0_v1 : Ref sig .tc := ⟨.hbm, 82, rfl⟩
abbrev main_call1_call0_v2 : Ref sig .tc := ⟨.hbm, 83, rfl⟩
abbrev main_call1_call0_v3 : Ref sig .tc := ⟨.hbm, 84, rfl⟩
abbrev main_call1_call0_v4 : Ref sig .tc := ⟨.hbm, 85, rfl⟩
abbrev main_call1_call0_v5 : Ref sig .tc := ⟨.hbm, 86, rfl⟩
abbrev main_call1_call0_v6 : Ref sig .tc := ⟨.hbm, 87, rfl⟩
abbrev main_call1_call0_v7 : Ref sig .tc := ⟨.hbm, 88, rfl⟩
abbrev main_call1_call0_v8 : Ref sig .tc := ⟨.hbm, 89, rfl⟩
abbrev main_call1_call0_v9 : Ref sig .tc := ⟨.hbm, 90, rfl⟩
abbrev main_call1_call0_v10 : Ref sig .tc := ⟨.hbm, 91, rfl⟩
abbrev main_call1_call0_v11 : Ref sig .tc := ⟨.hbm, 92, rfl⟩
abbrev main_call1_v1 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_6 : Ref sig .tc := ⟨.hbm, 99, rfl⟩
abbrev main_v67 : Ref sig .tc := ⟨.hbm, 100, rfl⟩
abbrev main_v68 : Ref sig .tc := ⟨.hbm, 101, rfl⟩
abbrev main_cst_7 : Ref sig .tc := ⟨.hbm, 102, rfl⟩
abbrev main_v69 : Ref sig .tc := ⟨.hbm, 103, rfl⟩
abbrev main_v70 : Ref sig .tc := ⟨.hbm, 104, rfl⟩
abbrev main_cst_8 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_9 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_10 : Ref sig .tc := ⟨.hbm, 137, rfl⟩
abbrev main_v101 : Ref sig .tc := ⟨.hbm, 138, rfl⟩
abbrev main_v102 : Ref sig .tc := ⟨.hbm, 139, rfl⟩
abbrev main_cst_11 : Ref sig .tc := ⟨.hbm, 140, rfl⟩
abbrev main_v103 : Ref sig .tc := ⟨.hbm, 141, rfl⟩
abbrev main_v104 : Ref sig .tc := ⟨.hbm, 142, rfl⟩
abbrev main_cst_12 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩

abbrev nD : Nat := 1
abbrev τ : Topo := Topo.v7x

variable {F : FTy → Type} [FloatOps F]
-- ==== Merge.lean ====
abbrev S2x8192x1024 : Shape := ⟨3, ![2, 8192, 1024]⟩
abbrev S2x1x1024 : Shape := ⟨3, ![2, 1, 1024]⟩
abbrev S1024 : Shape := ⟨1, ![1024]⟩
abbrev S2x8192x512 : Shape := ⟨3, ![2, 8192, 512]⟩
abbrev S1024x4880 : Shape := ⟨2, ![1024, 4880]⟩
abbrev S512 : Shape := ⟨1, ![512]⟩
abbrev S512x1024 : Shape := ⟨2, ![512, 1024]⟩
abbrev S1024x1024 : Shape := ⟨2, ![1024, 1024]⟩
abbrev S8 : Shape := ⟨1, ![8]⟩
abbrev S1024x512 : Shape := ⟨2, ![1024, 512]⟩
abbrev S1024x2048 : Shape := ⟨2, ![1024, 2048]⟩
abbrev S1024x2560 : Shape := ⟨2, ![1024, 2560]⟩
abbrev S1x1024 : Shape := ⟨2, ![1, 1024]⟩
abbrev S8x64x1024 : Shape := ⟨3, ![8, 64, 1024]⟩
abbrev S_ : Shape := ⟨0, ![]⟩
abbrev S8x1 : Shape := ⟨2, ![8, 1]⟩
abbrev S1x512 : Shape := ⟨2, ![1, 512]⟩
abbrev S1x512x1024 : Shape := ⟨3, ![1, 512, 1024]⟩
abbrev S1x1x1024 : Shape := ⟨3, ![1, 1, 1024]⟩
abbrev S1x512x512 : Shape := ⟨3, ![1, 512, 512]⟩
abbrev S512x1 : Shape := ⟨2, ![512, 1]⟩
abbrev S512x2560 : Shape := ⟨2, ![512, 2560]⟩
abbrev S512x512 : Shape := ⟨2, ![512, 512]⟩
abbrev S512x128 : Shape := ⟨2, ![512, 128]⟩

abbrev nBuf : Space → Nat
  | .hbm => 38
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S2x1x1024, .f32⟩
  | .hbm, ⟨5, _⟩ => ⟨S2x8192x512, .f32⟩
  | .hbm, ⟨6, _⟩ => ⟨S2x8192x512, .f32⟩
  | .hbm, ⟨7, _⟩ => ⟨S2x8192x512, .bf16⟩
  | .hbm, ⟨8, _⟩ => ⟨S1024x4880, .f32⟩
  | .hbm, ⟨9, _⟩ => ⟨S512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S8, .i32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x2048, .f32⟩
  | .hbm, ⟨19, _⟩ => ⟨S1024x2560, .f32⟩
  | .hbm, ⟨20, _⟩ => ⟨S1024x2560, .bf16⟩
  | .hbm, ⟨21, _⟩ => ⟨S1x1024, .f32⟩
  | .hbm, ⟨22, _⟩ => ⟨S8x64x1024, .f32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S8x1, .i32⟩
  | .hbm, ⟨31, _⟩ => ⟨S8x64x1024, .f32⟩
  | .hbm, ⟨32, _⟩ => ⟨S512x1024, .f32⟩
  | .hbm, ⟨33, _⟩ => ⟨S512x1024, .bf16⟩
  | .hbm, ⟨34, _⟩ => ⟨S1x512, .f32⟩
  | .hbm, ⟨35, _⟩ => ⟨S512x1024, .bf16⟩
  | .hbm, ⟨36, _⟩ => ⟨S1024x1024, .bf16⟩
  | .hbm, ⟨37, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .bf16⟩
  | .local _ .vmem, ⟨14, _⟩ => ⟨S1x512x512, .bf16⟩
  | .local _ .vmem, ⟨15, _⟩ => ⟨S1024x2560, .bf16⟩
  | .local _ .vmem, ⟨16, _⟩ => ⟨S1x512, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x512x1024, .f32⟩
  | .local _ .vmem, ⟨21, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S2x8192x1024 : Shape := ⟨3, ![2, 8192, 1024]⟩
abbrev S2x1x1024 : Shape := ⟨3, ![2, 1, 1024]⟩
abbrev S1024 : Shape := ⟨1, ![1024]⟩
abbrev S2x8192x512 : Shape := ⟨3, ![2, 8192, 512]⟩
abbrev S1024x4880 : Shape := ⟨2, ![1024, 4880]⟩
abbrev S512 : Shape := ⟨1, ![512]⟩
abbrev S512x1024 : Shape := ⟨2, ![512, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4880 : Shape := ⟨3, ![2, 8192, 4880]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x512 : Shape := ⟨3, ![1, 1, 512]⟩
abbrev S2x8192x4x2x64 : Shape := ⟨5, ![2, 8192, 4, 2, 64]⟩
abbrev S2x8192x2x4x64 : Shape := ⟨5, ![2, 8192, 2, 4, 64]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S2x1x1024, .f32⟩
  | .hbm, ⟨5, _⟩ => ⟨S2x8192x512, .f32⟩
  | .hbm, ⟨6, _⟩ => ⟨S2x8192x512, .f32⟩
  | .hbm, ⟨7, _⟩ => ⟨S2x8192x512, .bf16⟩
  | .hbm, ⟨8, _⟩ => ⟨S1024x4880, .f32⟩
  | .hbm, ⟨9, _⟩ => ⟨S512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x4880, .f32⟩
  | .hbm, ⟨37, _⟩ => ⟨S2x8192x512, .f32⟩
  | .hbm, ⟨38, _⟩ => ⟨S2x8192x1024, .f32⟩
  | .hbm, ⟨39, _⟩ => ⟨S2x8192x1024, .f32⟩
  | .hbm, ⟨40, _⟩ => ⟨S2x8192x512, .f32⟩
  | .hbm, ⟨41, _⟩ => ⟨S2x8192x4x128, .f32⟩
  | .hbm, ⟨42, _⟩ => ⟨S2x8192x4x128, .f32⟩
  | .hbm, ⟨43, _⟩ => ⟨S_, .f32⟩
  | .hbm, ⟨44, _⟩ => ⟨S2x8192x4, .f32⟩
  | .hbm, ⟨45, _⟩ => ⟨S2x8192x4x1, .f32⟩
  | .hbm, ⟨46, _⟩ => ⟨S_, .f32⟩
  | .hbm, ⟨47, _⟩ => ⟨S2x8192x4x1, .f32⟩
  | .hbm, ⟨48, _⟩ => ⟨S2x8192x4x1, .f32⟩
  | .hbm, ⟨49, _⟩ => ⟨S_, .f32⟩
  | .hbm, ⟨50, _⟩ => ⟨S2x8192x4x1, .f32⟩
  | .hbm, ⟨51, _⟩ => ⟨S2x8192x4x1, .f32⟩
  | .hbm, ⟨52, _⟩ => ⟨S2x8192x4x1, .f32⟩
  | .hbm, ⟨53, _⟩ => ⟨S2x8192x4x128, .f32⟩
  | .hbm, ⟨54, _⟩ => ⟨S2x8192x4x128, .f32⟩
  | .hbm, ⟨55, _⟩ => ⟨S2x8192x512, .f32⟩
  | .hbm, ⟨56, _⟩ => ⟨S1x1x512, .f32⟩
  | .hbm, ⟨57, _⟩ => ⟨S2x8192x512, .f32⟩
  | .hbm, ⟨58, _⟩ => ⟨S2x8192x512, .f32⟩
  | .hbm, ⟨59, _⟩ => ⟨S2x8192x512, .f32⟩
  | .hbm, ⟨60, _⟩ => ⟨S2x8192x512, .f32⟩
  | .hbm, ⟨61, _⟩ => ⟨S_, .f32⟩
  | .hbm, ⟨62, _⟩ => ⟨S2x8192x512, .f32⟩
  | .hbm, ⟨63, _⟩ => ⟨S2x8192x512, .f32⟩
  | .hbm, ⟨64, _⟩ => ⟨S_, .f32⟩
  | .hbm, ⟨65, _⟩ => ⟨S2x8192x512, .f32⟩
  | .hbm, ⟨66, _⟩ => ⟨S2x8192x512, .f32⟩
  | .hbm, ⟨67, _⟩ => ⟨S2x8192x512, .f32⟩
  | .hbm, ⟨68, _⟩ => ⟨S2x8192x512, .f32⟩
  | .hbm, ⟨69, _⟩ => ⟨S2x8192x4x2x64, .f32⟩
  | .hbm, ⟨70, _⟩ => ⟨S2x8192x2x4x64, .f32⟩
  | .hbm, ⟨71, _⟩ => ⟨S2x8192x512, .f32⟩
  | .hbm, ⟨72, _⟩ => ⟨S2x8192x1024, .f32⟩
  | .hbm, ⟨73, _⟩ => ⟨S2x8192x1024, .f32⟩
  | .hbm, ⟨74, _⟩ => ⟨S_, .f32⟩
  | .hbm, ⟨75, _⟩ => ⟨S2x8192x1024, .f32⟩
  | .hbm, ⟨76, _⟩ => ⟨S2x8192x1024, .f32⟩
  | .hbm, ⟨77, _⟩ => ⟨S_, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S_, .f32⟩
  | .hbm, ⟨85, _⟩ => ⟨S2x8192x1024, .f32⟩
  | .hbm, ⟨86, _⟩ => ⟨S2x8192x1024, .f32⟩
  | .hbm, ⟨87, _⟩ => ⟨S_, .f32⟩
  | .hbm, ⟨88, _⟩ => ⟨S2x8192x1024, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S2x8192x1024, .f32⟩
  | .hbm, ⟨95, _⟩ => ⟨S2x8192x1024, .f32⟩
  | .hbm, ⟨96, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== PQuery.lean ====
abbrev S2x8192x1024 : Shape := ⟨3, ![2, 8192, 1024]⟩
abbrev S2x1x1024 : Shape := ⟨3, ![2, 1, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S1x1024 : Shape := ⟨2, ![1, 1024]⟩
abbrev S2x16x128x8192 : Shape := ⟨4, ![2, 16, 128, 8192]⟩
abbrev S1x1024x1024 : Shape := ⟨3, ![1, 1024, 1024]⟩
abbrev S1x1x1024 : Shape := ⟨3, ![1, 1, 1024]⟩
abbrev S1x16x128x1024 : Shape := ⟨4, ![1, 16, 128, 1024]⟩
abbrev S1024x1024 : Shape := ⟨2, ![1024, 1024]⟩
abbrev S1024x1 : Shape := ⟨2, ![1024, 1]⟩
abbrev S1x128x128 : Shape := ⟨3, ![1, 128, 128]⟩
abbrev S128x128 : Shape := ⟨2, ![128, 128]⟩
abbrev S1024x128 : Shape := ⟨2, ![1024, 128]⟩
abbrev S128x1024 : Shape := ⟨2, ![128, 1024]⟩
abbrev S1x1x128x1024 : Shape := ⟨4, ![1, 1, 128, 1024]⟩

abbrev nBuf : Space → Nat
  | .hbm => 12
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x2048, .f32⟩
  | .hbm, ⟨5, _⟩ => ⟨S8x2x128x128, .f32⟩
  | .hbm, ⟨6, _⟩ => ⟨S16x128x128, .f32⟩
  | .hbm, ⟨7, _⟩ => ⟨S16x128x128, .bf16⟩
  | .hbm, ⟨8, _⟩ => ⟨S1x1024, .f32⟩
  | .hbm, ⟨9, _⟩ => ⟨S1024x2048, .bf16⟩
  | .hbm, ⟨10, _⟩ => ⟨S2x8192x1024, .bf16⟩
  | .hbm, ⟨11, _⟩ => ⟨S2x16x128x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S16x128x128, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x16x128x1024, .f32⟩
  | .local _ .vmem, ⟨12, _⟩ => ⟨S1x16x128x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PQueryRefIdeal.lean ====
abbrev S2x8192x1024 : Shape := ⟨3, ![2, 8192, 1024]⟩
abbrev S2x1x1024 : Shape := ⟨3, ![2, 1, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8192x8x2x128 : Shape := ⟨5, ![2, 8192, 8, 2, 128]⟩
abbrev S8x2x128x2x8192 : Shape := ⟨5, ![8, 2, 128, 2, 8192]⟩
abbrev S2x8x2x128x8192 : Shape := ⟨5, ![2, 8, 2, 128, 8192]⟩
abbrev S2x16x128x8192 : Shape := ⟨4, ![2, 16, 128, 8192]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x2048, .f32⟩
  | .hbm, ⟨5, _⟩ => ⟨S8x2x128x128, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x2048, .f32⟩
  | .hbm, ⟨30, _⟩ => ⟨S2x8192x8x2x128, .f32⟩
  | .hbm, ⟨31, _⟩ => ⟨S8x2x128x2x8192, .f32⟩
  | .hbm, ⟨32, _⟩ => ⟨S2x8x2x128x8192, .f32⟩
  | .hbm, ⟨33, _⟩ => ⟨S2x8192x1024, .bf16⟩
  | .hbm, ⟨34, _⟩ => ⟨S2x16x128x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.AttnMath.lean ====
module

public import proofs.«01_k».proof.Defs
public import Idealize.ShloMosaic.Lib.Pointwise
public import Idealize.ShloMosaic.Lib.WordCmp

@[expose] public section

set_option maxRecDepth 16384

noncomputable section

open Idealize.ShloMosaic

namespace Cert.AttnMath

/-! ## Real values among the extended reals -/

/-- A value that is neither infinity. -/
def IsReal (x : EReal) : Prop := ∃ r : ℝ, x = (r : EReal)

theorem isReal_zero : IsReal 0 := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A sum of real values is real. -/
theorem isReal_sum {ι : Type} (s : Finset ι) (f : ι → EReal) (h : ∀ x ∈ s, IsReal (f x)) : IsReal (∑ x ∈ s, f x) := by
  classical
  induction s using Finset.induction_on with
  | empty => exact ⟨0, by simp⟩
  | insert a s ha ih =>
    rw [Finset.sum_insert ha]
    exact (h a (Finset.mem_insert_self a s)).add (ih fun x hx => h x (Finset.mem_insert_of_mem hx))

/-- A value strictly between the infinities is real. -/
theorem isReal_of_lt {x : EReal} (h1 : ⊥ < x) (h2 : x < ⊤) : IsReal x :=
  ⟨x.toReal, (EReal.coe_toReal h2.ne h1.ne').symm⟩

/-- A real value lies strictly between the infinities. -/
theorem IsReal.lt_top {x : EReal} (h : IsReal x) : x < ⊤ := by
  obtain ⟨r, rfl⟩ := h
  exact EReal.coe_lt_top r
theorem IsReal.bot_lt {x : EReal} (h : IsReal x) : ⊥ < x := by
  obtain ⟨r, rfl⟩ := h
  exact EReal.bot_lt_coe r

/-! ## A nonnegative real factor distributes over a sum -/

/-- A sum times a nonnegative factor below infinity is the sum of the products. -/
theorem sum_mul_of_nonneg {ι : Type} (s : Finset ι) (f : ι → EReal) {c : EReal} (h0 : 0 ≤ c) (h1 : c ≠ ⊤) :
    (∑ x ∈ s, f x) * c = ∑ x ∈ s, f x * c := by
  classical
  induction s using Finset.induction_on with
  | empty => simp
  | insert a s ha ih =>
    rw [Finset.sum_insert ha, Finset.sum_insert ha, EReal.right_distrib_of_nonneg_of_ne_top h0 h1, ih]

/-! ## The softmax with a sink -/

section softmax
variable (w : Fin 640 → EReal) (s : EReal)

/-- The largest of the logits and the sink's. -/
def top : EReal := max (Finset.univ.sup w) s

/-- The logits with the sink's after them. -/
def withSink (k : Fin 641) : EReal := if h : k.val < 640 then w ⟨k.val, h⟩ else s

/-- The sum of the exponentials, the sink's among them. -/
def den : EReal := ∑ k : Fin 641, Ideal.exp (withSink w s k - top w s)

/-- The largest of the logits with the sink's is the larger of the logits' largest and the sink's. -/
theorem sup_withSink : Finset.univ.sup (withSink w s) = top w s := by
  apply le_antisymm
  · refine Finset.sup_le fun k _ => ?_
    unfold withSink
    split
    · exact le_max_of_le_left (Finset.le_sup (f := w) (Finset.mem_univ _))
    · exact le_max_right _ _
  · refine max_le (Finset.sup_le fun x _ => ?_) ?_
    · refine le_trans (le_of_eq ?_) (Finset.le_sup (f := withSink w s) (Finset.mem_univ (⟨x.val, by omega⟩ : Fin 641)))
      unfold withSink
      rw [dif_pos x.isLt]
    · refine le_trans (le_of_eq ?_) (Finset.le_sup (f := withSink w s) (Finset.mem_univ (⟨640, by omega⟩ : Fin 641)))
      unfold withSink
      rw [dif_neg (by show ¬ 640 < 640; omega)]

variable {w s} (hw : ∀ x, w x = ⊥ ∨ IsReal (w x)) (hs : IsReal s)
include hw hs

/-- The largest logit is real, the sink's being real and the others real or minus infinity. -/
theorem isReal_top : IsReal (top w s) := by
  refine isReal_of_lt (lt_of_lt_of_le hs.bot_lt (le_max_right _ _)) (max_lt ?_ hs.lt_top)
  refine (Finset.sup_lt_iff (bot_lt_top)).2 fun x _ => ?_
  rcases hw x with h | h
  · rw [h]; exact bot_lt_top
  · exact h.lt_top

/-- An exponential of a logit less the largest is a nonnegative real. -/
theorem exp_real (x : Fin 640) : ∃ r : ℝ, 0 ≤ r ∧ Ideal.exp (w x - top w s) = (r : EReal) := by
  obtain ⟨t, ht⟩ := isReal_top hw hs
  rcases hw x with h | ⟨r, h⟩
  · exact ⟨0, le_refl _, by rw [h, EReal.bot_sub]; rfl⟩
  · exact ⟨Real.exp (r - t), (Real.exp_pos _).le, by rw [h, ht, ← EReal.coe_sub]; rfl⟩

/-- The exponential of the sink's logit less the largest is a positive real. -/
theorem exp_sink : ∃ r : ℝ, 0 < r ∧ Ideal.exp (s - top w s) = (r : EReal) := by
  obtain ⟨t, ht⟩ := isReal_top hw hs
  obtain ⟨r, h⟩ := hs
  exact ⟨Real.exp (r - t), Real.exp_pos _, by rw [ht, h, ← EReal.coe_sub]; rfl⟩

omit hw hs in
/-- The sum with the sink's exponential split off. -/
theorem den_eq : den w s = ∑ x : Fin 640, Ideal.exp (w x - top w s) + Ideal.exp (s - top w s) := by
  unfold den
  rw [Fin.sum_univ_castSucc]
  refine congrArg₂ (· + ·) (Finset.sum_congr rfl fun x _ => ?_) ?_
  · unfold withSink
    rw [dif_pos (show (Fin.castSucc x).val < 640 from x.isLt)]
    rfl
  · unfold withSink
    rw [dif_neg (show ¬ (Fin.last 640).val < 640 by show ¬ 640 < 640; omega)]

/-- The sum of the exponentials is a positive real. -/
theorem den_real : ∃ z : ℝ, 0 < z ∧ den w s = (z : EReal) := by
  choose e he0 he using exp_real hw hs
  obtain ⟨d, hd0, hd⟩ := exp_sink hw hs
  refine ⟨∑ x, e x + d, add_pos_of_nonneg_of_pos (Finset.sum_nonneg fun x _ => he0 x) hd0, ?_⟩
  rw [den_eq, hd, EReal.coe_add]
  congr 1
  have hsum : ∀ t : Finset (Fin 640), ∑ x ∈ t, Ideal.exp (w x - top w s) = ((∑ x ∈ t, e x : ℝ) : EReal) := by
    intro t
    classical
    induction t using Finset.induction_on with
    | empty => simp
    | insert a t ha ih => rw [Finset.sum_insert ha, Finset.sum_insert ha, ih, he a, EReal.coe_add]
  exact hsum Finset.univ

/-- The exponentials times the values over their sum, is the sum of the softmax times the values; the values of masked
    keys do not matter, and the sum may be cut in two. -/
theorem core (v v' : Fin 640 → EReal) (hv : ∀ x, w x ≠ ⊥ → v x = v' x) :
    Ideal.div (∑ x : Fin 640, Ideal.exp (w x - top w s) * v x) (∑ x : Fin 640, Ideal.exp (w x - top w s) * 1 + Ideal.exp (s - top w s))
      = (∑ x : Fin 384, v' ⟨x.val, by omega⟩ * Ideal.div (Ideal.exp (w ⟨x.val, by omega⟩ - top w s)) (den w s))
        + ∑ x : Fin 256, v' ⟨384 + x.val, by omega⟩ * Ideal.div (Ideal.exp (w ⟨384 + x.val, by omega⟩ - top w s)) (den w s) := by
  obtain ⟨z, hz0, hz⟩ := den_real hw hs
  have hne : den w s ≠ 0 := by rw [hz]; exact (EReal.coe_pos.2 hz0).ne'
  have hdiv (y : EReal) : Ideal.div y (den w s) = y * (den w s)⁻¹ := by unfold Ideal.div; rw [if_neg hne]
  have hc0 : 0 ≤ (den w s)⁻¹ := by rw [hz, ← EReal.coe_inv]; exact EReal.coe_nonneg.2 (inv_nonneg.2 hz0.le)
  have hc1 : (den w s)⁻¹ ≠ ⊤ := by rw [hz, ← EReal.coe_inv]; exact EReal.coe_ne_top _
  have hd : ∑ x : Fin 640, Ideal.exp (w x - top w s) * 1 + Ideal.exp (s - top w s) = den w s := by
    rw [den_eq]
    refine congrArg (· + _) (Finset.sum_congr rfl fun x _ => mul_one _)
  rw [hd, hdiv, sum_mul_of_nonneg _ _ hc0 hc1]
  have hx (x : Fin 640) : Ideal.exp (w x - top w s) * v x * (den w s)⁻¹ = v' x * Ideal.div (Ideal.exp (w x - top w s)) (den w s) := by
    rw [hdiv]
    by_cases h : w x = ⊥
    · have h0 : Ideal.exp (w x - top w s) = 0 := by rw [h, EReal.bot_sub]; rfl
      rw [h0, zero_mul, zero_mul, mul_zero]
    · rw [hv x h, mul_comm (Ideal.exp _) (v' x), mul_assoc]
  rw [Finset.sum_congr rfl fun x _ => hx x]
  exact Fin.sum_univ_add (a := 384) (b := 256) (fun x : Fin 640 => v' x * Ideal.div (Ideal.exp (w x - top w s)) (den w s))

end softmax

/-! ## The kernel's maximum, lane by lane -/

/-- The largest of 640 values, taken as the largest over 128 lanes of the lanes' five. -/
theorem sup_lanes (w : Fin 640 → EReal) :
    Finset.univ.sup (fun x : Fin 128 => max (max (max (max (w ⟨x.val, by omega⟩) (w ⟨128 + x.val, by omega⟩)) (w ⟨256 + x.val, by omega⟩))
      (w ⟨384 + x.val, by omega⟩)) (w ⟨512 + x.val, by omega⟩)) = Finset.univ.sup w := by
  apply le_antisymm
  · refine Finset.sup_le fun x _ => ?_
    have h (y : Fin 640) : w y ≤ Finset.univ.sup w := Finset.le_sup (Finset.mem_univ y)
    exact max_le (max_le (max_le (max_le (h _) (h _)) (h _)) (h _)) (h _)
  · refine Finset.sup_le fun y _ => ?_
    refine le_trans ?_ (Finset.le_sup (Finset.mem_univ (⟨y.val % 128, by omega⟩ : Fin 128)))
    have hy := y.isLt
    rcases (show y.val / 128 = 0 ∨ y.val / 128 = 1 ∨ y.val / 128 = 2 ∨ y.val / 128 = 3 ∨ y.val / 128 = 4 by omega) with h | h | h | h | h
    · refine le_max_of_le_left (le_max_of_le_left (le_max_of_le_left (le_max_of_le_left (le_of_eq (congrArg w (Fin.ext ?_))))))
      show y.val = y.val % 128; omega
    · refine le_max_of_le_left (le_max_of_le_left (le_max_of_le_left (le_max_of_le_right (le_of_eq (congrArg w (Fin.ext ?_))))))
      show y.val = 128 + y.val % 128; omega
    · refine le_max_of_le_left (le_max_of_le_left (le_max_of_le_right (le_of_eq (congrArg w (Fin.ext ?_)))))
      show y.val = 256 + y.val % 128; omega
    · refine le_max_of_le_left (le_max_of_le_right (le_of_eq (congrArg w (Fin.ext ?_))))
      show y.val = 384 + y.val % 128; omega
    · refine le_max_of_le_right (le_of_eq (congrArg w (Fin.ext ?_)))
      show y.val = 512 + y.val % 128; omega

/-- The bits of minus infinity. -/
theorem ofBits_ninf : Ideal.ofBits .f32 4286578688#32 = ⊥ := by simp [Ideal.ofBits, Ideal.ieee]

/-- A fold of the maximum from minus infinity is the supremum. -/
theorem fold_max {ι : Type} [Fintype ι] (f : ι → EReal) :
    (Finset.univ : Finset ι).fold max (Ideal.ofBits .f32 4286578688#32) f = Finset.univ.sup f := by
  rw [ofBits_ninf]
  rfl

/-! ## A half of the lanes zeroed -/

/-- The product over 128 lanes whose upper half is zeroed is that over the lower half. -/
theorem sum_low (q k : Fin 128 → EReal) :
    ∑ y : Fin 128, (if y.val < 64 then q y else 0) * k y = ∑ x : Fin 64, k ⟨x.val, by omega⟩ * q ⟨x.val, by omega⟩ := by
  refine (Fin.sum_univ_add (a := 64) (b := 64) (fun y : Fin 128 => (if y.val < 64 then q y else 0) * k y)).trans ?_
  have h2 : ∑ x : Fin 64, (if (Fin.natAdd 64 x : Fin 128).val < 64 then q (Fin.natAdd 64 x : Fin 128) else 0) * k (Fin.natAdd 64 x : Fin 128) = 0 :=
    Finset.sum_eq_zero fun x _ => by rw [if_neg (by show ¬ 64 + x.val < 64; omega), zero_mul]
  rw [h2, add_zero]
  refine Finset.sum_congr rfl fun x _ => ?_
  rw [if_pos (by show x.val < 64; exact x.isLt), mul_comm]
  rfl

/-- The product over 128 lanes whose lower half is zeroed is that over the upper half. -/
theorem sum_high (q k : Fin 128 → EReal) :
    ∑ y : Fin 128, (if y.val < 64 then 0 else q y) * k y = ∑ x : Fin 64, k ⟨64 + x.val, by omega⟩ * q ⟨64 + x.val, by omega⟩ := by
  refine (Fin.sum_univ_add (a := 64) (b := 64) (fun y : Fin 128 => (if y.val < 64 then 0 else q y) * k y)).trans ?_
  have h2 : ∑ x : Fin 64, (if (Fin.castAdd 64 x : Fin 128).val < 64 then 0 else q (Fin.castAdd 64 x : Fin 128)) * k (Fin.castAdd 64 x : Fin 128) = 0 :=
    Finset.sum_eq_zero fun x _ => by rw [if_pos (by show x.val < 64; exact x.isLt), zero_mul]
  rw [h2, zero_add]
  refine Finset.sum_congr rfl fun x _ => ?_
  rw [if_neg (by show ¬ 64 + x.val < 64; omega), mul_comm]
  rfl

/-! ## The masks -/

/-- The conjunction of two decided bits is the decided conjunction. -/
theorem andi_ofBool (a b : Bool) : IntOp.andi (BitVec.ofBool a) (BitVec.ofBool b) = BitVec.ofBool (a && b) := by
  cases a <;> cases b <;> rfl

/-- A choice by a decided bit. -/
theorem select_ofBool {α : Type} (p : Prop) [Decidable p] (a b : α) : Scalar.select (BitVec.ofBool (decide p)) a b = if p then a else b := by
  by_cases h : p <;> simp [Scalar.select, h]

/-- The window's bit for a query and a key of the three blocks: at most 128 apart. -/
theorem near_bit : ∀ (q : Fin 128) (k : Fin 384),
    IntOp.cmpi .sle (IntOp.absi (IntOp.subi (IntOp.subi (BitVec.ofNat 32 k.val) 128#32) (BitVec.ofNat 32 q.val))) 128#32
      = BitVec.ofBool (decide (q.val ≤ k.val ∧ k.val ≤ q.val + 256)) := by
  decide +kernel

/-- The key's position is not before the sequence. -/
theorem low_bit : ∀ (n : Fin 64) (k : Fin 384),
    IntOp.cmpi .sge (IntOp.addi (IntOp.subi (IntOp.muli (BitVec.ofNat 32 n.val) 128#32) 128#32) (BitVec.ofNat 32 k.val)) 0#32
      = BitVec.ofBool (decide (128 ≤ n.val * 128 + k.val)) := by
  decide +kernel

/-- The key's position is not after the sequence. -/
theorem high_bit : ∀ (n : Fin 64) (k : Fin 384),
    IntOp.cmpi .slt (IntOp.addi (IntOp.subi (IntOp.muli (BitVec.ofNat 32 n.val) 128#32) 128#32) (BitVec.ofNat 32 k.val)) 8192#32
      = BitVec.ofBool (decide (n.val * 128 + k.val < 8320)) := by
  decide +kernel

/-- The kernel's bit for the previous block: the key at or after the query's place, and a previous block. -/
theorem prev_bit (n : Fin 64) (r k : Fin 128) :
    IntOp.andi (IntOp.cmpi .sge (BitVec.ofNat 32 k.val) (BitVec.ofNat 32 r.val)) (Scalar.cmpi .sgt (BitVec.ofNat 32 n.val) 0#32)
      = BitVec.ofBool (decide (r.val ≤ k.val ∧ 0 < n.val)) := by
  have h1 : ∀ (r k : Fin 128), IntOp.cmpi .sge (BitVec.ofNat 32 k.val) (BitVec.ofNat 32 r.val) = BitVec.ofBool (decide (r.val ≤ k.val)) := by
    decide +kernel
  have h2 : ∀ n : Fin 64, Scalar.cmpi .sgt (BitVec.ofNat 32 n.val) 0#32 = BitVec.ofBool (decide (0 < n.val)) := by decide +kernel
  rw [h1, h2, andi_ofBool, Bool.decide_and]

/-- The kernel's bit for the next block: the key at or before the query's place, and a next block. -/
theorem next_bit (n : Fin 64) (r k : Fin 128) :
    IntOp.andi (IntOp.cmpi .sle (BitVec.ofNat 32 k.val) (BitVec.ofNat 32 r.val)) (Scalar.cmpi .slt (BitVec.ofNat 32 n.val) 63#32)
      = BitVec.ofBool (decide (k.val ≤ r.val ∧ n.val < 63)) := by
  have h1 : ∀ (r k : Fin 128), IntOp.cmpi .sle (BitVec.ofNat 32 k.val) (BitVec.ofNat 32 r.val) = BitVec.ofBool (decide (k.val ≤ r.val)) := by
    decide +kernel
  have h2 : ∀ n : Fin 64, Scalar.cmpi .slt (BitVec.ofNat 32 n.val) 63#32 = BitVec.ofBool (decide (n.val < 63)) := by decide +kernel
  rw [h1, h2, andi_ofBool, Bool.decide_and]

/-- The kernel's bit for a lane of the lower half. -/
theorem lane_bit : ∀ k : Fin 128, IntOp.cmpi .slt (BitVec.ofNat 32 k.val) 64#32 = BitVec.ofBool (decide (k.val < 64)) := by
  decide +kernel

end Cert.AttnMath
-- ==== Proof.AttnFinite.lean ====
module

public import proofs.«01_k».proof.Defs
public import proofs.«01_k».proof.Pre_attn_finite
public import proofs.«01_k».proof.Proof.AttnMath
public import Idealize.ShloMosaic.Lib.ReduceAll
public import Idealize.ShloMosaic.Lib.Affine
public import Idealize.ShloMosaic.Lib.Decide

@[expose] public section

set_option maxRecDepth 16384

noncomputable section

open Idealize.ShloMosaic Idealize.ShloMosaic.TcCoe Idealize.SL.Sem

namespace Cert.AttnFinite

open Cert.Pre_attn_finite

/-- The shape relations the precondition's operations take. -/
instance facts : Cert.Pre_attn_finite.Facts where
  bitsLt_bf16_f32 := by decide
  bcast_S_S2x8192x512 := by decide
  reducesTo_S2x8192x512_S_d0_1_2 := by decide
  h_S_ := by decide
  bcast_S_S2x8192x128 := by decide
  reducesTo_S2x8192x128_S_d0_1_2 := by decide
  bcast_S_S2x256x128 := by decide
  reducesTo_S2x256x128_S_d0_1_2 := by decide
  bcast_S_S8x128 := by decide
  reducesTo_S8x128_S_d0_1 := by decide

/-- The bits of plus infinity. -/
theorem ofBits_pinf : Ideal.ofBits .f32 0x7F800000#32 = ⊤ := by simp [Ideal.ofBits, Ideal.ieee]

/-- A value whose absolute value compares below infinity is real. -/
theorem real_of_bit (x b : EReal) (hb : b = ⊤) (e : Ideal.cmp .olt (max x (-x)) b = 1#1) : AttnMath.IsReal x := by
  subst hb
  have e' : BitVec.ofBool (decide (max x (-x) < ⊤)) = 1#1 := e
  have h : max x (-x) < ⊤ := by
    by_contra hn
    simp [hn] at e'
  obtain ⟨h1, h2⟩ := max_lt_iff.1 h
  refine AttnMath.isReal_of_lt ?_ h1
  refine bot_lt_iff_ne_bot.2 ?_
  rintro rfl
  simp at h2

/-- The conjunction of two bits is one only when both are. -/
theorem and_bits : ∀ a b : BitVec 1, IntOp.andi a b = 1#1 → a = 1#1 ∧ b = 1#1 := by decide

variable (q : FVec Ideal S2x8192x512 .bf16) (k v : FVec Ideal S2x8192x128 .bf16) (kx vx : FVec Ideal S2x256x128 .bf16) (s : FVec Ideal S8x128 .f32)

/-- The one index of a scalar. -/
def j0 : S_.Idx := fun a => a.elim0

/-- The precondition, read: the queries, the keys, the context's keys and the sinks are real. -/
theorem real_of_pre (h : fn (F := Ideal) q k v kx vx s = fun _ => 1#1) :
    (∀ i, AttnMath.IsReal (q i)) ∧ (∀ i, AttnMath.IsReal (k i)) ∧ (∀ i, AttnMath.IsReal (kx i)) ∧ (∀ i, AttnMath.IsReal (s i)) := by
  haveI : Subsingleton S_.Idx := ⟨fun a b => funext fun x => x.elim0⟩
  have e := congrFun h j0
  unfold fn fn_part1 at e
  obtain ⟨e, e5⟩ := and_bits _ _ e
  obtain ⟨e, e3⟩ := and_bits _ _ e
  obtain ⟨e0, e1⟩ := and_bits _ _ e
  refine ⟨fun i => ?_, fun i => ?_, fun i => ?_, fun i => ?_⟩
  · exact real_of_bit _ _ ofBits_pinf (Host.reduce_andi_all _ _ _ _ j0 e0 i)
  · exact real_of_bit _ _ ofBits_pinf (Host.reduce_andi_all _ _ _ _ j0 e1 i)
  · exact real_of_bit _ _ ofBits_pinf (Host.reduce_andi_all _ _ _ _ j0 e3 i)
  · exact real_of_bit _ _ ofBits_pinf (Host.reduce_andi_all _ _ _ _ j0 e5 i)

end Cert.AttnFinite
-- ==== Proof.AttnKer.lean ====
module

public import proofs.«01_k».proof.Defs
public import proofs.«01_k».proof.Proof.Gen.KernelIdeal.Frame
public import proofs.«01_k».proof.Proof.AttnMath
public import Idealize.ShloMosaic.Lib.Pointwise
public import Idealize.ShloMosaic.Lib.Claim
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

section head
variable (ok0 ok2 : IVec S128x128 1) (T : FVec Ideal S128x640 .f32) (s : Vec Ideal S1x1 .f32) (M : FVec Ideal S128x1 .f32)

/-! ## One head of one block -/

/-- The scores of one head against the previous block's keys, the masked ones at minus infinity. -/
def part0 : FVec Ideal S128x128 .f32 :=
  select ok0 (extractStridedSlice S128x128 ![0, 0] T slices_S128x640_o0_0_S128x128) (broadcast S128x128 (Scalar.ofBits .f32 0xFF800000#32))
/-- The scores of one head against its own block's keys. -/
def part1 : FVec Ideal S128x128 .f32 := extractStridedSlice S128x128 ![0, 128] T slices_S128x640_o0_128_S128x128
/-- The scores of one head against the next block's keys, the masked ones at minus infinity. -/
def part2 : FVec Ideal S128x128 .f32 :=
  select ok2 (extractStridedSlice S128x128 ![0, 256] T slices_S128x640_o0_256_S128x128) (broadcast S128x128 (Scalar.ofBits .f32 0xFF800000#32))
/-- The scores of one head against the context's keys. -/
def part3 : FVec Ideal S128x256 .f32 := extractStridedSlice S128x256 ![0, 384] T slices_S128x640_o0_384_S128x256
/-- The row maxima of one head, the sink's logit among them. -/
def rowMax : FVec Ideal S128x1 .f32 :=
  maximumf (shapeCast S128x1 (multiReduction .maximumf [1] S128
    (maximumf (maximumf (maximumf (maximumf (part0 ok0 T) (part1 T)) (part2 ok2 T)) (extractStridedSlice S128x128 ![0, 0] (part3 T) slices_S128x256_o0_0_S128x128))
      (extractStridedSlice S128x128 ![0, 128] (part3 T) slices_S128x256_o0_128_S128x128))
    0xFF800000#32 reduces_S128x128_S128 (.inl rfl) rfl) shapeCasts_S128_S128x1) (broadcastTo S128x1 s broadcasts_S1x1_S128x1)

/-- The exponentials of one head's masked scores less their row maximum. -/
def headP : FVec Ideal S128x640 .bf16 := k0_pay132 (part0 ok0 T) (part1 T) (part2 ok2 T) (part3 T) (rowMax ok0 ok2 T s)
/-- The exponential of the sink's logit less the row maximum. -/
def headD : FVec Ideal S128x1 .f32 := k0_pay131 (rowMax ok0 ok2 T s) s

/-- The masked score of a row and a key. -/
def wv (r : Fin 128) (x : Fin 640) : EReal :=
  if h0 : x.val < 128 then Scalar.select (ok0 (ix2 r ⟨x.val, h0⟩)) (T (ix2 r x)) (Ideal.ofBits .f32 4286578688#32)
  else if h2 : 256 ≤ x.val ∧ x.val < 384 then Scalar.select (ok2 (ix2 r ⟨x.val - 256, by omega⟩)) (T (ix2 r x)) (Ideal.ofBits .f32 4286578688#32)
  else T (ix2 r x)

/-- The row maximum is the largest of the masked scores and the sink's logit. -/
theorem rowMax_apply (r : Fin 128) : rowMax ok0 ok2 T s (ix2 r 0) = AttnMath.top (wv ok0 ok2 T r) (s (ix2 0 0)) := by
  unfold rowMax
  pointwise [part0, part1, part2, part3]
  rw [AttnMath.fold_max]
  unfold AttnMath.top
  rw [← AttnMath.sup_lanes]
  refine congrArg (fun f => max (Finset.univ.sup f) _) (funext fun x => ?_)
  have h := x.isLt
  have e0 : wv ok0 ok2 T r ⟨x.val, by omega⟩ = Scalar.select (ok0 (ix2 r x)) (T (ix2 r ⟨x.val, by omega⟩)) (Ideal.ofBits .f32 4286578688#32) := by
    unfold wv; rw [dif_pos h]
  have e1 : wv ok0 ok2 T r ⟨128 + x.val, by omega⟩ = T (ix2 r ⟨128 + x.val, by omega⟩) := by
    unfold wv; rw [dif_neg (by show ¬ 128 + x.val < 128; omega), dif_neg (by show ¬ (256 ≤ 128 + x.val ∧ 128 + x.val < 384); omega)]
  have e2 : wv ok0 ok2 T r ⟨256 + x.val, by omega⟩ = Scalar.select (ok2 (ix2 r x)) (T (ix2 r ⟨256 + x.val, by omega⟩)) (Ideal.ofBits .f32 4286578688#32) := by
    unfold wv; rw [dif_neg (by show ¬ 256 + x.val < 128; omega), dif_pos (by show (256 ≤ 256 + x.val ∧ 256 + x.val < 384); omega)]
    simp only [Nat.add_sub_cancel_left]
  have e3 : wv ok0 ok2 T r ⟨384 + x.val, by omega⟩ = T (ix2 r ⟨384 + x.val, by omega⟩) := by
    unfold wv; rw [dif_neg (by show ¬ 384 + x.val < 128; omega), dif_neg (by show ¬ (256 ≤ 384 + x.val ∧ 384 + x.val < 384); omega)]
  have e4 : wv ok0 ok2 T r ⟨512 + x.val, by omega⟩ = T (ix2 r ⟨512 + x.val, by omega⟩) := by
    unfold wv; rw [dif_neg (by show ¬ 512 + x.val < 128; omega), dif_neg (by show ¬ (256 ≤ 512 + x.val ∧ 512 + x.val < 384); omega)]
  rw [e0, e1, e2, e3, e4]
  simp only [show 384 + (128 + x.val) = 512 + x.val by omega]

/-- An exponential, read. -/
theorem headP_apply (r : Fin 128) (x : Fin 640) : headP ok0 ok2 T s (ix2 r x)
    = Ideal.exp (wv ok0 ok2 T r x - AttnMath.top (wv ok0 ok2 T r) (s (ix2 0 0))) := by
  unfold headP
  have h := rowMax_apply ok0 ok2 T s r
  revert h
  generalize rowMax ok0 ok2 T s = M
  intro h
  rw [← h]
  unfold_payloads
  pointwise [part0, part1, part2, part3]
  have hx := x.isLt
  unfold wv
  by_cases h0 : x.val < 128
  · rw [dif_pos h0, dif_pos h0]
  · rw [dif_neg h0, dif_neg h0]
    by_cases h1 : x.val - 128 < 128
    · rw [dif_pos h1, dif_neg (show ¬ (256 ≤ x.val ∧ x.val < 384) by omega)]
      simp only [show 128 + (x.val - 128) = x.val by omega]
    · rw [dif_neg h1]
      by_cases h2 : x.val - 128 - 128 < 128
      · rw [dif_pos h2, dif_pos (show (256 ≤ x.val ∧ x.val < 384) by omega)]
        simp only [show x.val - 128 - 128 = x.val - 256 by omega, show 256 + (x.val - 256) = x.val by omega]
      · rw [dif_neg h2, dif_neg (show ¬ (256 ≤ x.val ∧ x.val < 384) by omega)]
        simp only [show 384 + (x.val - 128 - 128 - 128) = x.val by omega]

/-- The sink's exponential, read. -/
theorem headD_apply (r : Fin 128) : headD ok0 ok2 T s (ix2 r 0)
    = Ideal.exp (s (ix2 0 0) - AttnMath.top (wv ok0 ok2 T r) (s (ix2 0 0))) := by
  unfold headD
  rw [← rowMax_apply ok0 ok2 T s r]
  generalize rowMax ok0 ok2 T s = M
  unfold_payloads
  pointwise
end head

section pair
variable (low : IVec S128x128 1) (S : FVec Ideal S1024x640 .f32) (A : FVec Ideal S1024x256 .f32) (vc : FVec Ideal S640x256 .bf16) (kc : FVec Ideal S640x128 .bf16)
  (P : Fin 8 → FVec Ideal S128x640 .bf16) (Q : Fin 4 → Vec Ideal S1x128x128 .bf16) (dA dB : FVec Ideal S128x1 .f32)

/-! ## The heads of one block, together -/

/-- The 128 rows of scores from row `o` on. -/
def headT (o : Nat) (h : S1024x640.Slices ![o, 0] S128x640) : FVec Ideal S128x640 .f32 := extractStridedSlice S128x640 ![o, 0] S h

theorem headT_apply (o : Nat) (ho : o + 128 ≤ 1024) (h : S1024x640.Slices ![o, 0] S128x640) (r : Fin 128) (x : Fin 640) :
    headT S o h (ix2 r x) = S (ix2 ⟨o + r.val, by omega⟩ x) := by
  unfold headT
  pointwise

/-- One head's quotient: the sums over the values, over the sum of the exponentials and the sink's. -/
def headO (o : Nat) (h : S1024x256.Slices ![o, 0] S128x128) (h' : S1024x256.Slices ![o, 128] S128x128) (d : FVec Ideal S128x1 .f32) : FVec Ideal S128x128 .f32 :=
  divf (extractStridedSlice S128x128 ![o, 0] A h) (addf (extractStridedSlice S128x128 ![o, 128] A h') (broadcastTo S128x128 d broadcasts_S128x1_S128x128))

theorem headO_apply (o : Nat) (ho : o + 128 ≤ 1024) (h : S1024x256.Slices ![o, 0] S128x128) (h' : S1024x256.Slices ![o, 128] S128x128) (d : FVec Ideal S128x1 .f32) (r l : Fin 128) :
    headO A o h h' d (ix2 r l) = Ideal.div (A (ix2 ⟨o + r.val, by omega⟩ ⟨l.val, by omega⟩)) (A (ix2 ⟨o + r.val, by omega⟩ ⟨128 + l.val, by omega⟩) + d (ix2 r 0)) := by
  unfold headO
  pointwise

/-- Two heads side by side: the lower lanes of the one, the upper lanes of the other. -/
def pairO (a b : FVec Ideal S128x128 .f32) : FVec Ideal S1x128x128 .bf16 :=
  shapeCast S1x128x128 (truncf .bf16 (select low a b) bitsLt_bf16_f32) shapeCasts_S128x128_S1x128x128

theorem pairO_apply (a b : FVec Ideal S128x128 .f32) (r l : Fin 128) : pairO low a b (ix3 0 r l) = Scalar.select (low (ix2 r l)) (a (ix2 r l)) (b (ix2 r l)) := by
  unfold pairO
  pointwise

/-- All heads' exponentials times the values. -/
def sumsV : FVec Ideal S1024x256 .f32 :=
  k0_pay180 vc (P ⟨0, by omega⟩) (P ⟨1, by omega⟩) (P ⟨2, by omega⟩) (P ⟨3, by omega⟩) (P ⟨4, by omega⟩) (P ⟨5, by omega⟩) (P ⟨6, by omega⟩) (P ⟨7, by omega⟩)

theorem sumsV_apply (t : Fin 1024) (y : Fin 256) : sumsV vc P (ix2 t y)
    = ∑ x : Fin 640, P ⟨t.val / 128, by omega⟩ (ix2 ⟨t.val % 128, by omega⟩ x) * vc (ix2 x y) := by
  unfold sumsV
  unfold_payloads
  pointwise
  have ht := t.isLt
  refine Finset.sum_congr rfl fun x _ => congrArg (· * _) ?_
  have hP : ∀ (a a' r r' : Nat) (ha : a < 8) (ha' : a' < 8) (hr : r < 128) (hr' : r' < 128), a = a' → r = r' →
      P ⟨a, ha⟩ (ix2 ⟨r, hr⟩ x) = P ⟨a', ha'⟩ (ix2 ⟨r', hr'⟩ x) := by
    rintro a _ r _ ha _ hr _ rfl rfl
    rfl
  by_cases h0 : t.val < 128
  · rw [dif_pos h0]
    exact hP 0 _ _ _ _ _ _ _ (by omega) (by omega)
  rw [dif_neg h0]
  by_cases h1 : t.val - 128 < 128
  · rw [dif_pos h1]
    exact hP 1 _ _ _ _ _ _ _ (by omega) (by omega)
  rw [dif_neg h1]
  by_cases h2 : t.val - 128 - 128 < 128
  · rw [dif_pos h2]
    exact hP 2 _ _ _ _ _ _ _ (by omega) (by omega)
  rw [dif_neg h2]
  by_cases h3 : t.val - 128 - 128 - 128 < 128
  · rw [dif_pos h3]
    exact hP 3 _ _ _ _ _ _ _ (by omega) (by omega)
  rw [dif_neg h3]
  by_cases h4 : t.val - 128 - 128 - 128 - 128 < 128
  · rw [dif_pos h4]
    exact hP 4 _ _ _ _ _ _ _ (by omega) (by omega)
  rw [dif_neg h4]
  by_cases h5 : t.val - 128 - 128 - 128 - 128 - 128 < 128
  · rw [dif_pos h5]
    exact hP 5 _ _ _ _ _ _ _ (by omega) (by omega)
  rw [dif_neg h5]
  by_cases h6 : t.val - 128 - 128 - 128 - 128 - 128 - 128 < 128
  · rw [dif_pos h6]
    exact hP 6 _ _ _ _ _ _ _ (by omega) (by omega)
  rw [dif_neg h6]
  exact hP 7 _ _ _ _ _ _ _ (by omega) (by omega)

/-- All heads' scores: the masked halves of the queries times the keys. -/
def scoresV : FVec Ideal S1024x640 .f32 := k0_pay8 low kc (Q ⟨0, by omega⟩) (Q ⟨1, by omega⟩) (Q ⟨2, by omega⟩) (Q ⟨3, by omega⟩)

theorem scoresV_apply (t : Fin 1024) (x : Fin 640) : scoresV low kc Q (ix2 t x)
    = ∑ y : Fin 128, (if (t.val / 128) % 2 = 0 then Scalar.select (low (ix2 ⟨t.val % 128, by omega⟩ y)) (Q ⟨t.val / 256, by omega⟩ (ix3 0 ⟨t.val % 128, by omega⟩ y)) 0
        else Scalar.select (low (ix2 ⟨t.val % 128, by omega⟩ y)) 0 (Q ⟨t.val / 256, by omega⟩ (ix3 0 ⟨t.val % 128, by omega⟩ y))) * kc (ix2 x y) := by
  unfold scoresV
  unfold_payloads
  pointwise
  have ht := t.isLt
  refine Finset.sum_congr rfl fun y _ => congrArg (· * _) ?_
  have hE : ∀ (a a' r r' : Nat) (ha : a < 4) (ha' : a' < 4) (hr : r < 128) (hr' : r' < 128), a = a' → r = r' →
      Scalar.select (low (ix2 ⟨r, hr⟩ y)) (Q ⟨a, ha⟩ (ix3 0 ⟨r, hr⟩ y)) 0 = Scalar.select (low (ix2 ⟨r', hr'⟩ y)) (Q ⟨a', ha'⟩ (ix3 0 ⟨r', hr'⟩ y)) (0 : EReal) := by
    rintro a _ r _ ha _ hr _ rfl rfl
    rfl
  have hO : ∀ (a a' r r' : Nat) (ha : a < 4) (ha' : a' < 4) (hr : r < 128) (hr' : r' < 128), a = a' → r = r' →
      Scalar.select (low (ix2 ⟨r, hr⟩ y)) 0 (Q ⟨a, ha⟩ (ix3 0 ⟨r, hr⟩ y)) = Scalar.select (low (ix2 ⟨r', hr'⟩ y)) (0 : EReal) (Q ⟨a', ha'⟩ (ix3 0 ⟨r', hr'⟩ y)) := by
    rintro a _ r _ ha _ hr _ rfl rfl
    rfl
  by_cases h0 : t.val < 128
  · rw [dif_pos h0, if_pos (show t.val / 128 % 2 = 0 by omega)]
    exact hE 0 _ _ _ _ _ _ _ (by omega) (by omega)
  rw [dif_neg h0]
  by_cases h1 : t.val - 128 < 128
  · rw [dif_pos h1, if_neg (show ¬ t.val / 128 % 2 = 0 by omega)]
    exact hO 0 _ _ _ _ _ _ _ (by omega) (by omega)
  rw [dif_neg h1]
  by_cases h2 : t.val - 128 - 128 < 128
  · rw [dif_pos h2, if_pos (show t.val / 128 % 2 = 0 by omega)]
    exact hE 1 _ _ _ _ _ _ _ (by omega) (by omega)
  rw [dif_neg h2]
  by_cases h3 : t.val - 128 - 128 - 128 < 128
  · rw [dif_pos h3, if_neg (show ¬ t.val / 128 % 2 = 0 by omega)]
    exact hO 1 _ _ _ _ _ _ _ (by omega) (by omega)
  rw [dif_neg h3]
  by_cases h4 : t.val - 128 - 128 - 128 - 128 < 128
  · rw [dif_pos h4, if_pos (show t.val / 128 % 2 = 0 by omega)]
    exact hE 2 _ _ _ _ _ _ _ (by omega) (by omega)
  rw [dif_neg h4]
  by_cases h5 : t.val - 128 - 128 - 128 - 128 - 128 < 128
  · rw [dif_pos h5, if_neg (show ¬ t.val / 128 % 2 = 0 by omega)]
    exact hO 2 _ _ _ _ _ _ _ (by omega) (by omega)
  rw [dif_neg h5]
  by_cases h6 : t.val - 128 - 128 - 128 - 128 - 128 - 128 < 128
  · rw [dif_pos h6, if_pos (show t.val / 128 % 2 = 0 by omega)]
    exact hE 3 _ _ _ _ _ _ _ (by omega) (by omega)
  rw [dif_neg h6]
  rw [if_neg (show ¬ t.val / 128 % 2 = 0 by omega)]
  exact hO 3 _ _ _ _ _ _ _ (by omega) (by omega)
end pair

/-! ## The block's keys, values and masks, read -/

section rows
variable (k0 k1 k2 : Vec Ideal S1x128x128 .bf16) (kx : Vec Ideal S1x256x128 .bf16)

/-- Row `x` of the three blocks and the context. -/
def krow (x : Fin 640) (l : Fin 128) : EReal :=
  if h0 : x.val < 128 then k0 (ix3 0 ⟨x.val, h0⟩ l)
  else if h1 : x.val - 128 < 128 then k1 (ix3 0 ⟨x.val - 128, h1⟩ l)
  else if h2 : x.val - 128 - 128 < 128 then k2 (ix3 0 ⟨x.val - 128 - 128, h2⟩ l)
  else kx (ix3 0 ⟨x.val - 128 - 128 - 128, by omega⟩ l)

theorem keys_apply (x : Fin 640) (l : Fin 128) : k0_pay5 k0 k1 k2 kx (ix2 x l) = krow k0 k1 k2 kx x l := by
  unfold_payloads
  pointwise [krow]

theorem vals_low (x : Fin 640) (l : Fin 128) : k0_pay12 k0 k1 k2 kx (ix2 x ⟨l.val, by omega⟩) = krow k0 k1 k2 kx x l := by
  have h := l.isLt
  unfold_payloads
  pointwise [krow]

theorem vals_high (x : Fin 640) (l : Fin 128) : k0_pay12 k0 k1 k2 kx (ix2 x ⟨128 + l.val, by omega⟩) = (1 : EReal) := by
  have h := l.isLt
  have hn : ¬ 128 + l.val < 128 := by omega
  unfold_payloads
  pointwise
end rows

theorem mask0_apply (i : grid0.Coords) (r k : Fin 128) : k0_pay2 i (ix2 r k) = BitVec.ofBool (decide (r.val ≤ k.val ∧ 0 < (i 0).val)) := by
  refine Eq.trans ?_ (AttnMath.prev_bit ⟨(i 0).val, (i 0).isLt⟩ r k)
  unfold_payloads
  pointwise

theorem mask2_apply (i : grid0.Coords) (r k : Fin 128) : k0_pay3 i (ix2 r k) = BitVec.ofBool (decide (k.val ≤ r.val ∧ (i 0).val < 63)) := by
  refine Eq.trans ?_ (AttnMath.next_bit ⟨(i 0).val, (i 0).isLt⟩ r k)
  unfold_payloads
  pointwise

theorem low_apply (r k : Fin 128) : k0_pay4 (ix2 r k) = BitVec.ofBool (decide (k.val < 64)) := by
  refine Eq.trans ?_ (AttnMath.lane_bit k)
  unfold_payloads
  pointwise

end Cert.KernelIdeal.RefValue
-- ==== Proof.AttnBlk.lean ====
module

public import proofs.«01_k».proof.Defs
public import proofs.«01_k».proof.Proof.AttnKer
public import Idealize.ShloMosaic.Lib.Pointwise
public import Idealize.ShloMosaic.Lib.Claim
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

section block
variable (i : grid0.Coords) (x0 : Vec Ideal S2x128x512 .bf16) (x1 x2 x3 x4 x5 x6 : Vec Ideal S2x128x128 .bf16) (x7 x8 : Vec Ideal S2x256x128 .bf16) (x9 : Vec Ideal S8x128 .f32)

/-! ## One batch's part of the blocks -/

/-- One batch of a block of rows. -/
def row3 (x : Vec Ideal S2x128x128 .bf16) (bb : Fin 2) : Vec Ideal S1x128x128 .bf16 := fun y => x (ix3 bb (y 1) (y 2))
/-- One batch of the context's rows. -/
def rowX (x : Vec Ideal S2x256x128 .bf16) (bb : Fin 2) : Vec Ideal S1x256x128 .bf16 := fun y => x (ix3 bb (y 1) (y 2))
/-- One batch's queries of one pair of heads. -/
def colQ (x : Vec Ideal S2x128x512 .bf16) (bb : Fin 2) (a : Fin 4) : Vec Ideal S1x128x128 .bf16 :=
  fun y => x (ix3 bb (y 1) ⟨128 * a.val + (y 2).val, by have h : (y 2).val < 128 := (y 2).isLt; omega⟩)
/-- One head's sink logit. -/
def sinkV (x : Vec Ideal S8x128 .f32) (j : Fin 8) : Vec Ideal S1x1 .f32 := fun _ => x (ix2 j 0)

theorem ld_row0 (x : Vec Ideal S2x128x128 .bf16) : View.ld x r0_0 = row3 x 0 := by
  funext y
  idx_vars y
  obtain rfl : y0 = 0 := Subsingleton.elim _ _
  pointwise [row3]

theorem ld_ctx0 (x : Vec Ideal S2x256x128 .bf16) : View.ld x r0_1 = rowX x 0 := by
  funext y
  idx_vars y
  obtain rfl : y0 = 0 := Subsingleton.elim _ _
  pointwise [rowX]

theorem ld_q0_0 (x : Vec Ideal S2x128x512 .bf16) : View.ld x r0_2 = colQ x 0 ⟨0, by omega⟩ := by
  funext y
  idx_vars y
  obtain rfl : y0 = 0 := Subsingleton.elim _ _
  pointwise [colQ]

theorem ld_q0_1 (x : Vec Ideal S2x128x512 .bf16) : View.ld x r0_3 = colQ x 0 ⟨1, by omega⟩ := by
  funext y
  idx_vars y
  obtain rfl : y0 = 0 := Subsingleton.elim _ _
  pointwise [colQ]

theorem ld_q0_2 (x : Vec Ideal S2x128x512 .bf16) : View.ld x r0_4 = colQ x 0 ⟨2, by omega⟩ := by
  funext y
  idx_vars y
  obtain rfl : y0 = 0 := Subsingleton.elim _ _
  pointwise [colQ]

theorem ld_q0_3 (x : Vec Ideal S2x128x512 .bf16) : View.ld x r0_5 = colQ x 0 ⟨3, by omega⟩ := by
  funext y
  idx_vars y
  obtain rfl : y0 = 0 := Subsingleton.elim _ _
  pointwise [colQ]

theorem ld_row1 (x : Vec Ideal S2x128x128 .bf16) : View.ld x r0_6 = row3 x 1 := by
  funext y
  idx_vars y
  obtain rfl : y0 = 0 := Subsingleton.elim _ _
  pointwise [row3]

theorem ld_ctx1 (x : Vec Ideal S2x256x128 .bf16) : View.ld x r0_7 = rowX x 1 := by
  funext y
  idx_vars y
  obtain rfl : y0 = 0 := Subsingleton.elim _ _
  pointwise [rowX]

theorem ld_q1_0 (x : Vec Ideal S2x128x512 .bf16) : View.ld x r0_8 = colQ x 1 ⟨0, by omega⟩ := by
  funext y
  idx_vars y
  obtain rfl : y0 = 0 := Subsingleton.elim _ _
  pointwise [colQ]

theorem ld_q1_1 (x : Vec Ideal S2x128x512 .bf16) : View.ld x r0_9 = colQ x 1 ⟨1, by omega⟩ := by
  funext y
  idx_vars y
  obtain rfl : y0 = 0 := Subsingleton.elim _ _
  pointwise [colQ]

theorem ld_q1_2 (x : Vec Ideal S2x128x512 .bf16) : View.ld x r0_10 = colQ x 1 ⟨2, by omega⟩ := by
  funext y
  idx_vars y
  obtain rfl : y0 = 0 := Subsingleton.elim _ _
  pointwise [colQ]

theorem ld_q1_3 (x : Vec Ideal S2x128x512 .bf16) : View.ld x r0_11 = colQ x 1 ⟨3, by omega⟩ := by
  funext y
  idx_vars y
  obtain rfl : y0 = 0 := Subsingleton.elim _ _
  pointwise [colQ]

theorem ld_sink0 (x : Vec Ideal S8x128 .f32) : View.ld x r0_12 = sinkV x ⟨0, by omega⟩ := by
  funext y
  idx_vars y
  obtain rfl : y0 = 0 := Subsingleton.elim _ _
  obtain rfl : y1 = 0 := Subsingleton.elim _ _
  pointwise [sinkV]

theorem ld_sink1 (x : Vec Ideal S8x128 .f32) : View.ld x r0_13 = sinkV x ⟨1, by omega⟩ := by
  funext y
  idx_vars y
  obtain rfl : y0 = 0 := Subsingleton.elim _ _
  obtain rfl : y1 = 0 := Subsingleton.elim _ _
  pointwise [sinkV]

theorem ld_sink2 (x : Vec Ideal S8x128 .f32) : View.ld x r0_14 = sinkV x ⟨2, by omega⟩ := by
  funext y
  idx_vars y
  obtain rfl : y0 = 0 := Subsingleton.elim _ _
  obtain rfl : y1 = 0 := Subsingleton.elim _ _
  pointwise [sinkV]

theorem ld_sink3 (x : Vec Ideal S8x128 .f32) : View.ld x r0_15 = sinkV x ⟨3, by omega⟩ := by
  funext y
  idx_vars y
  obtain rfl : y0 = 0 := Subsingleton.elim _ _
  obtain rfl : y1 = 0 := Subsingleton.elim _ _
  pointwise [sinkV]

theorem ld_sink4 (x : Vec Ideal S8x128 .f32) : View.ld x r0_16 = sinkV x ⟨4, by omega⟩ := by
  funext y
  idx_vars y
  obtain rfl : y0 = 0 := Subsingleton.elim _ _
  obtain rfl : y1 = 0 := Subsingleton.elim _ _
  pointwise [sinkV]

theorem ld_sink5 (x : Vec Ideal S8x128 .f32) : View.ld x r0_17 = sinkV x ⟨5, by omega⟩ := by
  funext y
  idx_vars y
  obtain rfl : y0 = 0 := Subsingleton.elim _ _
  obtain rfl : y1 = 0 := Subsingleton.elim _ _
  pointwise [sinkV]

theorem ld_sink6 (x : Vec Ideal S8x128 .f32) : View.ld x r0_18 = sinkV x ⟨6, by omega⟩ := by
  funext y
  idx_vars y
  obtain rfl : y0 = 0 := Subsingleton.elim _ _
  obtain rfl : y1 = 0 := Subsingleton.elim _ _
  pointwise [sinkV]

theorem ld_sink7 (x : Vec Ideal S8x128 .f32) : View.ld x r0_19 = sinkV x ⟨7, by omega⟩ := by
  funext y
  idx_vars y
  obtain rfl : y0 = 0 := Subsingleton.elim _ _
  obtain rfl : y1 = 0 := Subsingleton.elim _ _
  pointwise [sinkV]

theorem slicesT : ∀ j : Fin 8, S1024x640.Slices ![128 * j.val, 0] S128x640 := by decide
theorem slicesN : ∀ j : Fin 8, S1024x256.Slices ![128 * j.val, 0] S128x128 := by decide
theorem slicesD : ∀ j : Fin 8, S1024x256.Slices ![128 * j.val, 128] S128x128 := by decide

/-- One batch's scores. -/
def sV (bb : Fin 2) : FVec Ideal S1024x640 .f32 :=
  scoresV k0_pay4 (k0_pay5 (row3 x1 bb) (row3 x2 bb) (row3 x3 bb) (rowX x7 bb)) (colQ x0 bb)
/-- One batch's values, with a column of ones beside each. -/
def vV (bb : Fin 2) : FVec Ideal S640x256 .bf16 := k0_pay12 (row3 x4 bb) (row3 x5 bb) (row3 x6 bb) (rowX x8 bb)
/-- One head's row maxima. -/
def mV (bb : Fin 2) (j : Fin 8) : FVec Ideal S128x1 .f32 :=
  rowMax (k0_pay2 i) (k0_pay3 i) (headT (sV x0 x1 x2 x3 x7 bb) (128 * j.val) (slicesT j)) (sinkV x9 j)
/-- One head's exponentials. -/
def pV (bb : Fin 2) (j : Fin 8) : FVec Ideal S128x640 .bf16 :=
  headP (k0_pay2 i) (k0_pay3 i) (headT (sV x0 x1 x2 x3 x7 bb) (128 * j.val) (slicesT j)) (sinkV x9 j)
/-- One head's sink exponential. -/
def dV (bb : Fin 2) (j : Fin 8) : FVec Ideal S128x1 .f32 :=
  headD (k0_pay2 i) (k0_pay3 i) (headT (sV x0 x1 x2 x3 x7 bb) (128 * j.val) (slicesT j)) (sinkV x9 j)
/-- One head's output. -/
def oV (bb : Fin 2) (j : Fin 8) : FVec Ideal S128x128 .f32 :=
  headO (sumsV (vV x4 x5 x6 x8 bb) (pV i x0 x1 x2 x3 x7 x9 bb)) (128 * j.val) (slicesN j) (slicesD j) (dV i x0 x1 x2 x3 x7 x9 bb j)
/-- One pair of heads' output. -/
def outP (bb : Fin 2) (c : Fin 4) : FVec Ideal S1x128x128 .bf16 :=
  pairO k0_pay4 (oV i x0 x1 x2 x3 x4 x5 x6 x7 x8 x9 bb ⟨2 * c.val, by omega⟩) (oV i x0 x1 x2 x3 x4 x5 x6 x7 x8 x9 bb ⟨2 * c.val + 1, by omega⟩)

/-! ## The body's values are these -/

theorem scores0 : k0_pay207 (F := Ideal) i x0 x1 x2 x3 x4 x5 x6 x7 x8 x9 = sV x0 x1 x2 x3 x7 0 := by
  refine (show k0_pay207 (F := Ideal) i x0 x1 x2 x3 x4 x5 x6 x7 x8 x9 = k0_pay8 k0_pay4 (k0_pay5 (View.ld x1 r0_0) (View.ld x2 r0_0) (View.ld x3 r0_0) (View.ld x7 r0_1)) (View.ld x0 r0_2) (View.ld x0 r0_3) (View.ld x0 r0_4) (View.ld x0 r0_5) from rfl).trans ?_
  rw [ld_row0, ld_row0, ld_row0, ld_ctx0, ld_q0_0, ld_q0_1, ld_q0_2, ld_q0_3]
  rfl

theorem vals0 : k0_pay206 (F := Ideal) i x0 x1 x2 x3 x4 x5 x6 x7 x8 x9 = vV x4 x5 x6 x8 0 := by
  refine (show k0_pay206 (F := Ideal) i x0 x1 x2 x3 x4 x5 x6 x7 x8 x9 = k0_pay12 (View.ld x4 r0_0) (View.ld x5 r0_0) (View.ld x6 r0_0) (View.ld x8 r0_1) from rfl).trans ?_
  rw [ld_row0, ld_row0, ld_row0, ld_ctx0]
  rfl

theorem scores1 : k0_pay209 (F := Ideal) i x0 x1 x2 x3 x4 x5 x6 x7 x8 x9 = sV x0 x1 x2 x3 x7 1 := by
  refine (show k0_pay209 (F := Ideal) i x0 x1 x2 x3 x4 x5 x6 x7 x8 x9 = k0_pay8 k0_pay4 (k0_pay5 (View.ld x1 r0_6) (View.ld x2 r0_6) (View.ld x3 r0_6) (View.ld x7 r0_7)) (View.ld x0 r0_8) (View.ld x0 r0_9) (View.ld x0 r0_10) (View.ld x0 r0_11) from rfl).trans ?_
  rw [ld_row1, ld_row1, ld_row1, ld_ctx1, ld_q1_0, ld_q1_1, ld_q1_2, ld_q1_3]
  rfl

theorem vals1 : k0_pay208 (F := Ideal) i x0 x1 x2 x3 x4 x5 x6 x7 x8 x9 = vV x4 x5 x6 x8 1 := by
  refine (show k0_pay208 (F := Ideal) i x0 x1 x2 x3 x4 x5 x6 x7 x8 x9 = k0_pay12 (View.ld x4 r0_6) (View.ld x5 r0_6) (View.ld x6 r0_6) (View.ld x8 r0_7) from rfl).trans ?_
  rw [ld_row1, ld_row1, ld_row1, ld_ctx1]
  rfl

theorem max0_0 : k0_pay210 (F := Ideal) i x0 x1 x2 x3 x4 x5 x6 x7 x8 x9 = mV i x0 x1 x2 x3 x7 x9 0 ⟨0, by omega⟩ := by
  refine (show k0_pay210 (F := Ideal) i x0 x1 x2 x3 x4 x5 x6 x7 x8 x9 = rowMax (k0_pay2 i) (k0_pay3 i) (headT (k0_pay207 (F := Ideal) i x0 x1 x2 x3 x4 x5 x6 x7 x8 x9) (128 * 0) (slicesT ⟨0, by omega⟩)) (View.ld x9 r0_12) from rfl).trans ?_
  rw [scores0, ld_sink0]
  rfl

theorem prob0_0 : k0_pay236 (F := Ideal) i x0 x1 x2 x3 x4 x5 x6 x7 x8 x9 = pV i x0 x1 x2 x3 x7 x9 0 ⟨0, by omega⟩ := by
  refine (show k0_pay236 (F := Ideal) i x0 x1 x2 x3 x4 x5 x6 x7 x8 x9 = k0_pay132 (part0 (k0_pay2 i) (headT (k0_pay207 (F := Ideal) i x0 x1 x2 x3 x4 x5 x6 x7 x8 x9) (128 * 0) (slicesT ⟨0, by omega⟩))) (part1 (headT (k0_pay207 (F := Ideal) i x0 x1 x2 x3 x4 x5 x6 x7 x8 x9) (128 * 0) (slicesT ⟨0, by omega⟩))) (part2 (k0_pay3 i) (headT (k0_pay207 (F := Ideal) i x0 x1 x2 x3 x4 x5 x6 x7 x8 x9) (128 * 0) (slicesT ⟨0, by omega⟩))) (part3 (headT (k0_pay207 (F := Ideal) i x0 x1 x2 x3 x4 x5 x6 x7 x8 x9) (128 * 0) (slicesT ⟨0, by omega⟩))) (k0_pay210 (F := Ideal) i x0 x1 x2 x3 x4 x5 x6 x7 x8 x9) from rfl).trans ?_
  rw [max0_0, scores0]
  rfl

theorem sink0_0 : k0_pay131 (k0_pay210 (F := Ideal) i x0 x1 x2 x3 x4 x5 x6 x7 x8 x9) (View.ld x9 r0_12) = dV i x0 x1 x2 x3 x7 x9 0 ⟨0, by omega⟩ := by
  rw [max0_0, ld_sink0]
  rfl

theorem max0_1 : k0_pay212 (F := Ideal) i x0 x1 x2 x3 x4 x5 x6 x7 x8 x9 = mV i x0 x1 x2 x3 x7 x9 0 ⟨1, by omega⟩ := by
  refine (show k0_pay212 (F := Ideal) i x0 x1 x2 x3 x4 x5 x6 x7 x8 x9 = rowMax (k0_pay2 i) (k0_pay3 i) (headT (k0_pay207 (F := Ideal) i x0 x1 x2 x3 x4 x5 x6 x7 x8 x9) (128 * 1) (slicesT ⟨1, by omega⟩)) (View.ld x9 r0_13) from rfl).trans ?_
  rw [scores0, ld_sink1]
  rfl

theorem prob0_1 : k0_pay237 (F := Ideal) i x0 x1 x2 x3 x4 x5 x6 x7 x8 x9 = pV i x0 x1 x2 x3 x7 x9 0 ⟨1, by omega⟩ := by
  refine (show k0_pay237 (F := Ideal) i x0 x1 x2 x3 x4 x5 x6 x7 x8 x9 = k0_pay132 (part0 (k0_pay2 i) (headT (k0_pay207 (F := Ideal) i x0 x1 x2 x3 x4 x5 x6 x7 x8 x9) (128 * 1) (slicesT ⟨1, by omega⟩))) (part1 (headT (k0_pay207 (F := Ideal) i x0 x1 x2 x3 x4 x5 x6 x7 x8 x9) (128 * 1) (slicesT ⟨1, by omega⟩))) (part2 (k0_pay3 i) (headT (k0_pay207 (F := Ideal) i x0 x1 x2 x3 x4 x5 x6 x7 x8 x9) (128 * 1) (slicesT ⟨1, by omega⟩))) (part3 (headT (k0_pay207 (F := Ideal) i x0 x1 x2 x3 x4 x5 x6 x7 x8 x9) (128 * 1) (slicesT ⟨1, by omega⟩))) (k0_pay212 (F := Ideal) i x0 x1 x2 x3 x4 x5 x6 x7 x8 x9) from rfl).trans ?_
  rw [max0_1, scores0]
  rfl

theorem sink0_1 : k0_pay133 (k0_pay212 (F := Ideal) i x0 x1 x2 x3 x4 x5 x6 x7 x8 x9) (View.ld x9 r0_13) = dV i x0 x1 x2 x3 x7 x9 0 ⟨1, by omega⟩ := by
  rw [max0_1, ld_sink1]
  rfl

theorem max0_2 : k0_pay213 (F := Ideal) i x0 x1 x2 x3 x4 x5 x6 x7 x8 x9 = mV i x0 x1 x2 x3 x7 x9 0 ⟨2, by omega⟩ := by
  refine (show k0_pay213 (F := Ideal) i x0 x1 x2 x3 x4 x5 x6 x7 x8 x9 = rowMax (k0_pay2 i) (k0_pay3 i) (headT (k0_pay207 (F := Ideal) i x0 x1 x2 x3 x4 x5 x6 x7 x8 x9) (128 * 2) (slicesT ⟨2, by omega⟩)) (View.ld x9 r0_14) from rfl).trans ?_
  rw [scores0, ld_sink2]
  rfl

theorem prob0_2 : k0_pay238 (F := Ideal) i x0 x1 x2 x3 x4 x5 x6 x7 x8 x9 = pV i x0 x1 x2 x3 x7 x9 0 ⟨2, by omega⟩ := by
  refine (show k0_pay238 (F := Ideal) i x0 x1 x2 x3 x4 x5 x6 x7 x8 x9 = k0_pay132 (part0 (k0_pay2 i) (headT (k0_pay207 (F := Ideal) i x0 x1 x2 x3 x4 x5 x6 x7 x8 x9) (128 * 2) (slicesT ⟨2, by omega⟩))) (part1 (headT (k0_pay207 (F := Ideal) i x0 x1 x2 x3 x4 x5 x6 x7 x8 x9) (128 * 2) (slicesT ⟨2, by omega⟩))) (part2 (k0_pay3 i) (headT (k0_pay207 (F := Ideal) i x0 x1 x2 x3 x4 x5 x6 x7 x8 x9) (128 * 2) (slicesT ⟨2, by omega⟩))) (part3 (headT (k0_pay207 (F := Ideal) i x0 x1 x2 x3 x4 x5 x6 x7 x8 x9) (128 * 2) (slicesT ⟨2, by omega⟩))) (k0_pay213 (F := Ideal) i x0 x1 x2 x3 x4 x5 x6 x7 x8 x9) from rfl).trans ?_
  rw [max0_2, scores0]
  rfl

theorem sink0_2 : k0_pay139 (k0_pay213 (F := Ideal) i x0 x1 x2 x3 x4 x5 x6 x7 x8 x9) (View.ld x9 r0_14) = dV i x0 x1 x2 x3 x7 x9 0 ⟨2, by omega⟩ := by
  rw [max0_2, ld_sink2]
  rfl

theorem max0_3 : k0_pay214 (F := Ideal) i x0 x1 x2 x3 x4 x5 x6 x7 x8 x9 = mV i x0 x1 x2 x3 x7 x9 0 ⟨3, by omega⟩ := by
  refine (show k0_pay214 (F := Ideal) i x0 x1 x2 x3 x4 x5 x6 x7 x8 x9 = rowMax (k0_pay2 i) (k0_pay3 i) (headT (k0_pay207 (F := Ideal) i x0 x1 x2 x3 x4 x5 x6 x7 x8 x9) (128 * 3) (slicesT ⟨3, by omega⟩)) (View.ld x9 r0_15) from rfl).trans ?_
  rw [scores0, ld_sink3]
  rfl

theorem prob0_3 : k0_pay239 (F := Ideal) i x0 x1 x2 x3 x4 x5 x6 x7 x8 x9 = pV i x0 x1 x2 x3 x7 x9 0 ⟨3, by omega⟩ := by
  refine (show k0_pay239 (F := Ideal) i x0 x1 x2 x3 x4 x5 x6 x7 x8 x9 = k0_pay132 (part0 (k0_pay2 i) (headT (k0_pay207 (F := Ideal) i x0 x1 x2 x3 x4 x5 x6 x7 x8 x9) (128 * 3) (slicesT ⟨3, by omega⟩))) (part1 (headT (k0_pay207 (F := Ideal) i x0 x1 x2 x3 x4 x5 x6 x7 x8 x9) (128 * 3) (slicesT ⟨3, by omega⟩))) (part2 (k0_pay3 i) (headT (k0_pay207 (F := Ideal) i x0 x1 x2 x3 x4 x5 x6 x7 x8 x9) (128 * 3) (slicesT ⟨3, by omega⟩))) (part3 (headT (k0_pay207 (F := Ideal) i x0 x1 x2 x3 x4 x5 x6 x7 x8 x9) (128 * 3) (slicesT ⟨3, by omega⟩))) (k0_pay214 (F := Ideal) i x0 x1 x2 x3 x4 x5 x6 x7 x8 x9) from rfl).trans ?_
  rw [max0_3, scores0]
  rfl

theorem sink0_3 : k0_pay141 (k0_pay214 (F := Ideal) i x0 x1 x2 x3 x4 x5 x6 x7 x8 x9) (View.ld x9 r0_15) = dV i x0 x1 x2 x3 x7 x9 0 ⟨3, by omega⟩ := by
  rw [max0_3, ld_sink3]
  rfl

theorem max0_4 : k0_pay215 (F := Ideal) i x0 x1 x2 x3 x4 x5 x6 x7 x8 x9 = mV i x0 x1 x2 x3 x7 x9 0 ⟨4, by omega⟩ := by
  refine (show k0_pay215 (F := Ideal) i x0 x1 x2 x3 x4 x5 x6 x7 x8 x9 = rowMax (k0_pay2 i) (k0_pay3 i) (headT (k0_pay207 (F := Ideal) i x0 x1 x2 x3 x4 x5 x6 x7 x8 x9) (128 * 4) (slicesT ⟨4, by omega⟩)) (View.ld x9 r0_16) from rfl).trans ?_
  rw [scores0, ld_sink4]
  rfl

theorem prob0_4 : k0_pay240 (F := Ideal) i x0 x1 x2 x3 x4 x5 x6 x7 x8 x9 = pV i x0 x1 x2 x3 x7 x9 0 ⟨4, by omega⟩ := by
  refine (show k0_pay240 (F := Ideal) i x0 x1 x2 x3 x4 x5 x6 x7 x8 x9 = k0_pay132 (part0 (k0_pay2 i) (headT (k0_pay207 (F := Ideal) i x0 x1 x2 x3 x4 x5 x6 x7 x8 x9) (128 * 4) (slicesT ⟨4, by omega⟩))) (part1 (headT (k0_pay207 (F := Ideal) i x0 x1 x2 x3 x4 x5 x6 x7 x8 x9) (128 * 4) (slicesT ⟨4, by omega⟩))) (part2 (k0_pay3 i) (headT (k0_pay207 (F := Ideal) i x0 x1 x2 x3 x4 x5 x6 x7 x8 x9) (128 * 4) (slicesT ⟨4, by omega⟩))) (part3 (headT (k0_pay207 (F := Ideal) i x0 x1 x2 x3 x4 x5 x6 x7 x8 x9) (128 * 4) (slicesT ⟨4, by omega⟩))) (k0_pay215 (F := Ideal) i x0 x1 x2 x3 x4 x5 x6 x7 x8 x9) from rfl).trans ?_
  rw [max0_4, scores0]
  rfl

theorem sink0_4 : k0_pay143 (k0_pay215 (F := Ideal) i x0 x1 x2 x3 x4 x5 x6 x7 x8 x9) (View.ld x9 r0_16) = dV i x0 x1 x2 x3 x7 x9 0 ⟨4, by omega⟩ := by
  rw [max0_4, ld_sink4]
  rfl

theorem max0_5 : k0_pay216 (F := Ideal) i x0 x1 x2 x3 x4 x5 x6 x7 x8 x9 = mV i x0 x1 x2 x3 x7 x9 0 ⟨5, by omega⟩ := by
  refine (show k0_pay216 (F := Ideal) i x0 x1 x2 x3 x4 x5 x6 x7 x8 x9 = rowMax (k0_pay2 i) (k0_pay3 i) (headT (k0_pay207 (F := Ideal) i x0 x1 x2 x3 x4 x5 x6 x7 x8 x9) (128 * 5) (slicesT ⟨5, by omega⟩)) (View.ld x9 r0_17) from rfl).trans ?_
  rw [scores0, ld_sink5]
  rfl

theorem prob0_5 : k0_pay241 (F := Ideal) i x0 x1 x2 x3 x4 x5 x6 x7 x8 x9 = pV i x0 x1 x2 x3 x7 x9 0 ⟨5, by omega⟩ := by
  refine (show k0_pay241 (F := Ideal) i x0 x1 x2 x3 x4 x5 x6 x7 x8 x9 = k0_pay132 (part0 (k0_pay2 i) (headT (k0_pay207 (F := Ideal) i x0 x1 x2 x3 x4 x5 x6 x7 x8 x9) (128 * 5) (slicesT ⟨5, by omega⟩))) (part1 (headT (k0_pay207 (F := Ideal) i x0 x1 x2 x3 x4 x5 x6 x7 x8 x9) (128 * 5) (slicesT ⟨5, by omega⟩))) (part2 (k0_pay3 i) (headT (k0_pay207 (F := Ideal) i x0 x1 x2 x3 x4 x5 x6 x7 x8 x9) (128 * 5) (slicesT ⟨5, by omega⟩))) (part3 (headT (k0_pay207 (F := Ideal) i x0 x1 x2 x3 x4 x5 x6 x7 x8 x9) (128 * 5) (slicesT ⟨5, by omega⟩))) (k0_pay216 (F := Ideal) i x0 x1 x2 x3 x4 x5 x6 x7 x8 x9) from rfl).trans ?_
  rw [max0_5, scores0]
  rfl

theorem sink0_5 : k0_pay147 (k0_pay216 (F := Ideal) i x0 x1 x2 x3 x4 x5 x6 x7 x8 x9) (View.ld x9 r0_17) = dV i x0 x1 x2 x3 x7 x9 0 ⟨5, by omega⟩ := by
  rw [max0_5, ld_sink5]
  rfl

theorem max0_6 : k0_pay222 (F := Ideal) i x0 x1 x2 x3 x4 x5 x6 x7 x8 x9 = mV i x0 x1 x2 x3 x7 x9 0 ⟨6, by omega⟩ := by
  refine (show k0_pay222 (F := Ideal) i x0 x1 x2 x3 x4 x5 x6 x7 x8 x9 = rowMax (k0_pay2 i) (k0_pay3 i) (headT (k0_pay207 (F := Ideal) i x0 x1 x2 x3 x4 x5 x6 x7 x8 x9) (128 * 6) (slicesT ⟨6, by omega⟩)) (View.ld x9 r0_18) from rfl).trans ?_
  rw [scores0, ld_sink6]
  rfl

theorem prob0_6 : k0_pay242 (F := Ideal) i x0 x1 x2 x3 x4 x5 x6 x7 x8 x9 = pV i x0 x1 x2 x3 x7 x9 0 ⟨6, by omega⟩ := by
  refine (show k0_pay242 (F := Ideal) i x0 x1 x2 x3 x4 x5 x6 x7 x8 x9 = k0_pay132 (part0 (k0_pay2 i) (headT (k0_pay207 (F := Ideal) i x0 x1 x2 x3 x4 x5 x6 x7 x8 x9) (128 * 6) (slicesT ⟨6, by omega⟩))) (part1 (headT (k0_pay207 (F := Ideal) i x0 x1 x2 x3 x4 x5 x6 x7 x8 x9) (128 * 6) (slicesT ⟨6, by omega⟩))) (part2 (k0_pay3 i) (headT (k0_pay207 (F := Ideal) i x0 x1 x2 x3 x4 x5 x6 x7 x8 x9) (128 * 6) (slicesT ⟨6, by omega⟩))) (part3 (headT (k0_pay207 (F := Ideal) i x0 x1 x2 x3 x4 x5 x6 x7 x8 x9) (128 * 6) (slicesT ⟨6, by omega⟩))) (k0_pay222 (F := Ideal) i x0 x1 x2 x3 x4 x5 x6 x7 x8 x9) from rfl).trans ?_
  rw [max0_6, scores0]
  rfl

theorem sink0_6 : k0_pay149 (k0_pay222 (F := Ideal) i x0 x1 x2 x3 x4 x5 x6 x7 x8 x9) (View.ld x9 r0_18) = dV i x0 x1 x2 x3 x7 x9 0 ⟨6, by omega⟩ := by
  rw [max0_6, ld_sink6]
  rfl

theorem max0_7 : k0_pay223 (F := Ideal) i x0 x1 x2 x3 x4 x5 x6 x7 x8 x9 = mV i x0 x1 x2 x3 x7 x9 0 ⟨7, by omega⟩ := by
  refine (show k0_pay223 (F := Ideal) i x0 x1 x2 x3 x4 x5 x6 x7 x8 x9 = rowMax (k0_pay2 i) (k0_pay3 i) (headT (k0_pay207 (F := Ideal) i x0 x1 x2 x3 x4 x5 x6 x7 x8 x9) (128 * 7) (slicesT ⟨7, by omega⟩)) (View.ld x9 r0_19) from rfl).trans ?_
  rw [scores0, ld_sink7]
  rfl

theorem prob0_7 : k0_pay243 (F := Ideal) i x0 x1 x2 x3 x4 x5 x6 x7 x8 x9 = pV i x0 x1 x2 x3 x7 x9 0 ⟨7, by omega⟩ := by
  refine (show k0_pay243 (F := Ideal) i x0 x1 x2 x3 x4 x5 x6 x7 x8 x9 = k0_pay132 (part0 (k0_pay2 i) (headT (k0_pay207 (F := Ideal) i x0 x1 x2 x3 x4 x5 x6 x7 x8 x9) (128 * 7) (slicesT ⟨7, by omega⟩))) (part1 (headT (k0_pay207 (F := Ideal) i x0 x1 x2 x3 x4 x5 x6 x7 x8 x9) (128 * 7) (slicesT ⟨7, by omega⟩))) (part2 (k0_pay3 i) (headT (k0_pay207 (F := Ideal) i x0 x1 x2 x3 x4 x5 x6 x7 x8 x9) (128 * 7) (slicesT ⟨7, by omega⟩))) (part3 (headT (k0_pay207 (F := Ideal) i x0 x1 x2 x3 x4 x5 x6 x7 x8 x9) (128 * 7) (slicesT ⟨7, by omega⟩))) (k0_pay223 (F := Ideal) i x0 x1 x2 x3 x4 x5 x6 x7 x8 x9) from rfl).trans ?_
  rw [max0_7, scores0]
  rfl

theorem sink0_7 : k0_pay155 (k0_pay223 (F := Ideal) i x0 x1 x2 x3 x4 x5 x6 x7 x8 x9) (View.ld x9 r0_19) = dV i x0 x1 x2 x3 x7 x9 0 ⟨7, by omega⟩ := by
  rw [max0_7, ld_sink7]
  rfl

theorem max1_0' (ok0 ok2 : IVec S128x128 1) (S : FVec Ideal S1024x640 .f32) (k : Vec Ideal S1x1 .f32) :
    k0_pay81 (k0_pay80 ok0 ok2 S) k = rowMax ok0 ok2 (headT S (128 * 0) (slicesT ⟨0, by omega⟩)) k := by
  unfold_payloads
  unfold rowMax part0 part1 part2 part3 headT
  rfl

theorem max1_0 : k0_pay224 (F := Ideal) i x0 x1 x2 x3 x4 x5 x6 x7 x8 x9 = mV i x0 x1 x2 x3 x7 x9 1 ⟨0, by omega⟩ := by
  refine (show k0_pay224 (F := Ideal) i x0 x1 x2 x3 x4 x5 x6 x7 x8 x9 = rowMax (k0_pay2 i) (k0_pay3 i) (headT (k0_pay209 (F := Ideal) i x0 x1 x2 x3 x4 x5 x6 x7 x8 x9) (128 * 0) (slicesT ⟨0, by omega⟩)) (View.ld x9 r0_12) from max1_0' _ _ _ _).trans ?_
  rw [scores1, ld_sink0]
  rfl

theorem prob1_0 : k0_pay244 (F := Ideal) i x0 x1 x2 x3 x4 x5 x6 x7 x8 x9 = pV i x0 x1 x2 x3 x7 x9 1 ⟨0, by omega⟩ := by
  refine (show k0_pay244 (F := Ideal) i x0 x1 x2 x3 x4 x5 x6 x7 x8 x9 = k0_pay132 (part0 (k0_pay2 i) (headT (k0_pay209 (F := Ideal) i x0 x1 x2 x3 x4 x5 x6 x7 x8 x9) (128 * 0) (slicesT ⟨0, by omega⟩))) (part1 (headT (k0_pay209 (F := Ideal) i x0 x1 x2 x3 x4 x5 x6 x7 x8 x9) (128 * 0) (slicesT ⟨0, by omega⟩))) (part2 (k0_pay3 i) (headT (k0_pay209 (F := Ideal) i x0 x1 x2 x3 x4 x5 x6 x7 x8 x9) (128 * 0) (slicesT ⟨0, by omega⟩))) (part3 (headT (k0_pay209 (F := Ideal) i x0 x1 x2 x3 x4 x5 x6 x7 x8 x9) (128 * 0) (slicesT ⟨0, by omega⟩))) (k0_pay224 (F := Ideal) i x0 x1 x2 x3 x4 x5 x6 x7 x8 x9) from rfl).trans ?_
  rw [max1_0, scores1]
  rfl

theorem sink1_0 : k0_pay157 (k0_pay224 (F := Ideal) i x0 x1 x2 x3 x4 x5 x6 x7 x8 x9) (View.ld x9 r0_12) = dV i x0 x1 x2 x3 x7 x9 1 ⟨0, by omega⟩ := by
  rw [max1_0, ld_sink0]
  rfl

theorem max1_1 : k0_pay225 (F := Ideal) i x0 x1 x2 x3 x4 x5 x6 x7 x8 x9 = mV i x0 x1 x2 x3 x7 x9 1 ⟨1, by omega⟩ := by
  refine (show k0_pay225 (F := Ideal) i x0 x1 x2 x3 x4 x5 x6 x7 x8 x9 = rowMax (k0_pay2 i) (k0_pay3 i) (headT (k0_pay209 (F := Ideal) i x0 x1 x2 x3 x4 x5 x6 x7 x8 x9) (128 * 1) (slicesT ⟨1, by omega⟩)) (View.ld x9 r0_13) from rfl).trans ?_
  rw [scores1, ld_sink1]
  rfl

theorem prob1_1 : k0_pay245 (F := Ideal) i x0 x1 x2 x3 x4 x5 x6 x7 x8 x9 = pV i x0 x1 x2 x3 x7 x9 1 ⟨1, by omega⟩ := by
  refine (show k0_pay245 (F := Ideal) i x0 x1 x2 x3 x4 x5 x6 x7 x8 x9 = k0_pay132 (part0 (k0_pay2 i) (headT (k0_pay209 (F := Ideal) i x0 x1 x2 x3 x4 x5 x6 x7 x8 x9) (128 * 1) (slicesT ⟨1, by omega⟩))) (part1 (headT (k0_pay209 (F := Ideal) i x0 x1 x2 x3 x4 x5 x6 x7 x8 x9) (128 * 1) (slicesT ⟨1, by omega⟩))) (part2 (k0_pay3 i) (headT (k0_pay209 (F := Ideal) i x0 x1 x2 x3 x4 x5 x6 x7 x8 x9) (128 * 1) (slicesT ⟨1, by omega⟩))) (part3 (headT (k0_pay209 (F := Ideal) i x0 x1 x2 x3 x4 x5 x6 x7 x8 x9) (128 * 1) (slicesT ⟨1, by omega⟩))) (k0_pay225 (F := Ideal) i x0 x1 x2 x3 x4 x5 x6 x7 x8 x9) from rfl).trans ?_
  rw [max1_1, scores1]
  rfl

theorem sink1_1 : k0_pay159 (k0_pay225 (F := Ideal) i x0 x1 x2 x3 x4 x5 x6 x7 x8 x9) (View.ld x9 r0_13) = dV i x0 x1 x2 x3 x7 x9 1 ⟨1, by omega⟩ := by
  rw [max1_1, ld_sink1]
  rfl

theorem max1_2 : k0_pay226 (F := Ideal) i x0 x1 x2 x3 x4 x5 x6 x7 x8 x9 = mV i x0 x1 x2 x3 x7 x9 1 ⟨2, by omega⟩ := by
  refine (show k0_pay226 (F := Ideal) i x0 x1 x2 x3 x4 x5 x6 x7 x8 x9 = rowMax (k0_pay2 i) (k0_pay3 i) (headT (k0_pay209 (F := Ideal) i x0 x1 x2 x3 x4 x5 x6 x7 x8 x9) (128 * 2) (slicesT ⟨2, by omega⟩)) (View.ld x9 r0_14) from rfl).trans ?_
  rw [scores1, ld_sink2]
  rfl

theorem prob1_2 : k0_pay246 (F := Ideal) i x0 x1 x2 x3 x4 x5 x6 x7 x8 x9 = pV i x0 x1 x2 x3 x7 x9 1 ⟨2, by omega⟩ := by
  refine (show k0_pay246 (F := Ideal) i x0 x1 x2 x3 x4 x5 x6 x7 x8 x9 = k0_pay132 (part0 (k0_pay2 i) (headT (k0_pay209 (F := Ideal) i x0 x1 x2 x3 x4 x5 x6 x7 x8 x9) (128 * 2) (slicesT ⟨2, by omega⟩))) (part1 (headT (k0_pay209 (F := Ideal) i x0 x1 x2 x3 x4 x5 x6 x7 x8 x9) (128 * 2) (slicesT ⟨2, by omega⟩))) (part2 (k0_pay3 i) (headT (k0_pay209 (F := Ideal) i x0 x1 x2 x3 x4 x5 x6 x7 x8 x9) (128 * 2) (slicesT ⟨2, by omega⟩))) (part3 (headT (k0_pay209 (F := Ideal) i x0 x1 x2 x3 x4 x5 x6 x7 x8 x9) (128 * 2) (slicesT ⟨2, by omega⟩))) (k0_pay226 (F := Ideal) i x0 x1 x2 x3 x4 x5 x6 x7 x8 x9) from rfl).trans ?_
  rw [max1_2, scores1]
  rfl

theorem sink1_2 : k0_pay164 (k0_pay226 (F := Ideal) i x0 x1 x2 x3 x4 x5 x6 x7 x8 x9) (View.ld x9 r0_14) = dV i x0 x1 x2 x3 x7 x9 1 ⟨2, by omega⟩ := by
  rw [max1_2, ld_sink2]
  rfl

theorem max1_3 : k0_pay230 (F := Ideal) i x0 x1 x2 x3 x4 x5 x6 x7 x8 x9 = mV i x0 x1 x2 x3 x7 x9 1 ⟨3, by omega⟩ := by
  refine (show k0_pay230 (F := Ideal) i x0 x1 x2 x3 x4 x5 x6 x7 x8 x9 = rowMax (k0_pay2 i) (k0_pay3 i) (headT (k0_pay209 (F := Ideal) i x0 x1 x2 x3 x4 x5 x6 x7 x8 x9) (128 * 3) (slicesT ⟨3, by omega⟩)) (View.ld x9 r0_15) from rfl).trans ?_
  rw [scores1, ld_sink3]
  rfl

theorem prob1_3 : k0_pay247 (F := Ideal) i x0 x1 x2 x3 x4 x5 x6 x7 x8 x9 = pV i x0 x1 x2 x3 x7 x9 1 ⟨3, by omega⟩ := by
  refine (show k0_pay247 (F := Ideal) i x0 x1 x2 x3 x4 x5 x6 x7 x8 x9 = k0_pay132 (part0 (k0_pay2 i) (headT (k0_pay209 (F := Ideal) i x0 x1 x2 x3 x4 x5 x6 x7 x8 x9) (128 * 3) (slicesT ⟨3, by omega⟩))) (part1 (headT (k0_pay209 (F := Ideal) i x0 x1 x2 x3 x4 x5 x6 x7 x8 x9) (128 * 3) (slicesT ⟨3, by omega⟩))) (part2 (k0_pay3 i) (headT (k0_pay209 (F := Ideal) i x0 x1 x2 x3 x4 x5 x6 x7 x8 x9) (128 * 3) (slicesT ⟨3, by omega⟩))) (part3 (headT (k0_pay209 (F := Ideal) i x0 x1 x2 x3 x4 x5 x6 x7 x8 x9) (128 * 3) (slicesT ⟨3, by omega⟩))) (k0_pay230 (F := Ideal) i x0 x1 x2 x3 x4 x5 x6 x7 x8 x9) from rfl).trans ?_
  rw [max1_3, scores1]
  rfl

theorem sink1_3 : k0_pay166 (k0_pay230 (F := Ideal) i x0 x1 x2 x3 x4 x5 x6 x7 x8 x9) (View.ld x9 r0_15) = dV i x0 x1 x2 x3 x7 x9 1 ⟨3, by omega⟩ := by
  rw [max1_3, ld_sink3]
  rfl

theorem max1_4 : k0_pay231 (F := Ideal) i x0 x1 x2 x3 x4 x5 x6 x7 x8 x9 = mV i x0 x1 x2 x3 x7 x9 1 ⟨4, by omega⟩ := by
  refine (show k0_pay231 (F := Ideal) i x0 x1 x2 x3 x4 x5 x6 x7 x8 x9 = rowMax (k0_pay2 i) (k0_pay3 i) (headT (k0_pay209 (F := Ideal) i x0 x1 x2 x3 x4 x5 x6 x7 x8 x9) (128 * 4) (slicesT ⟨4, by omega⟩)) (View.ld x9 r0_16) from rfl).trans ?_
  rw [scores1, ld_sink4]
  rfl

theorem prob1_4 : k0_pay248 (F := Ideal) i x0 x1 x2 x3 x4 x5 x6 x7 x8 x9 = pV i x0 x1 x2 x3 x7 x9 1 ⟨4, by omega⟩ := by
  refine (show k0_pay248 (F := Ideal) i x0 x1 x2 x3 x4 x5 x6 x7 x8 x9 = k0_pay132 (part0 (k0_pay2 i) (headT (k0_pay209 (F := Ideal) i x0 x1 x2 x3 x4 x5 x6 x7 x8 x9) (128 * 4) (slicesT ⟨4, by omega⟩))) (part1 (headT (k0_pay209 (F := Ideal) i x0 x1 x2 x3 x4 x5 x6 x7 x8 x9) (128 * 4) (slicesT ⟨4, by omega⟩))) (part2 (k0_pay3 i) (headT (k0_pay209 (F := Ideal) i x0 x1 x2 x3 x4 x5 x6 x7 x8 x9) (128 * 4) (slicesT ⟨4, by omega⟩))) (part3 (headT (k0_pay209 (F := Ideal) i x0 x1 x2 x3 x4 x5 x6 x7 x8 x9) (128 * 4) (slicesT ⟨4, by omega⟩))) (k0_pay231 (F := Ideal) i x0 x1 x2 x3 x4 x5 x6 x7 x8 x9) from rfl).trans ?_
  rw [max1_4, scores1]
  rfl

theorem sink1_4 : k0_pay168 (k0_pay231 (F := Ideal) i x0 x1 x2 x3 x4 x5 x6 x7 x8 x9) (View.ld x9 r0_16) = dV i x0 x1 x2 x3 x7 x9 1 ⟨4, by omega⟩ := by
  rw [max1_4, ld_sink4]
  rfl

theorem max1_5 : k0_pay233 (F := Ideal) i x0 x1 x2 x3 x4 x5 x6 x7 x8 x9 = mV i x0 x1 x2 x3 x7 x9 1 ⟨5, by omega⟩ := by
  refine (show k0_pay233 (F := Ideal) i x0 x1 x2 x3 x4 x5 x6 x7 x8 x9 = rowMax (k0_pay2 i) (k0_pay3 i) (headT (k0_pay209 (F := Ideal) i x0 x1 x2 x3 x4 x5 x6 x7 x8 x9) (128 * 5) (slicesT ⟨5, by omega⟩)) (View.ld x9 r0_17) from rfl).trans ?_
  rw [scores1, ld_sink5]
  rfl

theorem prob1_5 : k0_pay249 (F := Ideal) i x0 x1 x2 x3 x4 x5 x6 x7 x8 x9 = pV i x0 x1 x2 x3 x7 x9 1 ⟨5, by omega⟩ := by
  refine (show k0_pay249 (F := Ideal) i x0 x1 x2 x3 x4 x5 x6 x7 x8 x9 = k0_pay132 (part0 (k0_pay2 i) (headT (k0_pay209 (F := Ideal) i x0 x1 x2 x3 x4 x5 x6 x7 x8 x9) (128 * 5) (slicesT ⟨5, by omega⟩))) (part1 (headT (k0_pay209 (F := Ideal) i x0 x1 x2 x3 x4 x5 x6 x7 x8 x9) (128 * 5) (slicesT ⟨5, by omega⟩))) (part2 (k0_pay3 i) (headT (k0_pay209 (F := Ideal) i x0 x1 x2 x3 x4 x5 x6 x7 x8 x9) (128 * 5) (slicesT ⟨5, by omega⟩))) (part3 (headT (k0_pay209 (F := Ideal) i x0 x1 x2 x3 x4 x5 x6 x7 x8 x9) (128 * 5) (slicesT ⟨5, by omega⟩))) (k0_pay233 (F := Ideal) i x0 x1 x2 x3 x4 x5 x6 x7 x8 x9) from rfl).trans ?_
  rw [max1_5, scores1]
  rfl

theorem sink1_5 : k0_pay170 (k0_pay233 (F := Ideal) i x0 x1 x2 x3 x4 x5 x6 x7 x8 x9) (View.ld x9 r0_17) = dV i x0 x1 x2 x3 x7 x9 1 ⟨5, by omega⟩ := by
  rw [max1_5, ld_sink5]
  rfl

theorem max1_6 : k0_pay234 (F := Ideal) i x0 x1 x2 x3 x4 x5 x6 x7 x8 x9 = mV i x0 x1 x2 x3 x7 x9 1 ⟨6, by omega⟩ := by
  refine (show k0_pay234 (F := Ideal) i x0 x1 x2 x3 x4 x5 x6 x7 x8 x9 = rowMax (k0_pay2 i) (k0_pay3 i) (headT (k0_pay209 (F := Ideal) i x0 x1 x2 x3 x4 x5 x6 x7 x8 x9) (128 * 6) (slicesT ⟨6, by omega⟩)) (View.ld x9 r0_18) from rfl).trans ?_
  rw [scores1, ld_sink6]
  rfl

theorem prob1_6 : k0_pay250 (F := Ideal) i x0 x1 x2 x3 x4 x5 x6 x7 x8 x9 = pV i x0 x1 x2 x3 x7 x9 1 ⟨6, by omega⟩ := by
  refine (show k0_pay250 (F := Ideal) i x0 x1 x2 x3 x4 x5 x6 x7 x8 x9 = k0_pay132 (part0 (k0_pay2 i) (headT (k0_pay209 (F := Ideal) i x0 x1 x2 x3 x4 x5 x6 x7 x8 x9) (128 * 6) (slicesT ⟨6, by omega⟩))) (part1 (headT (k0_pay209 (F := Ideal) i x0 x1 x2 x3 x4 x5 x6 x7 x8 x9) (128 * 6) (slicesT ⟨6, by omega⟩))) (part2 (k0_pay3 i) (headT (k0_pay209 (F := Ideal) i x0 x1 x2 x3 x4 x5 x6 x7 x8 x9) (128 * 6) (slicesT ⟨6, by omega⟩))) (part3 (headT (k0_pay209 (F := Ideal) i x0 x1 x2 x3 x4 x5 x6 x7 x8 x9) (128 * 6) (slicesT ⟨6, by omega⟩))) (k0_pay234 (F := Ideal) i x0 x1 x2 x3 x4 x5 x6 x7 x8 x9) from rfl).trans ?_
  rw [max1_6, scores1]
  rfl

theorem sink1_6 : k0_pay172 (k0_pay234 (F := Ideal) i x0 x1 x2 x3 x4 x5 x6 x7 x8 x9) (View.ld x9 r0_18) = dV i x0 x1 x2 x3 x7 x9 1 ⟨6, by omega⟩ := by
  rw [max1_6, ld_sink6]
  rfl

theorem max1_7 : k0_pay235 (F := Ideal) i x0 x1 x2 x3 x4 x5 x6 x7 x8 x9 = mV i x0 x1 x2 x3 x7 x9 1 ⟨7, by omega⟩ := by
  refine (show k0_pay235 (F := Ideal) i x0 x1 x2 x3 x4 x5 x6 x7 x8 x9 = rowMax (k0_pay2 i) (k0_pay3 i) (headT (k0_pay209 (F := Ideal) i x0 x1 x2 x3 x4 x5 x6 x7 x8 x9) (128 * 7) (slicesT ⟨7, by omega⟩)) (View.ld x9 r0_19) from rfl).trans ?_
  rw [scores1, ld_sink7]
  rfl

theorem prob1_7 : k0_pay251 (F := Ideal) i x0 x1 x2 x3 x4 x5 x6 x7 x8 x9 = pV i x0 x1 x2 x3 x7 x9 1 ⟨7, by omega⟩ := by
  refine (show k0_pay251 (F := Ideal) i x0 x1 x2 x3 x4 x5 x6 x7 x8 x9 = k0_pay132 (part0 (k0_pay2 i) (headT (k0_pay209 (F := Ideal) i x0 x1 x2 x3 x4 x5 x6 x7 x8 x9) (128 * 7) (slicesT ⟨7, by omega⟩))) (part1 (headT (k0_pay209 (F := Ideal) i x0 x1 x2 x3 x4 x5 x6 x7 x8 x9) (128 * 7) (slicesT ⟨7, by omega⟩))) (part2 (k0_pay3 i) (headT (k0_pay209 (F := Ideal) i x0 x1 x2 x3 x4 x5 x6 x7 x8 x9) (128 * 7) (slicesT ⟨7, by omega⟩))) (part3 (headT (k0_pay209 (F := Ideal) i x0 x1 x2 x3 x4 x5 x6 x7 x8 x9) (128 * 7) (slicesT ⟨7, by omega⟩))) (k0_pay235 (F := Ideal) i x0 x1 x2 x3 x4 x5 x6 x7 x8 x9) from rfl).trans ?_
  rw [max1_7, scores1]
  rfl

theorem sink1_7 : k0_pay178 (k0_pay235 (F := Ideal) i x0 x1 x2 x3 x4 x5 x6 x7 x8 x9) (View.ld x9 r0_19) = dV i x0 x1 x2 x3 x7 x9 1 ⟨7, by omega⟩ := by
  rw [max1_7, ld_sink7]
  rfl

end block

section pieces
variable (low : IVec S128x128 1) (v : FVec Ideal S640x256 .bf16) (p0 p1 p2 p3 p4 p5 p6 p7 : FVec Ideal S128x640 .bf16) (dA dB : FVec Ideal S128x1 .f32)
theorem piece0_0 : k0_pay187 low v dA p0 dB p1 p2 p3 p4 p5 p6 p7 = pairO low (headO (k0_pay180 v p0 p1 p2 p3 p4 p5 p6 p7) (128 * 0) (slicesN ⟨0, by omega⟩) (slicesD ⟨0, by omega⟩) dA) (headO (k0_pay180 v p0 p1 p2 p3 p4 p5 p6 p7) (128 * 1) (slicesN ⟨1, by omega⟩) (slicesD ⟨1, by omega⟩) dB) := rfl

theorem piece0_1 : k0_pay188 low (k0_pay181 v p0 p1 dA p2 p3 p4 p5 p6 p7) (k0_pay182 v p0 p1 p2 dB p3 p4 p5 p6 p7) = pairO low (headO (k0_pay180 v p0 p1 p2 p3 p4 p5 p6 p7) (128 * 2) (slicesN ⟨2, by omega⟩) (slicesD ⟨2, by omega⟩) dA) (headO (k0_pay180 v p0 p1 p2 p3 p4 p5 p6 p7) (128 * 3) (slicesN ⟨3, by omega⟩) (slicesD ⟨3, by omega⟩) dB) := rfl

theorem piece0_2 : k0_pay189 low (k0_pay183 v p0 p1 p2 p3 dA p4 p5 p6 p7) (k0_pay184 v p0 p1 p2 p3 p4 dB p5 p6 p7) = pairO low (headO (k0_pay180 v p0 p1 p2 p3 p4 p5 p6 p7) (128 * 4) (slicesN ⟨4, by omega⟩) (slicesD ⟨4, by omega⟩) dA) (headO (k0_pay180 v p0 p1 p2 p3 p4 p5 p6 p7) (128 * 5) (slicesN ⟨5, by omega⟩) (slicesD ⟨5, by omega⟩) dB) := rfl

theorem piece0_3 : k0_pay190 low (k0_pay185 v p0 p1 p2 p3 p4 p5 dA p6 p7) (k0_pay186 v p0 p1 p2 p3 p4 p5 p6 dB p7) = pairO low (headO (k0_pay180 v p0 p1 p2 p3 p4 p5 p6 p7) (128 * 6) (slicesN ⟨6, by omega⟩) (slicesD ⟨6, by omega⟩) dA) (headO (k0_pay180 v p0 p1 p2 p3 p4 p5 p6 p7) (128 * 7) (slicesN ⟨7, by omega⟩) (slicesD ⟨7, by omega⟩) dB) := rfl

theorem piece1_0 : k0_pay199 low (k0_pay192 v dA p0 p1 p2 p3 p4 p5 p6 p7) (k0_pay193 v p0 dB p1 p2 p3 p4 p5 p6 p7) = pairO low (headO (k0_pay180 v p0 p1 p2 p3 p4 p5 p6 p7) (128 * 0) (slicesN ⟨0, by omega⟩) (slicesD ⟨0, by omega⟩) dA) (headO (k0_pay180 v p0 p1 p2 p3 p4 p5 p6 p7) (128 * 1) (slicesN ⟨1, by omega⟩) (slicesD ⟨1, by omega⟩) dB) := rfl

theorem piece1_1 : k0_pay200 low (k0_pay194 v p0 p1 dA p2 p3 p4 p5 p6 p7) (k0_pay195 v p0 p1 p2 dB p3 p4 p5 p6 p7) = pairO low (headO (k0_pay180 v p0 p1 p2 p3 p4 p5 p6 p7) (128 * 2) (slicesN ⟨2, by omega⟩) (slicesD ⟨2, by omega⟩) dA) (headO (k0_pay180 v p0 p1 p2 p3 p4 p5 p6 p7) (128 * 3) (slicesN ⟨3, by omega⟩) (slicesD ⟨3, by omega⟩) dB) := rfl

theorem piece1_2 : k0_pay201 low (k0_pay196 v p0 p1 p2 p3 dA p4 p5 p6 p7) (k0_pay197 v p0 p1 p2 p3 p4 p5 p6 p7) (k0_pay198 v p0 p1 p2 p3 p4 dB p5 p6 p7) = pairO low (headO (k0_pay180 v p0 p1 p2 p3 p4 p5 p6 p7) (128 * 4) (slicesN ⟨4, by omega⟩) (slicesD ⟨4, by omega⟩) dA) (headO (k0_pay180 v p0 p1 p2 p3 p4 p5 p6 p7) (128 * 5) (slicesN ⟨5, by omega⟩) (slicesD ⟨5, by omega⟩) dB) := rfl

theorem piece1_3 : k0_pay1 (k0_pay202 low dA dB (k0_pay191 v p0 p1 p2 p3 p4 p5 p6 p7)) = pairO low (headO (k0_pay180 v p0 p1 p2 p3 p4 p5 p6 p7) (128 * 6) (slicesN ⟨6, by omega⟩) (slicesD ⟨6, by omega⟩) dA) (headO (k0_pay180 v p0 p1 p2 p3 p4 p5 p6 p7) (128 * 7) (slicesN ⟨7, by omega⟩) (slicesD ⟨7, by omega⟩) dB) := rfl

end pieces

section block
variable (i : grid0.Coords) (x0 : Vec Ideal S2x128x512 .bf16) (x1 x2 x3 x4 x5 x6 : Vec Ideal S2x128x128 .bf16) (x7 x8 : Vec Ideal S2x256x128 .bf16) (x9 : Vec Ideal S8x128 .f32)

/-- The result's block, index by index: each batch's and each pair of heads' output at its lanes. -/
def blkOut (y : S2x128x512.Idx) : EReal :=
  outP i x0 x1 x2 x3 x4 x5 x6 x7 x8 x9 (y 0) ⟨(y 2).val / 128, by have h : (y 2).val < 512 := (y 2).isLt; omega⟩
    (ix3 0 (y 1) ⟨(y 2).val % 128, by omega⟩)

/-- What the body leaves is each batch's and each pair of heads' output, side by side. -/
theorem out_pieces : out0_10 (F := Ideal) i x0 x1 x2 x3 x4 x5 x6 x7 x8 x9 = View.canon [⟨r0_11, outP i x0 x1 x2 x3 x4 x5 x6 x7 x8 x9 1 ⟨3, by omega⟩⟩, ⟨r0_10, outP i x0 x1 x2 x3 x4 x5 x6 x7 x8 x9 1 ⟨2, by omega⟩⟩, ⟨r0_9, outP i x0 x1 x2 x3 x4 x5 x6 x7 x8 x9 1 ⟨1, by omega⟩⟩, ⟨r0_8, outP i x0 x1 x2 x3 x4 x5 x6 x7 x8 x9 1 ⟨0, by omega⟩⟩, ⟨r0_5, outP i x0 x1 x2 x3 x4 x5 x6 x7 x8 x9 0 ⟨3, by omega⟩⟩, ⟨r0_4, outP i x0 x1 x2 x3 x4 x5 x6 x7 x8 x9 0 ⟨2, by omega⟩⟩, ⟨r0_3, outP i x0 x1 x2 x3 x4 x5 x6 x7 x8 x9 0 ⟨1, by omega⟩⟩, ⟨r0_2, outP i x0 x1 x2 x3 x4 x5 x6 x7 x8 x9 0 ⟨0, by omega⟩⟩] := by
  unfold out0_10
  rw [piece1_3, sink1_6, sink1_7]
  rw [piece1_2, sink1_4, sink1_5]
  rw [piece1_1, sink1_2, sink1_3]
  rw [piece1_0, sink1_0, sink1_1]
  rw [piece0_3, sink0_6, sink0_7]
  rw [piece0_2, sink0_4, sink0_5]
  rw [piece0_1, sink0_2, sink0_3]
  rw [piece0_0, sink0_0, sink0_1]
  rw [prob0_0, prob0_1, prob0_2, prob0_3, prob0_4, prob0_5, prob0_6, prob0_7, prob1_0, prob1_1, prob1_2, prob1_3, prob1_4, prob1_5, prob1_6, prob1_7, vals0, vals1]
  rfl

/-- What the body leaves, read. -/
theorem out10_apply (y : S2x128x512.Idx) : out0_10 (F := Ideal) i x0 x1 x2 x3 x4 x5 x6 x7 x8 x9 y = blkOut i x0 x1 x2 x3 x4 x5 x6 x7 x8 x9 y := by
  rw [out_pieces]
  refine View.canon_apply_of_pieces (Val := Elt Ideal) (blkOut i x0 x1 x2 x3 x4 x5 x6 x7 x8 x9) _ ?_ y (cover0_10 (_) (_) (_) (_) (_) (_) (_) (_) y)
  intro pc hpc
  simp only [List.mem_cons, List.not_mem_nil, or_false] at hpc
  have hP : ∀ (bb : Fin 2) (a a' l l' : Nat) (ha : a < 4) (ha' : a' < 4) (hl : l < 128) (hl' : l' < 128) (r : Fin 128), a = a' → l = l' →
      outP i x0 x1 x2 x3 x4 x5 x6 x7 x8 x9 bb ⟨a, ha⟩ (ix3 0 r ⟨l, hl⟩) = outP i x0 x1 x2 x3 x4 x5 x6 x7 x8 x9 bb ⟨a', ha'⟩ (ix3 0 r ⟨l', hl'⟩) := by
    rintro bb a _ l _ ha _ hl _ r rfl rfl
    rfl
  rcases hpc with rfl | rfl | rfl | rfl | rfl | rfl | rfl | rfl
  · intro z
    change _ = View.ld (Val := Elt Ideal) (e' := .bf16) (blkOut i x0 x1 x2 x3 x4 x5 x6 x7 x8 x9) _ z
    idx_vars z
    obtain rfl : z0 = 0 := Subsingleton.elim _ _
    pointwise [blkOut]
    exact hP 1 3 _ z2.val _ _ _ z2.isLt _ z1 (by omega) (by omega)
  · intro z
    change _ = View.ld (Val := Elt Ideal) (e' := .bf16) (blkOut i x0 x1 x2 x3 x4 x5 x6 x7 x8 x9) _ z
    idx_vars z
    obtain rfl : z0 = 0 := Subsingleton.elim _ _
    pointwise [blkOut]
    exact hP 1 2 _ z2.val _ _ _ z2.isLt _ z1 (by omega) (by omega)
  · intro z
    change _ = View.ld (Val := Elt Ideal) (e' := .bf16) (blkOut i x0 x1 x2 x3 x4 x5 x6 x7 x8 x9) _ z
    idx_vars z
    obtain rfl : z0 = 0 := Subsingleton.elim _ _
    pointwise [blkOut]
    exact hP 1 1 _ z2.val _ _ _ z2.isLt _ z1 (by omega) (by omega)
  · intro z
    change _ = View.ld (Val := Elt Ideal) (e' := .bf16) (blkOut i x0 x1 x2 x3 x4 x5 x6 x7 x8 x9) _ z
    idx_vars z
    obtain rfl : z0 = 0 := Subsingleton.elim _ _
    pointwise [blkOut]
    exact hP 1 0 _ z2.val _ _ _ z2.isLt _ z1 (by omega) (by omega)
  · intro z
    change _ = View.ld (Val := Elt Ideal) (e' := .bf16) (blkOut i x0 x1 x2 x3 x4 x5 x6 x7 x8 x9) _ z
    idx_vars z
    obtain rfl : z0 = 0 := Subsingleton.elim _ _
    pointwise [blkOut]
    exact hP 0 3 _ z2.val _ _ _ z2.isLt _ z1 (by omega) (by omega)
  · intro z
    change _ = View.ld (Val := Elt Ideal) (e' := .bf16) (blkOut i x0 x1 x2 x3 x4 x5 x6 x7 x8 x9) _ z
    idx_vars z
    obtain rfl : z0 = 0 := Subsingleton.elim _ _
    pointwise [blkOut]
    exact hP 0 2 _ z2.val _ _ _ z2.isLt _ z1 (by omega) (by omega)
  · intro z
    change _ = View.ld (Val := Elt Ideal) (e' := .bf16) (blkOut i x0 x1 x2 x3 x4 x5 x6 x7 x8 x9) _ z
    idx_vars z
    obtain rfl : z0 = 0 := Subsingleton.elim _ _
    pointwise [blkOut]
    exact hP 0 1 _ z2.val _ _ _ z2.isLt _ z1 (by omega) (by omega)
  · intro z
    change _ = View.ld (Val := Elt Ideal) (e' := .bf16) (blkOut i x0 x1 x2 x3 x4 x5 x6 x7 x8 x9) _ z
    idx_vars z
    obtain rfl : z0 = 0 := Subsingleton.elim _ _
    pointwise [blkOut]
    exact hP 0 0 _ z2.val _ _ _ z2.isLt _ z1 (by omega) (by omega)
end block

end Cert.KernelIdeal.RefValue
-- ==== Proof.AttnRef.lean ====
module

public import proofs.«01_k».proof.Defs
public import proofs.«01_k».proof.Proof.Gen.ReferenceIdeal.Run
public import proofs.«01_k».proof.Proof.AttnMath
public import Idealize.ShloMosaic.Lib.Pointwise
public import Idealize.ShloMosaic.Lib.Claim
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

/-! ## The reference's term, in stages -/

/-- The three blocks of rows around each block: the one before it, itself and the one after it, zeros past the ends. -/
def bandV (x : FVec Ideal S2x8192x128 .bf16) : FVec Ideal S2x64x384x2x64 .f32 :=
  (concatenate S2x64x384x2x64 2 [⟨S2x64x128x2x64, ((extractStridedSlice S2x64x128x2x64 ![0, 0, 0, 0, 0] (shapeCast _ (pad S2x8448x2x64 ![0, 128, 0, 0] ![0, 128, 0, 0] ![0, 0, 0, 0] (shapeCast _ (extf .f32 x bitsLt_bf16_f32) shapeCasts_S2x8192x128_S2x8192x2x64) (sitofp .f32 (constantI S_ 32 0#32)) pads_S2x8192x2x64_S2x8448x2x64_000_1281280_000_000 h_S_) shapeCasts_S2x8448x2x64_S2x66x128x2x64) slices_S2x66x128x2x64_S2x64x128x2x64_0_0_0_0_0) : FVec Ideal S2x64x128x2x64 .f32)⟩, ⟨S2x64x128x2x64, ((extractStridedSlice S2x64x128x2x64 ![0, 1, 0, 0, 0] (shapeCast _ (pad S2x8448x2x64 ![0, 128, 0, 0] ![0, 128, 0, 0] ![0, 0, 0, 0] (shapeCast _ (extf .f32 x bitsLt_bf16_f32) shapeCasts_S2x8192x128_S2x8192x2x64) (sitofp .f32 (constantI S_ 32 0#32)) pads_S2x8192x2x64_S2x8448x2x64_000_1281280_000_000 h_S_) shapeCasts_S2x8448x2x64_S2x66x128x2x64) slices_S2x66x128x2x64_S2x64x128x2x64_0_1_0_0_0) : FVec Ideal S2x64x128x2x64 .f32)⟩, ⟨S2x64x128x2x64, ((extractStridedSlice S2x64x128x2x64 ![0, 2, 0, 0, 0] (shapeCast _ (pad S2x8448x2x64 ![0, 128, 0, 0] ![0, 128, 0, 0] ![0, 0, 0, 0] (shapeCast _ (extf .f32 x bitsLt_bf16_f32) shapeCasts_S2x8192x128_S2x8192x2x64) (sitofp .f32 (constantI S_ 32 0#32)) pads_S2x8192x2x64_S2x8448x2x64_000_1281280_000_000 h_S_) shapeCasts_S2x8448x2x64_S2x66x128x2x64) slices_S2x66x128x2x64_S2x64x128x2x64_0_2_0_0_0) : FVec Ideal S2x64x128x2x64 .f32)⟩] concatenates_S2x64x128x2x64_S2x64x128x2x64_S2x64x128x2x64_S2x64x384x2x64_d2)

/-- Which of a block's 384 rows lie in the window of each of its queries and in the sequence. -/
def maskV : IVec S64x128x384 1 :=
  andi (andi (broadcastInDim S64x128x384 ![0, 1, 2] bcast_S1x128x384_S64x128x384_0_1_2 (broadcastInDim S1x128x384 ![1, 2] bcast_S128x384_S1x128x384_1_2 (cmpi .sle (absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0))))) (broadcastInDim S128x384 ![] bcast_S_S128x384 (constantI S_ 32 128#32))))) (broadcastInDim S64x128x384 ![0, 1, 2] bcast_S64x1x384_S64x128x384_0_1_2 (cmpi .sge (addi (broadcastInDim S64x1x384 ![0, 1, 2] bcast_S64x1x1_S64x1x384_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x384 ![0, 1, 2] bcast_S1x1x384_S64x1x384_0_1_2 (broadcastInDim S1x1x384 ![1, 2] bcast_S1x384_S1x1x384_1_2 (broadcastInDim S1x384 ![1] bcast_S384_S1x384_1 (iotaInDim S384 32 0))))) (broadcastInDim S64x1x384 ![] bcast_S_S64x1x384 (constantI S_ 32 0#32))))) (broadcastInDim S64x128x384 ![0, 1, 2] bcast_S64x1x384_S64x128x384_0_1_2 (cmpi .slt (addi (broadcastInDim S64x1x384 ![0, 1, 2] bcast_S64x1x1_S64x1x384_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x384 ![0, 1, 2] bcast_S1x1x384_S64x1x384_0_1_2 (broadcastInDim S1x1x384 ![1, 2] bcast_S1x384_S1x1x384_1_2 (broadcastInDim S1x384 ![1] bcast_S384_S1x384_1 (iotaInDim S384 32 0))))) (broadcastInDim S64x1x384 ![] bcast_S_S64x1x384 (constantI S_ 32 8192#32))))

/-- The logits: the window's, the context's and the sink's. -/
def logitsV (q : FVec Ideal S2x8192x512 .bf16) (k : FVec Ideal S2x8192x128 .bf16) (kx : FVec Ideal S2x256x128 .bf16) (s : FVec Ideal S8x128 .f32) :
    FVec Ideal S2x64x2x4x128x641 .f32 :=
  concatenate S2x64x2x4x128x641 5 [⟨S2x64x2x4x128x640, (concatenate S2x64x2x4x128x640 5 [⟨S2x64x2x4x128x384, (select (broadcastInDim S2x64x2x4x128x384 ![0, 1, 2, 3, 4, 5] bcast_S1x64x1x1x128x384_S2x64x2x4x128x384_0_1_2_3_4_5 (broadcastInDim S1x64x1x1x128x384 ![1, 4, 5] bcast_S64x128x384_S1x64x1x1x128x384_1_4_5 maskV)) (transpose S2x64x2x4x128x384 [0, 1, 2, 5, 4, 3] (Host.dotGeneral dot_S2x64x384x2x64_S2x64x128x4x2x64_S2x64x2x384x128x4_4_5_2_23_013_014 none (bandV k) (shapeCast _ (extf .f32 q bitsLt_bf16_f32) shapeCasts_S2x8192x512_S2x64x128x4x2x64)) transposes_S2x64x2x384x128x4_S2x64x2x4x128x384_0_1_2_5_4_3) (broadcastInDim S2x64x2x4x128x384 ![] bcast_S_S2x64x2x4x128x384 (id (constant S_ .f32 0xFF800000#32))))⟩, ⟨S2x64x2x4x128x256, (transpose S2x64x2x4x128x256 [0, 3, 1, 5, 4, 2] (Host.dotGeneral dot_S2x256x2x64_S2x64x128x4x2x64_S2x2x256x64x128x4_3_5_1_123_02_04 none (shapeCast _ (extf .f32 kx bitsLt_bf16_f32) shapeCasts_S2x256x128_S2x256x2x64) (shapeCast _ (extf .f32 q bitsLt_bf16_f32) shapeCasts_S2x8192x512_S2x64x128x4x2x64)) transposes_S2x2x256x64x128x4_S2x64x2x4x128x256_0_3_1_5_4_2)⟩] concatenates_S2x64x2x4x128x384_S2x64x2x4x128x256_S2x64x2x4x128x640_d5)⟩, ⟨S2x64x2x4x128x1, (broadcastInDim S2x64x2x4x128x1 ![2, 3, 4, 5] bcast_S2x4x1x1_S2x64x2x4x128x1_2_3_4_5 (shapeCast _ (transpose S2x4 [1, 0] (shapeCast _ (shapeCast _ (extractStridedSlice S8x1 ![0, 0] s slices_S8x128_S8x1_0_0) shapeCasts_S8x1_S8) shapeCasts_S8_S4x2) transposes_S4x2_S2x4_1_0) shapeCasts_S2x4_S2x4x1x1))⟩] concatenates_S2x64x2x4x128x640_S2x64x2x4x128x1_S2x64x2x4x128x641_d5

/-- The row maxima of the logits. -/
def maxV (L : FVec Ideal S2x64x2x4x128x641 .f32) : FVec Ideal S2x64x2x4x128 .f32 :=
  maximumf (broadcastInDim S2x64x2x4x128 ![] bcast_S_S2x64x2x4x128 (constant S_ .f32 0xFF800000#32)) (Host.reduce FloatOps.maximumf L (constant S_ .f32 0xFF800000#32) reducesTo_S2x64x2x4x128x641_S2x64x2x4x128_d5 h_S_)

/-- The exponentials of the logits less their row maximum. -/
def expV (L : FVec Ideal S2x64x2x4x128x641 .f32) : FVec Ideal S2x64x2x4x128x641 .f32 :=
  Host.exp (subf L (broadcastInDim S2x64x2x4x128x641 ![0, 1, 2, 3, 4, 5] bcast_S2x64x2x4x128x1_S2x64x2x4x128x641_0_1_2_3_4_5 (broadcastInDim S2x64x2x4x128x1 ![0, 1, 2, 3, 4] bcast_S2x64x2x4x128_S2x64x2x4x128x1_0_1_2_3_4 (maxV L))))

/-- The softmax of the logits. -/
def probV (L : FVec Ideal S2x64x2x4x128x641 .f32) : FVec Ideal S2x64x2x4x128x641 .f32 :=
  Host.divf (expV L) (broadcastInDim S2x64x2x4x128x641 ![0, 1, 2, 3, 4, 5] bcast_S2x64x2x4x128x1_S2x64x2x4x128x641_0_1_2_3_4_5 (broadcastInDim S2x64x2x4x128x1 ![0, 1, 2, 3, 4] bcast_S2x64x2x4x128_S2x64x2x4x128x1_0_1_2_3_4 (Host.reduceAdd (expV L) (constant S_ .f32 0x00000000#32) reducesTo_S2x64x2x4x128x641_S2x64x2x4x128_d5 h_S_)))

/-- The probabilities times the values. -/
def outV (p : FVec Ideal S2x64x2x4x128x641 .f32) (v : FVec Ideal S2x8192x128 .bf16) (vx : FVec Ideal S2x256x128 .bf16) : FVec Ideal S2x8192x512 .bf16 :=
  truncf .bf16 (shapeCast _ (addf (transpose S2x64x128x4x2x64 [0, 1, 5, 4, 2, 3] (Host.dotGeneral dot_S2x64x384x2x64_S2x64x2x4x128x384_S2x64x2x64x4x128_2_5_4_34_013_012 none (bandV v) (extractStridedSlice S2x64x2x4x128x384 ![0, 0, 0, 0, 0, 0] (extractStridedSlice S2x64x2x4x128x640 ![0, 0, 0, 0, 0, 0] p slices_S2x64x2x4x128x641_S2x64x2x4x128x640_0_0_0_0_0_0) slices_S2x64x2x4x128x640_S2x64x2x4x128x384_0_0_0_0_0_0)) transposes_S2x64x2x64x4x128_S2x64x128x4x2x64_0_1_5_4_2_3) (transpose S2x64x128x4x2x64 [0, 3, 5, 4, 1, 2] (Host.dotGeneral dot_S2x256x2x64_S2x64x2x4x128x256_S2x2x64x64x4x128_1_5_3_134_02_02 none (shapeCast _ (extf .f32 vx bitsLt_bf16_f32) shapeCasts_S2x256x128_S2x256x2x64) (extractStridedSlice S2x64x2x4x128x256 ![0, 0, 0, 0, 0, 384] (extractStridedSlice S2x64x2x4x128x640 ![0, 0, 0, 0, 0, 0] p slices_S2x64x2x4x128x641_S2x64x2x4x128x640_0_0_0_0_0_0) slices_S2x64x2x4x128x640_S2x64x2x4x128x256_0_0_0_0_0_384)) transposes_S2x2x64x64x4x128_S2x64x128x4x2x64_0_3_5_4_1_2)) shapeCasts_S2x64x128x4x2x64_S2x8192x512) bitsLt_bf16_f32

variable (m : (ℓ : Loc nD τ sig) → Buf (Elt Ideal) ℓ)

/-- The reference's term is those stages one after the other. -/
theorem res_eq (c : Dev nD) : Value.res_main_v88 m c
    = outV (probV (logitsV (m ((c : Thread nD τ).loc main_arg0)) (m ((c : Thread nD τ).loc main_arg1)) (m ((c : Thread nD τ).loc main_arg3)) (m ((c : Thread nD τ).loc main_arg5))))
        (m ((c : Thread nD τ).loc main_arg2)) (m ((c : Thread nD τ).loc main_arg4)) := by
  unfold Value.res_main_v88 outV probV expV maxV logitsV bandV maskV
  rfl

variable {n0 n1 n2 n3 n4 n5 : Nat}

/-- Rank 6, the last axis reduced: the indices that drop to given first five coordinates are those with a free last one. -/
theorem drop_last_iff (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro hi
    refine ⟨i 5, funext fun x => Fin.ext ?_⟩
    match x with
    | ⟨0, _⟩ => exact (congrArg Fin.val (congrFun hi 0)).symm
    | ⟨1, _⟩ => exact (congrArg Fin.val (congrFun hi 1)).symm
    | ⟨2, _⟩ => exact (congrArg Fin.val (congrFun hi 2)).symm
    | ⟨3, _⟩ => exact (congrArg Fin.val (congrFun hi 3)).symm
    | ⟨4, _⟩ => exact (congrArg Fin.val (congrFun hi 4)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

/-- Rank 6, the last axis reduced: a fold over the indices that drop to given coordinates runs along the last axis. -/
theorem fold_last {α : Type} (h : (⟨6, ![n0, n1, n2, n3, n4, n5]⟩ : Shape).ReducesTo [5] ⟨5, ![n0, n1, n2, n3, n4]⟩)
    (a : Fin n0) (b : Fin n1) (c : Fin n2) (d : Fin n3) (e : Fin n4) (op : α → α → α) [Std.Commutative op] [Std.Associative op]
    (z : α) (f : (⟨6, ![n0, n1, n2, n3, n4, n5]⟩ : Shape).Idx → α) :
    (Finset.univ.filter (fun i => h.drop i = ix5 a b c d e)).fold op z f = (Finset.univ : Finset (Fin n5)).fold op z (fun k => f (ix6 a b c d e k)) :=
  Finset.fold_filter_eq_fold_of_fiber op _ (fun k : Fin n5 => ix6 a b c d e k) (fun _ _ q => congrFun q 5) (drop_last_iff h a b c d e) z f

/-- Rank 6, the last axis reduced: a host maximum at given coordinates is the maximum along the last axis. -/
theorem hostMax_last (h : (⟨6, ![n0, n1, n2, n3, n4, n5]⟩ : Shape).ReducesTo [5] ⟨5, ![n0, n1, n2, n3, n4]⟩)
    (a : Fin n0) (b : Fin n1) (c : Fin n2) (d : Fin n3) (e : Fin n4) (f : (⟨6, ![n0, n1, n2, n3, n4, n5]⟩ : Shape).Idx → EReal)
    (z : S_.Idx → EReal) (hu : 0 < S_.numel) :
    Host.reduce (max : EReal → EReal → EReal) f z h hu (ix5 a b c d e) = (Finset.univ : Finset (Fin n5)).fold max (z (Shape.Idx.first hu)) (fun k => f (ix6 a b c d e k)) :=
  (Host.reduce_eq_fold _ f z h hu _).trans (fold_last h a b c d e max _ f)

/-- Rank 6, the last axis reduced: a host sum at given coordinates is the starting value and the sum along the last axis. -/
theorem hostSum_last (h : (⟨6, ![n0, n1, n2, n3, n4, n5]⟩ : Shape).ReducesTo [5] ⟨5, ![n0, n1, n2, n3, n4]⟩)
    (a : Fin n0) (b : Fin n1) (c : Fin n2) (d : Fin n3) (e : Fin n4) (f : (⟨6, ![n0, n1, n2, n3, n4, n5]⟩ : Shape).Idx → EReal) (z : EReal) :
    Ideal.hostReduceAdd h f z (ix5 a b c d e) = z + ∑ k : Fin n5, f (ix6 a b c d e k) := by
  exact congrArg (z + ·) (Finset.sum_filter_eq_sum_of_fiber _ (fun k : Fin n5 => ix6 a b c d e k) (fun _ _ q => congrFun q 5) (drop_last_iff h a b c d e) f)

/-- Rank 6, the last axis reduced: a host maximum of floats at given coordinates is the maximum along the last axis. -/
theorem hostMaxf_last (h : (⟨6, ![n0, n1, n2, n3, n4, n5]⟩ : Shape).ReducesTo [5] ⟨5, ![n0, n1, n2, n3, n4]⟩)
    (a : Fin n0) (b : Fin n1) (c : Fin n2) (d : Fin n3) (e : Fin n4) (f : FVec Ideal ⟨6, ![n0, n1, n2, n3, n4, n5]⟩ .f32)
    (z : FVec Ideal S_ .f32) (hu : 0 < S_.numel) :
    Host.reduce FloatOps.maximumf f z h hu (ix5 a b c d e) = (Finset.univ : Finset (Fin n5)).fold max (z (Shape.Idx.first hu)) (fun k => f (ix6 a b c d e k)) :=
  hostMax_last h a b c d e f z hu

/-- The row maximum, read: the largest logit of the row. -/
theorem max_apply (L : FVec Ideal S2x64x2x4x128x641 .f32) (b : Fin 2) (n : Fin 64) (h : Fin 2) (g : Fin 4) (r : Fin 128) :
    maxV L (ix5 b n h g r) = Finset.univ.sup (fun k : Fin 641 => L (ix6 b n h g r k)) := by
  have h1 : ∀ (X : FVec Ideal S2x64x2x4x128 .f32), maximumf (broadcastInDim S2x64x2x4x128 ![] bcast_S_S2x64x2x4x128 (constant S_ .f32 0xFF800000#32)) X (ix5 b n h g r)
      = max (Ideal.ofBits .f32 4286578688#32) (X (ix5 b n h g r)) := fun X => rfl
  have h2 : (constant S_ .f32 0xFF800000#32 : FVec Ideal S_ .f32) (Shape.Idx.first h_S_) = Ideal.ofBits .f32 4286578688#32 := rfl
  unfold maxV
  rw [h1, hostMaxf_last, h2, AttnMath.fold_max, AttnMath.ofBits_ninf]
  exact max_eq_right bot_le

/-- An exponential, read. -/
theorem exp_apply (L : FVec Ideal S2x64x2x4x128x641 .f32) (b : Fin 2) (n : Fin 64) (h : Fin 2) (g : Fin 4) (r : Fin 128) (j : Fin 641) :
    expV L (ix6 b n h g r j) = Ideal.exp (L (ix6 b n h g r j) - maxV L (ix5 b n h g r)) := by
  unfold expV
  pointwise

/-- A probability, read: the exponential over the sum of the row's. -/
theorem prob_apply (L : FVec Ideal S2x64x2x4x128x641 .f32) (b : Fin 2) (n : Fin 64) (h : Fin 2) (g : Fin 4) (r : Fin 128) (j : Fin 641) :
    probV L (ix6 b n h g r j) = Ideal.div (expV L (ix6 b n h g r j)) (∑ k : Fin 641, expV L (ix6 b n h g r k)) := by
  unfold probV
  pointwise [hostSum_last]

/-! ## The attention's mathematics, over arrays -/

/-- Row `x` of a block's 640 keys or values: the three blocks around it, zeros past the ends, then the context's. -/
def rowAt (k : FVec Ideal S2x8192x128 .bf16) (kx : FVec Ideal S2x256x128 .bf16) (b : Fin 2) (n : Fin 64) (x : Fin 640) (l : Fin 128) : EReal :=
  if hx : x.val < 384 then
    (if hp : 128 ≤ n.val * 128 + x.val ∧ n.val * 128 + x.val < 8320 then k (ix3 b ⟨n.val * 128 + x.val - 128, by omega⟩ l) else 0)
  else kx (ix3 b ⟨x.val - 384, by omega⟩ l)

/-- Whether row `x` of a block's keys is open to the block's query `r`. -/
def okAt (n : Fin 64) (r : Fin 128) (x : Fin 640) : Prop :=
  x.val < 384 → (r.val ≤ x.val ∧ x.val ≤ r.val + 256) ∧ 128 ≤ n.val * 128 + x.val ∧ n.val * 128 + x.val < 8320

instance (n : Fin 64) (r : Fin 128) (x : Fin 640) : Decidable (okAt n r x) := by unfold okAt; infer_instance

/-- The product of query `r` of block `n`, head `2 g + h`, with row `x` of the keys. -/
def dotAt (q : FVec Ideal S2x8192x512 .bf16) (k : FVec Ideal S2x8192x128 .bf16) (kx : FVec Ideal S2x256x128 .bf16) (b : Fin 2) (n : Fin 64)
    (h : Fin 2) (g : Fin 4) (r : Fin 128) (x : Fin 640) : EReal :=
  ∑ y : Fin 64, rowAt k kx b n x ⟨h.val * 64 + y.val, by omega⟩ * q (ix3 b ⟨n.val * 128 + r.val, by omega⟩ ⟨g.val * 128 + h.val * 64 + y.val, by omega⟩)

/-- The masked logits. -/
def logitAt (q : FVec Ideal S2x8192x512 .bf16) (k : FVec Ideal S2x8192x128 .bf16) (kx : FVec Ideal S2x256x128 .bf16) (b : Fin 2) (n : Fin 64)
    (h : Fin 2) (g : Fin 4) (r : Fin 128) (x : Fin 640) : EReal :=
  if okAt n r x then dotAt q k kx b n h g r x else ⊥

/-! ## The stages, read -/

/-- Two choices by equivalent conditions, between equal values. -/
theorem dif_iff {p q : Prop} [Decidable p] [Decidable q] {a : p → EReal} {b : q → EReal} {c d : EReal} (h : p ↔ q) (hab : ∀ hp hq, a hp = b hq) (hcd : c = d) :
    dite p a (fun _ => c) = dite q b (fun _ => d) := by
  by_cases hp : p
  · rw [dif_pos hp, dif_pos (h.1 hp)]
    exact hab _ _
  · rw [dif_neg hp, dif_neg (fun hq => hp (h.2 hq))]
    exact hcd

/-- The band of rows, read. -/
theorem band_apply (x : FVec Ideal S2x8192x128 .bf16) (kx : FVec Ideal S2x256x128 .bf16) (b : Fin 2) (n : Fin 64) (k : Fin 384) (h : Fin 2) (d : Fin 64) :
    bandV x (ix5 b n k h d) = rowAt x kx b n ⟨k.val, by omega⟩ ⟨h.val * 64 + d.val, by omega⟩ := by
  have h0 : (FloatOps.sitofp .f32 (0#32 : BitVec 32) : Ideal .f32) = (0 : EReal) := by
    show (((0#32 : BitVec 32).toInt : ℝ) : EReal) = 0
    simp
  unfold rowAt
  rw [dif_pos (show k.val < 384 from k.isLt)]
  unfold bandV
  pointwise
  have hn := n.isLt
  have hk := k.isLt
  have hx : ∀ (p p' : Nat) (hp : p < 8192) (hp' : p' < 8192) (l : Fin 128), p = p' → x (ix3 b ⟨p, hp⟩ l) = x (ix3 b ⟨p', hp'⟩ l) := by
    rintro p _ hp hp' l rfl
    rfl
  by_cases h1 : k.val < 128
  · rw [dif_pos h1]
    exact dif_iff (by omega) (fun _ _ => rfl) h0
  · rw [dif_neg h1]
    by_cases h2 : k.val - 128 < 128
    · rw [dif_pos h2]
      exact dif_iff (by omega) (fun _ _ => hx _ _ _ _ _ (by omega)) h0
    · rw [dif_neg h2]
      exact dif_iff (by omega) (fun _ _ => hx _ _ _ _ _ (by omega)) h0

/-- The mask, read. -/
theorem mask_apply (n : Fin 64) (q : Fin 128) (k : Fin 384) : maskV (ix3 n q k)
    = BitVec.ofBool (decide (((q.val ≤ k.val ∧ k.val ≤ q.val + 256) ∧ 128 ≤ n.val * 128 + k.val) ∧ n.val * 128 + k.val < 8320)) := by
  have h : maskV (ix3 n q k) = IntOp.andi (IntOp.andi
      (IntOp.cmpi .sle (IntOp.absi (IntOp.subi (IntOp.subi (BitVec.ofNat 32 k.val) 128#32) (BitVec.ofNat 32 q.val))) 128#32)
      (IntOp.cmpi .sge (IntOp.addi (IntOp.subi (IntOp.muli (BitVec.ofNat 32 n.val) 128#32) 128#32) (BitVec.ofNat 32 k.val)) 0#32))
      (IntOp.cmpi .slt (IntOp.addi (IntOp.subi (IntOp.muli (BitVec.ofNat 32 n.val) 128#32) 128#32) (BitVec.ofNat 32 k.val)) 8192#32) := by
    unfold maskV
    pointwise
  rw [h, AttnMath.near_bit, AttnMath.low_bit, AttnMath.high_bit, AttnMath.andi_ofBool, AttnMath.andi_ofBool]
  simp only [Bool.decide_and]

/-- The logits, read: the masked logits, then the sink's. -/
theorem logits_apply (q : FVec Ideal S2x8192x512 .bf16) (k : FVec Ideal S2x8192x128 .bf16) (kx : FVec Ideal S2x256x128 .bf16) (s : FVec Ideal S8x128 .f32)
    (b : Fin 2) (n : Fin 64) (h : Fin 2) (g : Fin 4) (r : Fin 128) (j : Fin 641) :
    logitsV q k kx s (ix6 b n h g r j) = AttnMath.withSink (logitAt q k kx b n h g r) (s (ix2 ⟨g.val * 2 + h.val, by omega⟩ 0)) j := by
  unfold logitsV
  pointwise [band_apply _ kx, mask_apply]
  unfold AttnMath.withSink
  by_cases h1 : j.val < 640
  · rw [dif_pos h1, dif_pos h1]
    unfold logitAt dotAt
    by_cases h2 : j.val < 384
    · rw [dif_pos h2]
      by_cases h3 : ((r.val ≤ j.val ∧ j.val ≤ r.val + 256) ∧ 128 ≤ n.val * 128 + j.val) ∧ n.val * 128 + j.val < 8320
      · rw [if_pos h3, if_pos (show okAt n r ⟨j.val, h1⟩ from fun _ => ⟨h3.1.1, h3.1.2, h3.2⟩)]
      · rw [if_neg h3, if_neg (show ¬ okAt n r ⟨j.val, h1⟩ from fun hc => h3 ⟨⟨(hc h2).1, (hc h2).2.1⟩, (hc h2).2.2⟩)]
        exact AttnMath.ofBits_ninf
    · rw [dif_neg h2, if_pos (show okAt n r ⟨j.val, h1⟩ from fun hc => absurd hc h2)]
      refine Finset.sum_congr rfl fun y _ => ?_
      unfold rowAt
      rw [dif_neg h2]
  · rw [dif_neg h1, dif_neg h1]

/-- The output, read. -/
theorem out_apply (p : FVec Ideal S2x64x2x4x128x641 .f32) (v : FVec Ideal S2x8192x128 .bf16) (vx : FVec Ideal S2x256x128 .bf16)
    (b : Fin 2) (n : Fin 64) (h : Fin 2) (g : Fin 4) (r : Fin 128) (d : Fin 64) :
    outV p v vx (ix3 b ⟨n.val * 128 + r.val, by omega⟩ ⟨g.val * 128 + h.val * 64 + d.val, by omega⟩)
      = (∑ x : Fin 384, rowAt v vx b n ⟨x.val, by omega⟩ ⟨h.val * 64 + d.val, by omega⟩ * p (ix6 b n h g r ⟨x.val, by omega⟩))
        + ∑ x : Fin 256, rowAt v vx b n ⟨384 + x.val, by omega⟩ ⟨h.val * 64 + d.val, by omega⟩ * p (ix6 b n h g r ⟨384 + x.val, by omega⟩) := by
  unfold outV
  pointwise [band_apply _ vx]
  refine congrArg (_ + ·) (Finset.sum_congr rfl fun x _ => ?_)
  unfold rowAt
  rw [dif_neg (show ¬ 384 + x.val < 384 by omega)]
  exact congrArg (· * _) (congrArg vx (congrArg (fun t => ix3 b t _) (Fin.ext (by show x.val = 384 + x.val - 384; omega))))

/-- The reference's result at a query, head and channel: the softmax of the row's logits with the sink's, times the values. -/
theorem ref_apply (c : Dev nD) (b : Fin 2) (n : Fin 64) (h : Fin 2) (g : Fin 4) (r : Fin 128) (d : Fin 64)
    (W : Fin 640 → EReal) (hW : W = logitAt (m ((c : Thread nD τ).loc main_arg0)) (m ((c : Thread nD τ).loc main_arg1)) (m ((c : Thread nD τ).loc main_arg3)) b n h g r)
    (s : EReal) (hs : s = (m ((c : Thread nD τ).loc main_arg5) : FVec Ideal S8x128 .f32) (ix2 ⟨g.val * 2 + h.val, by omega⟩ 0)) :
    (Value.res_main_v88 m c : FVec Ideal S2x8192x512 .bf16) (ix3 b ⟨n.val * 128 + r.val, by omega⟩ ⟨g.val * 128 + h.val * 64 + d.val, by omega⟩)
      = (∑ x : Fin 384, rowAt (m ((c : Thread nD τ).loc main_arg2)) (m ((c : Thread nD τ).loc main_arg4)) b n ⟨x.val, by omega⟩ ⟨h.val * 64 + d.val, by omega⟩
            * Ideal.div (Ideal.exp (W ⟨x.val, by omega⟩ - AttnMath.top W s)) (AttnMath.den W s))
        + ∑ x : Fin 256, rowAt (m ((c : Thread nD τ).loc main_arg2)) (m ((c : Thread nD τ).loc main_arg4)) b n ⟨384 + x.val, by omega⟩ ⟨h.val * 64 + d.val, by omega⟩
            * Ideal.div (Ideal.exp (W ⟨384 + x.val, by omega⟩ - AttnMath.top W s)) (AttnMath.den W s) := by
  subst hW hs
  rw [res_eq, out_apply]
  have hp (j : Fin 640) : probV (logitsV (m ((c : Thread nD τ).loc main_arg0)) (m ((c : Thread nD τ).loc main_arg1)) (m ((c : Thread nD τ).loc main_arg3)) (m ((c : Thread nD τ).loc main_arg5))) (ix6 b n h g r ⟨j.val, by omega⟩)
      = Ideal.div (Ideal.exp (logitAt (m ((c : Thread nD τ).loc main_arg0)) (m ((c : Thread nD τ).loc main_arg1)) (m ((c : Thread nD τ).loc main_arg3)) b n h g r j
          - AttnMath.top (logitAt (m ((c : Thread nD τ).loc main_arg0)) (m ((c : Thread nD τ).loc main_arg1)) (m ((c : Thread nD τ).loc main_arg3)) b n h g r) ((m ((c : Thread nD τ).loc main_arg5) : FVec Ideal S8x128 .f32) (ix2 ⟨g.val * 2 + h.val, by omega⟩ 0))))
        (AttnMath.den (logitAt (m ((c : Thread nD τ).loc main_arg0)) (m ((c : Thread nD τ).loc main_arg1)) (m ((c : Thread nD τ).loc main_arg3)) b n h g r) ((m ((c : Thread nD τ).loc main_arg5) : FVec Ideal S8x128 .f32) (ix2 ⟨g.val * 2 + h.val, by omega⟩ 0))) := by
    rw [prob_apply]
    simp only [exp_apply, max_apply, logits_apply]
    rw [show (Finset.univ.sup fun k : Fin 641 => AttnMath.withSink (logitAt (m ((c : Thread nD τ).loc main_arg0)) (m ((c : Thread nD τ).loc main_arg1)) (m ((c : Thread nD τ).loc main_arg3)) b n h g r) ((m ((c : Thread nD τ).loc main_arg5) : FVec Ideal S8x128 .f32) (ix2 ⟨g.val * 2 + h.val, by omega⟩ 0)) k) = _ from AttnMath.sup_withSink _ _]
    unfold AttnMath.den
    refine congrArg (fun t => Ideal.div (Ideal.exp (t - _)) _) ?_
    unfold AttnMath.withSink
    rw [dif_pos (show (⟨j.val, by omega⟩ : Fin 641).val < 640 from j.isLt)]
  refine congrArg₂ (· + ·) (Finset.sum_congr rfl fun x _ => congrArg (_ * ·) (hp ⟨x.val, by omega⟩)) (Finset.sum_congr rfl fun x _ => congrArg (_ * ·) (hp ⟨384 + x.val, by omega⟩))

end Cert.ReferenceIdeal.RefValue
-- ==== Proof.AttnScore.lean ====
module

public import proofs.«01_k».proof.Defs
public import proofs.«01_k».proof.Proof.AttnBlk
public import proofs.«01_k».proof.Proof.AttnRef

@[expose] public section

set_option maxRecDepth 16384

noncomputable section

open Idealize.ShloMosaic Idealize.ShloMosaic.TcCoe Idealize.SL.Sem

namespace Cert.KernelIdeal.RefValue

open Cert.KernelIdeal Cert.KernelIdeal.Gen
open Cert.ReferenceIdeal.RefValue (okAt)

section read
variable (i : grid0.Coords) (x0 : Vec Ideal S2x128x512 .bf16) (x1 x2 x3 x4 x5 x6 : Vec Ideal S2x128x128 .bf16) (x7 x8 : Vec Ideal S2x256x128 .bf16) (x9 : Vec Ideal S8x128 .f32)

/-- One head's dot product of a query and a row of keys, from the blocks. -/
def dotB (bb : Fin 2) (c : Fin 4) (h : Fin 2) (r : Fin 128) (x : Fin 640) : EReal :=
  ∑ y : Fin 64, krow (row3 x1 bb) (row3 x2 bb) (row3 x3 bb) (rowX x7 bb) x ⟨h.val * 64 + y.val, by omega⟩ * x0 (ix3 bb r ⟨c.val * 128 + h.val * 64 + y.val, by omega⟩)

/-- The scores at a row of the stacked heads: the head's dot product. -/
theorem scores_at (bb : Fin 2) (c : Fin 4) (h : Fin 2) (r : Fin 128) (t : Fin 1024) (x : Fin 640)
    (e1 : t.val / 128 % 2 = h.val) (e2 : t.val / 256 = c.val) (e3 : t.val % 128 = r.val) :
    sV x0 x1 x2 x3 x7 bb (ix2 t x) = dotB x0 x1 x2 x3 x7 bb c h r x := by
  obtain ⟨c, hc⟩ := c
  obtain ⟨r, hr⟩ := r
  obtain rfl : t.val / 256 = c := e2
  obtain rfl : t.val % 128 = r := e3
  unfold sV dotB
  rw [scoresV_apply]
  simp only [keys_apply, low_apply, AttnMath.select_ofBool]
  have hK : ∀ (l l' : Nat) (hl : l < 128) (hl' : l' < 128), l = l' →
      krow (row3 x1 bb) (row3 x2 bb) (row3 x3 bb) (rowX x7 bb) x ⟨l, hl⟩ = krow (row3 x1 bb) (row3 x2 bb) (row3 x3 bb) (rowX x7 bb) x ⟨l', hl'⟩ := by
    rintro l _ hl _ rfl
    rfl
  have hQ : ∀ (l l' : Nat) (hl : l < 128) (hl' : l' < 512), 128 * (t.val / 256) + l = l' →
      colQ x0 bb ⟨t.val / 256, by omega⟩ (ix3 0 ⟨t.val % 128, by omega⟩ ⟨l, hl⟩) = x0 (ix3 bb ⟨t.val % 128, by omega⟩ ⟨l', hl'⟩) := by
    rintro l _ hl _ rfl
    rfl
  have hh := h.isLt
  by_cases hz : h.val = 0
  · have ez : t.val / 128 % 2 = 0 := e1.trans hz
    simp only [if_pos ez]
    refine (AttnMath.sum_low (fun y => colQ x0 bb ⟨t.val / 256, by omega⟩ (ix3 0 ⟨t.val % 128, by omega⟩ y)) (fun y => krow (row3 x1 bb) (row3 x2 bb) (row3 x3 bb) (rowX x7 bb) x y)).trans ?_
    exact Finset.sum_congr rfl fun y _ => congrArg₂ (· * ·) (hK _ _ _ _ (by omega)) (hQ _ _ _ _ (by omega))
  · have ez : ¬ t.val / 128 % 2 = 0 := by omega
    simp only [if_neg ez]
    refine (AttnMath.sum_high (fun y => colQ x0 bb ⟨t.val / 256, by omega⟩ (ix3 0 ⟨t.val % 128, by omega⟩ y)) (fun y => krow (row3 x1 bb) (row3 x2 bb) (row3 x3 bb) (rowX x7 bb) x y)).trans ?_
    exact Finset.sum_congr rfl fun y _ => congrArg₂ (· * ·) (hK _ _ _ _ (by omega)) (hQ _ _ _ _ (by omega))

/-- A head's score is its dot product. -/
theorem score_apply (bb : Fin 2) (c : Fin 4) (h : Fin 2) (j : Fin 8) (hj : j.val = 2 * c.val + h.val) (r : Fin 128) (x : Fin 640) :
    headT (sV x0 x1 x2 x3 x7 bb) (128 * j.val) (slicesT j) (ix2 r x) = dotB x0 x1 x2 x3 x7 bb c h r x := by
  have hjl := j.isLt
  rw [headT_apply _ _ (by omega)]
  exact scores_at x0 x1 x2 x3 x7 bb c h r _ x (by show (128 * j.val + r.val) / 128 % 2 = _; omega)
    (by show (128 * j.val + r.val) / 256 = _; omega) (by show (128 * j.val + r.val) % 128 = _; omega)

/-- A head's masked scores: its dot product where the row lies in the window and in the sequence, minus infinity elsewhere. -/
theorem wv_apply (n : Fin 64) (hn : (i 0).val = n.val) (bb : Fin 2) (c : Fin 4) (h : Fin 2) (j : Fin 8) (hj : j.val = 2 * c.val + h.val) (r : Fin 128) (x : Fin 640) :
    wv (k0_pay2 i) (k0_pay3 i) (headT (sV x0 x1 x2 x3 x7 bb) (128 * j.val) (slicesT j)) r x
      = if okAt n r x then dotB x0 x1 x2 x3 x7 bb c h r x else ⊥ := by
  unfold wv
  rw [score_apply x0 x1 x2 x3 x7 bb c h j hj r x, AttnMath.ofBits_ninf]
  have hr := r.isLt
  have hx := x.isLt
  have hnl := n.isLt
  by_cases h0 : x.val < 128
  · rw [dif_pos h0, mask0_apply, AttnMath.select_ofBool]
    refine if_congr ?_ rfl rfl
    unfold okAt
    show r.val ≤ x.val ∧ 0 < (i 0).val ↔ _
    rw [hn]
    omega
  rw [dif_neg h0]
  by_cases h2 : 256 ≤ x.val ∧ x.val < 384
  · rw [dif_pos h2, mask2_apply, AttnMath.select_ofBool]
    refine if_congr ?_ rfl rfl
    unfold okAt
    show x.val - 256 ≤ r.val ∧ (i 0).val < 63 ↔ _
    rw [hn]
    omega
  rw [dif_neg h2, if_pos]
  unfold okAt
  omega

/-- A head's output: the exponentials times the values over the exponentials' sum, the sink's among them. -/
theorem oV_apply (bb : Fin 2) (j : Fin 8) (r l : Fin 128) (W : Fin 640 → EReal)
    (hW : wv (k0_pay2 i) (k0_pay3 i) (headT (sV x0 x1 x2 x3 x7 bb) (128 * j.val) (slicesT j)) r = W) (s : EReal) (hs : x9 (ix2 j 0) = s) :
    oV i x0 x1 x2 x3 x4 x5 x6 x7 x8 x9 bb j (ix2 r l)
      = Ideal.div (∑ x : Fin 640, Ideal.exp (W x - AttnMath.top W s) * krow (row3 x4 bb) (row3 x5 bb) (row3 x6 bb) (rowX x8 bb) x l)
          (∑ x : Fin 640, Ideal.exp (W x - AttnMath.top W s) * 1 + Ideal.exp (s - AttnMath.top W s)) := by
  have hjl := j.isLt
  have hr := r.isLt
  have hP : ∀ (a b : Nat) (ha : a < 8) (hb : b < 128) (x : Fin 640), a = j.val → b = r.val →
      pV i x0 x1 x2 x3 x7 x9 bb ⟨a, ha⟩ (ix2 ⟨b, hb⟩ x) = Ideal.exp (W x - AttnMath.top W s) := by
    rintro a b ha hb x rfl rfl
    unfold pV
    rw [headP_apply]
    show Ideal.exp (wv (k0_pay2 i) (k0_pay3 i) (headT (sV x0 x1 x2 x3 x7 bb) (128 * j.val) (slicesT j)) r x
      - AttnMath.top (wv (k0_pay2 i) (k0_pay3 i) (headT (sV x0 x1 x2 x3 x7 bb) (128 * j.val) (slicesT j)) r) (x9 (ix2 j 0))) = _
    rw [hW, hs]
  have hD : dV i x0 x1 x2 x3 x7 x9 bb j (ix2 r 0) = Ideal.exp (s - AttnMath.top W s) := by
    unfold dV
    rw [headD_apply]
    show Ideal.exp (x9 (ix2 j 0) - AttnMath.top (wv (k0_pay2 i) (k0_pay3 i) (headT (sV x0 x1 x2 x3 x7 bb) (128 * j.val) (slicesT j)) r) (x9 (ix2 j 0))) = _
    rw [hW, hs]
  unfold oV
  rw [headO_apply _ _ (by omega), sumsV_apply, sumsV_apply, hD]
  unfold vV
  refine congrArg₂ Ideal.div (Finset.sum_congr rfl fun x _ => congrArg₂ (· * ·) (hP _ _ _ _ x ?_ ?_) (vals_low _ _ _ _ x l))
    (congrArg (· + _) (Finset.sum_congr rfl fun x _ => congrArg₂ (· * ·) (hP _ _ _ _ x ?_ ?_) (vals_high _ _ _ _ x l)))
  · show (128 * j.val + r.val) / 128 = j.val; omega
  · show (128 * j.val + r.val) % 128 = r.val; omega
  · show (128 * j.val + r.val) / 128 = j.val; omega
  · show (128 * j.val + r.val) % 128 = r.val; omega

/-- A pair of heads' output at a lane of its head `h`. -/
theorem outP_apply (n : Fin 64) (hn : (i 0).val = n.val) (bb : Fin 2) (c : Fin 4) (h : Fin 2) (r l : Fin 128) (hl : l.val / 64 = h.val) (W : Fin 640 → EReal)
    (hW : ∀ x, (if okAt n r x then dotB x0 x1 x2 x3 x7 bb c h r x else ⊥) = W x) (s : EReal) (hs : x9 (ix2 ⟨c.val * 2 + h.val, by omega⟩ 0) = s) :
    outP i x0 x1 x2 x3 x4 x5 x6 x7 x8 x9 bb c (ix3 0 r l)
      = Ideal.div (∑ x : Fin 640, Ideal.exp (W x - AttnMath.top W s) * krow (row3 x4 bb) (row3 x5 bb) (row3 x6 bb) (rowX x8 bb) x l)
          (∑ x : Fin 640, Ideal.exp (W x - AttnMath.top W s) * 1 + Ideal.exp (s - AttnMath.top W s)) := by
  have hj (j : Fin 8) (e : j.val = 2 * c.val + h.val) :=
    oV_apply i x0 x1 x2 x3 x4 x5 x6 x7 x8 x9 bb j r l W (funext fun x => (wv_apply i x0 x1 x2 x3 x7 n hn bb c h j e r x).trans (hW x)) s
      ((congrArg (fun a : Fin 8 => x9 (ix2 a 0)) (Fin.ext (by show j.val = c.val * 2 + h.val; omega))).trans hs)
  unfold outP
  rw [pairO_apply, low_apply, AttnMath.select_ofBool]
  have hh := h.isLt
  have hll := l.isLt
  by_cases hz : l.val < 64
  · rw [if_pos hz]
    exact hj _ (by show 2 * c.val = _; omega)
  · rw [if_neg hz]
    exact hj _ (by show 2 * c.val + 1 = _; omega)

end read

end Cert.KernelIdeal.RefValue
-- ==== Proof.AttnValue.lean ====
module

public import proofs.«01_k».proof.Defs
public import proofs.«01_k».proof.Proof.AttnScore
public import proofs.«01_k».proof.Proof.AttnFinite
public import proofs.«01_k».proof.Proof.Gen.ReferenceIdeal.Run
public import Idealize.ShloMosaic.Lib.Pointwise
public import Idealize.ShloMosaic.Lib.Claim
public import Idealize.ShloMosaic.Lib.Pipeline.Value
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen
open Cert.ReferenceIdeal.RefValue (okAt rowAt dotAt logitAt)
open Cert.AttnMath (IsReal)

variable (m : (ℓ : Loc nD τ sig) → Buf (Elt Ideal) ℓ)

/-! ## Where the blocks lie -/

/-- The block indices of the ten argument windows and of the result's window at each grid point. -/
theorem idx_facts : ∀ t : Fin cfg0.N,
    (win0_0.index t 0 = 0 ∧ win0_0.index t 1 = t.val ∧ win0_0.index t 2 = 0)
    ∧ (win0_1.index t 0 = 0 ∧ win0_1.index t 1 = t.val - 1 ∧ win0_1.index t 2 = 0)
    ∧ (win0_2.index t 0 = 0 ∧ win0_2.index t 1 = t.val ∧ win0_2.index t 2 = 0)
    ∧ (win0_3.index t 0 = 0 ∧ win0_3.index t 1 = min (t.val + 1) 63 ∧ win0_3.index t 2 = 0)
    ∧ (win0_4.index t 0 = 0 ∧ win0_4.index t 1 = t.val - 1 ∧ win0_4.index t 2 = 0)
    ∧ (win0_5.index t 0 = 0 ∧ win0_5.index t 1 = t.val ∧ win0_5.index t 2 = 0)
    ∧ (win0_6.index t 0 = 0 ∧ win0_6.index t 1 = min (t.val + 1) 63 ∧ win0_6.index t 2 = 0)
    ∧ (win0_7.index t 0 = 0 ∧ win0_7.index t 1 = 0 ∧ win0_7.index t 2 = 0)
    ∧ (win0_8.index t 0 = 0 ∧ win0_8.index t 1 = 0 ∧ win0_8.index t 2 = 0)
    ∧ (win0_9.index t 0 = 0 ∧ win0_9.index t 1 = 0)
    ∧ (win0_10.index t 0 = 0 ∧ win0_10.index t 1 = t.val ∧ win0_10.index t 2 = 0) :=
  (by decide +kernel : ∀ t : Fin grid0.N, _)

/-- The grid's one coordinate is the point's number. -/
theorem coords_val : ∀ t : Fin cfg0.N, ((grid0.coords t) 0).val = t.val :=
  (by decide +kernel : ∀ t : Fin grid0.N, _)

/-- The grid point of the block of queries `n`. -/
def pt (n : Fin 64) : Fin cfg0.N := ⟨n.val, by have h : cfg0.N = 64 := N_0; omega⟩

/-- Every grid point is the point of some block. -/
theorem eq_pt (t : Fin cfg0.N) : ∃ n, t = pt n := by
  have h : cfg0.N = 64 := N_0
  have ht := t.isLt
  exact ⟨⟨t.val, by omega⟩, rfl⟩

theorem coords_pt (n : Fin 64) : ((grid0.coords (pt n)) 0).val = n.val := coords_val (pt n)

theorem emb0 (n : Fin 64) (u : Fin 2) (v : Fin 128) (x : Fin 512) :
    (win0_0.rect (pt n)).emb (ix3 u v x : S2x128x512.Idx) = (ix3 u ⟨n.val * 128 + v.val, by omega⟩ x : S2x8192x512.Idx) := by
  have hf := (idx_facts (pt n)).1
  have hp : (pt n).val = n.val := rfl
  rw [hp] at hf
  funext a
  apply Fin.ext
  refine (Pipeline.Window.rect_emb_val win0_0 (pt n) _ a).trans ?_
  match a with
  | ⟨0, _⟩ => show win0_0.index (pt n) 0 * 2 + u.val = u.val; omega
  | ⟨1, _⟩ => show win0_0.index (pt n) 1 * 128 + v.val = n.val * 128 + v.val; rw [hf.2.1]
  | ⟨2, _⟩ => show win0_0.index (pt n) 2 * 512 + x.val = x.val; omega

theorem emb1 (n : Fin 64) (u : Fin 2) (v : Fin 128) (x : Fin 128) :
    (win0_1.rect (pt n)).emb (ix3 u v x : S2x128x128.Idx) = (ix3 u ⟨(n.val - 1) * 128 + v.val, by omega⟩ x : S2x8192x128.Idx) := by
  have hf := (idx_facts (pt n)).2.1
  have hp : (pt n).val = n.val := rfl
  rw [hp] at hf
  funext a
  apply Fin.ext
  refine (Pipeline.Window.rect_emb_val win0_1 (pt n) _ a).trans ?_
  match a with
  | ⟨0, _⟩ => show win0_1.index (pt n) 0 * 2 + u.val = u.val; omega
  | ⟨1, _⟩ => show win0_1.index (pt n) 1 * 128 + v.val = (n.val - 1) * 128 + v.val; rw [hf.2.1]
  | ⟨2, _⟩ => show win0_1.index (pt n) 2 * 128 + x.val = x.val; omega

theorem emb2 (n : Fin 64) (u : Fin 2) (v : Fin 128) (x : Fin 128) :
    (win0_2.rect (pt n)).emb (ix3 u v x : S2x128x128.Idx) = (ix3 u ⟨n.val * 128 + v.val, by omega⟩ x : S2x8192x128.Idx) := by
  have hf := (idx_facts (pt n)).2.2.1
  have hp : (pt n).val = n.val := rfl
  rw [hp] at hf
  funext a
  apply Fin.ext
  refine (Pipeline.Window.rect_emb_val win0_2 (pt n) _ a).trans ?_
  match a with
  | ⟨0, _⟩ => show win0_2.index (pt n) 0 * 2 + u.val = u.val; omega
  | ⟨1, _⟩ => show win0_2.index (pt n) 1 * 128 + v.val = n.val * 128 + v.val; rw [hf.2.1]
  | ⟨2, _⟩ => show win0_2.index (pt n) 2 * 128 + x.val = x.val; omega

theorem emb3 (n : Fin 64) (u : Fin 2) (v : Fin 128) (x : Fin 128) :
    (win0_3.rect (pt n)).emb (ix3 u v x : S2x128x128.Idx) = (ix3 u ⟨min (n.val + 1) 63 * 128 + v.val, by omega⟩ x : S2x8192x128.Idx) := by
  have hf := (idx_facts (pt n)).2.2.2.1
  have hp : (pt n).val = n.val := rfl
  rw [hp] at hf
  funext a
  apply Fin.ext
  refine (Pipeline.Window.rect_emb_val win0_3 (pt n) _ a).trans ?_
  match a with
  | ⟨0, _⟩ => show win0_3.index (pt n) 0 * 2 + u.val = u.val; omega
  | ⟨1, _⟩ => show win0_3.index (pt n) 1 * 128 + v.val = min (n.val + 1) 63 * 128 + v.val; rw [hf.2.1]
  | ⟨2, _⟩ => show win0_3.index (pt n) 2 * 128 + x.val = x.val; omega

theorem emb4 (n : Fin 64) (u : Fin 2) (v : Fin 128) (x : Fin 128) :
    (win0_4.rect (pt n)).emb (ix3 u v x : S2x128x128.Idx) = (ix3 u ⟨(n.val - 1) * 128 + v.val, by omega⟩ x : S2x8192x128.Idx) := by
  have hf := (idx_facts (pt n)).2.2.2.2.1
  have hp : (pt n).val = n.val := rfl
  rw [hp] at hf
  funext a
  apply Fin.ext
  refine (Pipeline.Window.rect_emb_val win0_4 (pt n) _ a).trans ?_
  match a with
  | ⟨0, _⟩ => show win0_4.index (pt n) 0 * 2 + u.val = u.val; omega
  | ⟨1, _⟩ => show win0_4.index (pt n) 1 * 128 + v.val = (n.val - 1) * 128 + v.val; rw [hf.2.1]
  | ⟨2, _⟩ => show win0_4.index (pt n) 2 * 128 + x.val = x.val; omega

theorem emb5 (n : Fin 64) (u : Fin 2) (v : Fin 128) (x : Fin 128) :
    (win0_5.rect (pt n)).emb (ix3 u v x : S2x128x128.Idx) = (ix3 u ⟨n.val * 128 + v.val, by omega⟩ x : S2x8192x128.Idx) := by
  have hf := (idx_facts (pt n)).2.2.2.2.2.1
  have hp : (pt n).val = n.val := rfl
  rw [hp] at hf
  funext a
  apply Fin.ext
  refine (Pipeline.Window.rect_emb_val win0_5 (pt n) _ a).trans ?_
  match a with
  | ⟨0, _⟩ => show win0_5.index (pt n) 0 * 2 + u.val = u.val; omega
  | ⟨1, _⟩ => show win0_5.index (pt n) 1 * 128 + v.val = n.val * 128 + v.val; rw [hf.2.1]
  | ⟨2, _⟩ => show win0_5.index (pt n) 2 * 128 + x.val = x.val; omega

theorem emb6 (n : Fin 64) (u : Fin 2) (v : Fin 128) (x : Fin 128) :
    (win0_6.rect (pt n)).emb (ix3 u v x : S2x128x128.Idx) = (ix3 u ⟨min (n.val + 1) 63 * 128 + v.val, by omega⟩ x : S2x8192x128.Idx) := by
  have hf := (idx_facts (pt n)).2.2.2.2.2.2.1
  have hp : (pt n).val = n.val := rfl
  rw [hp] at hf
  funext a
  apply Fin.ext
  refine (Pipeline.Window.rect_emb_val win0_6 (pt n) _ a).trans ?_
  match a with
  | ⟨0, _⟩ => show win0_6.index (pt n) 0 * 2 + u.val = u.val; omega
  | ⟨1, _⟩ => show win0_6.index (pt n) 1 * 128 + v.val = min (n.val + 1) 63 * 128 + v.val; rw [hf.2.1]
  | ⟨2, _⟩ => show win0_6.index (pt n) 2 * 128 + x.val = x.val; omega

theorem emb7 (n : Fin 64) (u : Fin 2) (v : Fin 256) (x : Fin 128) :
    (win0_7.rect (pt n)).emb (ix3 u v x : S2x256x128.Idx) = (ix3 u v x : S2x256x128.Idx) := by
  have hf := (idx_facts (pt n)).2.2.2.2.2.2.2.1
  have hp : (pt n).val = n.val := rfl
  funext a
  apply Fin.ext
  refine (Pipeline.Window.rect_emb_val win0_7 (pt n) _ a).trans ?_
  match a with
  | ⟨0, _⟩ => show win0_7.index (pt n) 0 * 2 + u.val = u.val; omega
  | ⟨1, _⟩ => show win0_7.index (pt n) 1 * 256 + v.val = v.val; rw [hf.2.1]; omega
  | ⟨2, _⟩ => show win0_7.index (pt n) 2 * 128 + x.val = x.val; omega

theorem emb8 (n : Fin 64) (u : Fin 2) (v : Fin 256) (x : Fin 128) :
    (win0_8.rect (pt n)).emb (ix3 u v x : S2x256x128.Idx) = (ix3 u v x : S2x256x128.Idx) := by
  have hf := (idx_facts (pt n)).2.2.2.2.2.2.2.2.1
  have hp : (pt n).val = n.val := rfl
  funext a
  apply Fin.ext
  refine (Pipeline.Window.rect_emb_val win0_8 (pt n) _ a).trans ?_
  match a with
  | ⟨0, _⟩ => show win0_8.index (pt n) 0 * 2 + u.val = u.val; omega
  | ⟨1, _⟩ => show win0_8.index (pt n) 1 * 256 + v.val = v.val; rw [hf.2.1]; omega
  | ⟨2, _⟩ => show win0_8.index (pt n) 2 * 128 + x.val = x.val; omega

theorem emb9 (n : Fin 64) (u : Fin 8) (v : Fin 128) :
    (win0_9.rect (pt n)).emb (ix2 u v : S8x128.Idx) = (ix2 u v : S8x128.Idx) := by
  have hf := (idx_facts (pt n)).2.2.2.2.2.2.2.2.2.1
  funext a
  apply Fin.ext
  refine (Pipeline.Window.rect_emb_val win0_9 (pt n) _ a).trans ?_
  match a with
  | ⟨0, _⟩ => show win0_9.index (pt n) 0 * 8 + u.val = u.val; omega
  | ⟨1, _⟩ => show win0_9.index (pt n) 1 * 128 + v.val = v.val; omega

theorem emb10 (n : Fin 64) (u : Fin 2) (v : Fin 128) (x : Fin 512) :
    (win0_10.rect (pt n)).emb (ix3 u v x : S2x128x512.Idx) = (ix3 u ⟨n.val * 128 + v.val, by omega⟩ x : S2x8192x512.Idx) := by
  have hf := (idx_facts (pt n)).2.2.2.2.2.2.2.2.2.2
  have hp : (pt n).val = n.val := rfl
  rw [hp] at hf
  funext a
  apply Fin.ext
  refine (Pipeline.Window.rect_emb_val win0_10 (pt n) _ a).trans ?_
  match a with
  | ⟨0, _⟩ => show win0_10.index (pt n) 0 * 2 + u.val = u.val; omega
  | ⟨1, _⟩ => show win0_10.index (pt n) 1 * 128 + v.val = n.val * 128 + v.val; rw [hf.2.1]
  | ⟨2, _⟩ => show win0_10.index (pt n) 2 * 512 + x.val = x.val; omega

/-! ## The blocks of the arguments, read at an index -/

theorem blk0 (c : Dev nD) (n : Fin 64) (u : Fin 2) (v : Fin 128) (x : Fin 512) :
    iblk m c 0 (pt n) (ix3 u v x : S2x128x512.Idx) = m ((c : Thread nD τ).loc main_arg0) (ix3 u ⟨n.val * 128 + v.val, by omega⟩ x : S2x8192x512.Idx) := by
  show V m c main_arg0 ((win0_0.rect (pt n)).emb _) = _
  rw [emb0]

theorem blk1 (c : Dev nD) (n : Fin 64) (u : Fin 2) (v : Fin 128) (x : Fin 128) :
    iblk m c 1 (pt n) (ix3 u v x : S2x128x128.Idx) = m ((c : Thread nD τ).loc main_arg1) (ix3 u ⟨(n.val - 1) * 128 + v.val, by omega⟩ x : S2x8192x128.Idx) := by
  show V m c main_arg1 ((win0_1.rect (pt n)).emb _) = _
  rw [emb1]

theorem blk2 (c : Dev nD) (n : Fin 64) (u : Fin 2) (v : Fin 128) (x : Fin 128) :
    iblk m c 2 (pt n) (ix3 u v x : S2x128x128.Idx) = m ((c : Thread nD τ).loc main_arg1) (ix3 u ⟨n.val * 128 + v.val, by omega⟩ x : S2x8192x128.Idx) := by
  show V m c main_arg1 ((win0_2.rect (pt n)).emb _) = _
  rw [emb2]

theorem blk3 (c : Dev nD) (n : Fin 64) (u : Fin 2) (v : Fin 128) (x : Fin 128) :
    iblk m c 3 (pt n) (ix3 u v x : S2x128x128.Idx) = m ((c : Thread nD τ).loc main_arg1) (ix3 u ⟨min (n.val + 1) 63 * 128 + v.val, by omega⟩ x : S2x8192x128.Idx) := by
  show V m c main_arg1 ((win0_3.rect (pt n)).emb _) = _
  rw [emb3]

theorem blk4 (c : Dev nD) (n : Fin 64) (u : Fin 2) (v : Fin 128) (x : Fin 128) :
    iblk m c 4 (pt n) (ix3 u v x : S2x128x128.Idx) = m ((c : Thread nD τ).loc main_arg2) (ix3 u ⟨(n.val - 1) * 128 + v.val, by omega⟩ x : S2x8192x128.Idx) := by
  show V m c main_arg2 ((win0_4.rect (pt n)).emb _) = _
  rw [emb4]

theorem blk5 (c : Dev nD) (n : Fin 64) (u : Fin 2) (v : Fin 128) (x : Fin 128) :
    iblk m c 5 (pt n) (ix3 u v x : S2x128x128.Idx) = m ((c : Thread nD τ).loc main_arg2) (ix3 u ⟨n.val * 128 + v.val, by omega⟩ x : S2x8192x128.Idx) := by
  show V m c main_arg2 ((win0_5.rect (pt n)).emb _) = _
  rw [emb5]

theorem blk6 (c : Dev nD) (n : Fin 64) (u : Fin 2) (v : Fin 128) (x : Fin 128) :
    iblk m c 6 (pt n) (ix3 u v x : S2x128x128.Idx) = m ((c : Thread nD τ).loc main_arg2) (ix3 u ⟨min (n.val + 1) 63 * 128 + v.val, by omega⟩ x : S2x8192x128.Idx) := by
  show V m c main_arg2 ((win0_6.rect (pt n)).emb _) = _
  rw [emb6]

theorem blk7 (c : Dev nD) (n : Fin 64) (u : Fin 2) (v : Fin 256) (x : Fin 128) :
    iblk m c 7 (pt n) (ix3 u v x : S2x256x128.Idx) = m ((c : Thread nD τ).loc main_arg3) (ix3 u v x : S2x256x128.Idx) := by
  show V m c main_arg3 ((win0_7.rect (pt n)).emb _) = _
  rw [emb7]

theorem blk8 (c : Dev nD) (n : Fin 64) (u : Fin 2) (v : Fin 256) (x : Fin 128) :
    iblk m c 8 (pt n) (ix3 u v x : S2x256x128.Idx) = m ((c : Thread nD τ).loc main_arg4) (ix3 u v x : S2x256x128.Idx) := by
  show V m c main_arg4 ((win0_8.rect (pt n)).emb _) = _
  rw [emb8]

theorem blk9 (c : Dev nD) (n : Fin 64) (u : Fin 8) (v : Fin 128) :
    iblk m c 9 (pt n) (ix2 u v : S8x128.Idx) = m ((c : Thread nD τ).loc main_arg5) (ix2 u v : S8x128.Idx) := by
  show V m c main_arg5 ((win0_9.rect (pt n)).emb _) = _
  rw [emb9]

/-! ## The rows the blocks hold -/

/-- Where the row lies in the window and in the sequence, the blocks' row is the sequence's. -/
theorem krow_eq (k0 k1 k2 : Vec Ideal S2x128x128 .bf16) (kx : Vec Ideal S2x256x128 .bf16) (K : FVec Ideal S2x8192x128 .bf16) (KX : FVec Ideal S2x256x128 .bf16) (n : Fin 64)
    (h0 : ∀ (u : Fin 2) (v x : Fin 128), k0 (ix3 u v x) = K (ix3 u ⟨(n.val - 1) * 128 + v.val, by omega⟩ x))
    (h1 : ∀ (u : Fin 2) (v x : Fin 128), k1 (ix3 u v x) = K (ix3 u ⟨n.val * 128 + v.val, by omega⟩ x))
    (h2 : ∀ (u : Fin 2) (v x : Fin 128), k2 (ix3 u v x) = K (ix3 u ⟨min (n.val + 1) 63 * 128 + v.val, by omega⟩ x))
    (hx : ∀ (u : Fin 2) (v : Fin 256) (x : Fin 128), kx (ix3 u v x) = KX (ix3 u v x))
    (b : Fin 2) (r : Fin 128) (x : Fin 640) (hok : okAt n r x) (l : Fin 128) :
    krow (row3 k0 b) (row3 k1 b) (row3 k2 b) (rowX kx b) x l = rowAt K KX b n x l := by
  have hK : ∀ (a a' : Nat) (ha : a < 8192) (ha' : a' < 8192), a = a' → K (ix3 b ⟨a, ha⟩ l) = K (ix3 b ⟨a', ha'⟩ l) := by
    rintro a _ ha _ rfl
    rfl
  have hX : ∀ (a a' : Nat) (ha : a < 256) (ha' : a' < 256), a = a' → KX (ix3 b ⟨a, ha⟩ l) = KX (ix3 b ⟨a', ha'⟩ l) := by
    rintro a _ ha _ rfl
    rfl
  have hxl := x.isLt
  have hnl := n.isLt
  have hrl := r.isLt
  unfold krow rowAt
  by_cases c0 : x.val < 384
  · have ho : (r.val ≤ x.val ∧ x.val ≤ r.val + 256) ∧ 128 ≤ n.val * 128 + x.val ∧ n.val * 128 + x.val < 8320 := hok c0
    rw [dif_pos c0, dif_pos ho.2]
    by_cases a0 : x.val < 128
    · rw [dif_pos a0]
      exact (h0 b _ l).trans (hK _ _ _ _ (by show (n.val - 1) * 128 + x.val = n.val * 128 + x.val - 128; omega))
    rw [dif_neg a0]
    by_cases a1 : x.val - 128 < 128
    · rw [dif_pos a1]
      exact (h1 b _ l).trans (hK _ _ _ _ (by show n.val * 128 + (x.val - 128) = n.val * 128 + x.val - 128; omega))
    rw [dif_neg a1, dif_pos (by omega)]
    exact (h2 b _ l).trans (hK _ _ _ _ (by show min (n.val + 1) 63 * 128 + (x.val - 128 - 128) = n.val * 128 + x.val - 128; omega))
  · rw [dif_neg c0, dif_neg (by omega), dif_neg (by omega), dif_neg (by omega)]
    exact (hx b _ l).trans (hX _ _ _ _ (by show x.val - 128 - 128 - 128 = x.val - 384; omega))

/-! ## The result -/

section val
variable (q : FVec Ideal S2x8192x512 .bf16) (k v : FVec Ideal S2x8192x128 .bf16) (kx vx : FVec Ideal S2x256x128 .bf16) (s : FVec Ideal S8x128 .f32)

/-- The attention of one query and one head, at one lane: the values weighted by the softmax of the logits. -/
def att (b : Fin 2) (n : Fin 64) (h : Fin 2) (g : Fin 4) (r : Fin 128) (d : Fin 64) : EReal :=
  (∑ x : Fin 384, rowAt v vx b n ⟨x.val, by omega⟩ ⟨h.val * 64 + d.val, by omega⟩
      * Ideal.div (Ideal.exp (logitAt q k kx b n h g r ⟨x.val, by omega⟩ - AttnMath.top (logitAt q k kx b n h g r) (s (ix2 ⟨g.val * 2 + h.val, by omega⟩ 0))))
          (AttnMath.den (logitAt q k kx b n h g r) (s (ix2 ⟨g.val * 2 + h.val, by omega⟩ 0))))
    + ∑ x : Fin 256, rowAt v vx b n ⟨384 + x.val, by omega⟩ ⟨h.val * 64 + d.val, by omega⟩
      * Ideal.div (Ideal.exp (logitAt q k kx b n h g r ⟨384 + x.val, by omega⟩ - AttnMath.top (logitAt q k kx b n h g r) (s (ix2 ⟨g.val * 2 + h.val, by omega⟩ 0))))
          (AttnMath.den (logitAt q k kx b n h g r) (s (ix2 ⟨g.val * 2 + h.val, by omega⟩ 0)))

/-- The attention, index by index. -/
def attVal (i : S2x8192x512.Idx) : EReal :=
  att q k v kx vx s (i 0) ⟨(i 1).val / 128, by have h : (i 1).val < 8192 := (i 1).isLt; omega⟩ ⟨(i 2).val / 64 % 2, by omega⟩
    ⟨(i 2).val / 128, by have h : (i 2).val < 512 := (i 2).isLt; omega⟩ ⟨(i 1).val % 128, by omega⟩ ⟨(i 2).val % 64, by omega⟩

theorem attVal_at (b : Fin 2) (n : Fin 64) (h : Fin 2) (g : Fin 4) (r : Fin 128) (d : Fin 64) (t : Fin 8192) (l : Fin 512)
    (et : t.val = n.val * 128 + r.val) (el : l.val = g.val * 128 + h.val * 64 + d.val) :
    attVal q k v kx vx s (ix3 b t l) = att q k v kx vx s b n h g r d := by
  have hP : ∀ (n n' h h' g g' r r' d d' : Nat) (hn hn' hh hh' hg hg' hr hr' hd hd'), n = n' → h = h' → g = g' → r = r' → d = d' →
      att q k v kx vx s b ⟨n, hn⟩ ⟨h, hh⟩ ⟨g, hg⟩ ⟨r, hr⟩ ⟨d, hd⟩ = att q k v kx vx s b ⟨n', hn'⟩ ⟨h', hh'⟩ ⟨g', hg'⟩ ⟨r', hr'⟩ ⟨d', hd'⟩ := by
    rintro n _ h _ g _ r _ d _ _ _ _ _ _ _ _ _ _ _ rfl rfl rfl rfl rfl
    rfl
  have hn := n.isLt
  have hh := h.isLt
  have hg := g.isLt
  have hr := r.isLt
  have hd := d.isLt
  exact hP (t.val / 128) n.val (l.val / 64 % 2) h.val (l.val / 128) g.val (t.val % 128) r.val (l.val % 64) d.val
    _ _ _ _ _ _ _ _ _ _ (by omega) (by omega) (by omega) (by omega) (by omega)

variable (hq : ∀ i, IsReal (q i)) (hk : ∀ i, IsReal (k i)) (hkx : ∀ i, IsReal (kx i)) (hs : ∀ i, IsReal (s i))

include hk hkx in
/-- The rows of real keys are real. -/
theorem rowAt_real (b : Fin 2) (n : Fin 64) (x : Fin 640) (l : Fin 128) : IsReal (rowAt k kx b n x l) := by
  unfold rowAt
  by_cases h : x.val < 384
  · rw [dif_pos h]
    by_cases h' : 128 ≤ n.val * 128 + x.val ∧ n.val * 128 + x.val < 8320
    · rw [dif_pos h']
      exact hk _
    · rw [dif_neg h']
      exact AttnMath.isReal_zero
  · rw [dif_neg h]
    exact hkx _

include hq hk hkx in
/-- The logits of real queries and keys are real, or minus infinity where masked. -/
theorem logitAt_real (b : Fin 2) (n : Fin 64) (h : Fin 2) (g : Fin 4) (r : Fin 128) (x : Fin 640) :
    logitAt q k kx b n h g r x = ⊥ ∨ IsReal (logitAt q k kx b n h g r x) := by
  unfold logitAt
  by_cases ho : okAt n r x
  · rw [if_pos ho]
    refine Or.inr ?_
    unfold dotAt
    exact AttnMath.isReal_sum _ _ fun y _ => (rowAt_real k kx hk hkx b n x _).mul (hq _)
  · rw [if_neg ho]
    exact Or.inl rfl

include hq hk hkx hs in
/-- What the body leaves at a lane of a block is the attention there, when the queries, keys and sinks are real. -/
theorem out_att (n : Fin 64) (i : grid0.Coords) (hi : (i 0).val = n.val)
    (x0 : Vec Ideal S2x128x512 .bf16) (x1 x2 x3 x4 x5 x6 : Vec Ideal S2x128x128 .bf16) (x7 x8 : Vec Ideal S2x256x128 .bf16) (x9 : Vec Ideal S8x128 .f32)
    (b0 : ∀ (u : Fin 2) (w : Fin 128) (x : Fin 512), x0 (ix3 u w x) = q (ix3 u ⟨n.val * 128 + w.val, by omega⟩ x))
    (b1 : ∀ (u : Fin 2) (w x : Fin 128), x1 (ix3 u w x) = k (ix3 u ⟨(n.val - 1) * 128 + w.val, by omega⟩ x))
    (b2 : ∀ (u : Fin 2) (w x : Fin 128), x2 (ix3 u w x) = k (ix3 u ⟨n.val * 128 + w.val, by omega⟩ x))
    (b3 : ∀ (u : Fin 2) (w x : Fin 128), x3 (ix3 u w x) = k (ix3 u ⟨min (n.val + 1) 63 * 128 + w.val, by omega⟩ x))
    (b4 : ∀ (u : Fin 2) (w x : Fin 128), x4 (ix3 u w x) = v (ix3 u ⟨(n.val - 1) * 128 + w.val, by omega⟩ x))
    (b5 : ∀ (u : Fin 2) (w x : Fin 128), x5 (ix3 u w x) = v (ix3 u ⟨n.val * 128 + w.val, by omega⟩ x))
    (b6 : ∀ (u : Fin 2) (w x : Fin 128), x6 (ix3 u w x) = v (ix3 u ⟨min (n.val + 1) 63 * 128 + w.val, by omega⟩ x))
    (b7 : ∀ (u : Fin 2) (w : Fin 256) (x : Fin 128), x7 (ix3 u w x) = kx (ix3 u w x))
    (b8 : ∀ (u : Fin 2) (w : Fin 256) (x : Fin 128), x8 (ix3 u w x) = vx (ix3 u w x))
    (b9 : ∀ (u : Fin 8) (w : Fin 128), x9 (ix2 u w) = s (ix2 u w))
    (b : Fin 2) (r : Fin 128) (l : Fin 512) :
    out0_10 (F := Ideal) i x0 x1 x2 x3 x4 x5 x6 x7 x8 x9 (ix3 b r l) = attVal q k v kx vx s (ix3 b ⟨n.val * 128 + r.val, by omega⟩ l) := by
  have hl := l.isLt
  have hW (x : Fin 640) : (if okAt n r x then dotB x0 x1 x2 x3 x7 b ⟨l.val / 128, by omega⟩ ⟨l.val / 64 % 2, by omega⟩ r x else ⊥)
      = logitAt q k kx b n ⟨l.val / 64 % 2, by omega⟩ ⟨l.val / 128, by omega⟩ r x := by
    unfold logitAt
    by_cases ho : okAt n r x
    · rw [if_pos ho, if_pos ho]
      unfold dotB dotAt
      exact Finset.sum_congr rfl fun y _ => congrArg₂ (· * ·) (krow_eq x1 x2 x3 x7 k kx n b1 b2 b3 b7 b r x ho _) (b0 _ _ _)
    · rw [if_neg ho, if_neg ho]
  have hV (x : Fin 640) (hx : logitAt q k kx b n ⟨l.val / 64 % 2, by omega⟩ ⟨l.val / 128, by omega⟩ r x ≠ ⊥) :
      krow (row3 x4 b) (row3 x5 b) (row3 x6 b) (rowX x8 b) x ⟨l.val % 128, by omega⟩ = rowAt v vx b n x ⟨l.val / 64 % 2 * 64 + l.val % 64, by omega⟩ := by
    have ho : okAt n r x := by
      by_contra hn
      exact hx (by unfold logitAt; rw [if_neg hn])
    rw [krow_eq x4 x5 x6 x8 v vx n b4 b5 b6 b8 b r x ho]
    exact congrArg (rowAt v vx b n x) (Fin.ext (by show l.val % 128 = l.val / 64 % 2 * 64 + l.val % 64; omega))
  rw [out10_apply]
  refine (outP_apply i x0 x1 x2 x3 x4 x5 x6 x7 x8 x9 n hi b ⟨l.val / 128, by omega⟩ ⟨l.val / 64 % 2, by omega⟩ r ⟨l.val % 128, by omega⟩
    (by show l.val % 128 / 64 = l.val / 64 % 2; omega) _ hW _ (b9 _ _)).trans ?_
  refine (AttnMath.core (logitAt_real q k kx hq hk hkx b n _ _ r) (hs _) _ _ hV).trans ?_
  exact (attVal_at q k v kx vx s b n ⟨l.val / 64 % 2, by omega⟩ ⟨l.val / 128, by omega⟩ r ⟨l.val % 64, by omega⟩ _ l rfl
    (by show l.val = l.val / 128 * 128 + l.val / 64 % 2 * 64 + l.val % 64; omega)).symm

end val

/-! ## The result's array after the run -/

/-- The attention of the arguments, as the contents of the result. -/
def G (c : Dev nD) : Buf (Elt Ideal) ((c : Thread nD τ).loc main_v0) :=
  attVal (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The arguments the logits are made of are real. -/
def Real (c : Dev nD) : Prop :=
  (∀ i : S2x8192x512.Idx, IsReal (m ((c : Thread nD τ).loc main_arg0) i)) ∧ (∀ i : S2x8192x128.Idx, IsReal (m ((c : Thread nD τ).loc main_arg1) i))
    ∧ (∀ i : S2x256x128.Idx, IsReal (m ((c : Thread nD τ).loc main_arg3) i)) ∧ (∀ i : S8x128.Idx, IsReal (m ((c : Thread nD τ).loc main_arg5) i))

/-- What point `t` writes back to the result is block `t` of `G`. -/
theorem flushed_eq (c : Dev nD) (hr : Real m c) (t : Fin cfg0.N) :
    (dats m 0 c).flushed 10 t = (win0_10.blk t).view.read (Elt Ideal) (G m c) := by
  obtain ⟨n, rfl⟩ := eq_pt t
  show (cfg0.win 10).cut (grid0.coords (pt n)) ((dats m 0 c).after 10 (pt n)) = _
  rw [after0_10]
  obtain ⟨hq, hk, hkx, hs⟩ := hr
  have key : ∀ y : S2x128x512.Idx, out0_10 (F := Ideal) (grid0.coords (pt n)) (iblk m c 0 (pt n)) (iblk m c 1 (pt n)) (iblk m c 2 (pt n)) (iblk m c 3 (pt n))
      (iblk m c 4 (pt n)) (iblk m c 5 (pt n)) (iblk m c 6 (pt n)) (iblk m c 7 (pt n)) (iblk m c 8 (pt n)) (iblk m c 9 (pt n)) y = G m c ((win0_10.rect (pt n)).emb y) := by
    intro y
    idx_vars y
    rw [emb10]
    exact out_att _ _ _ _ _ _ hq hk hkx hs n _ (coords_pt n) _ _ _ _ _ _ _ _ _ _
      (blk0 m c n) (blk1 m c n) (blk2 m c n) (blk3 m c n) (blk4 m c n) (blk5 m c n) (blk6 m c n) (blk7 m c n) (blk8 m c n) (blk9 m c n) y0 y1 y2
  exact funext key

/-- The result's blocks tile its array. -/
theorem cover10 (i : S2x8192x512.Idx) : ∃ t : Fin cfg0.N, (cfg0.win 10).flush t = true ∧ i ∈ ((cfg0.win 10).blk t).view.set := by
  idx_vars i
  refine ⟨pt ⟨i1.val / 128, by omega⟩, flush0_10 _, ?_⟩
  have e := emb10 ⟨i1.val / 128, by omega⟩ i0 ⟨i1.val % 128, by omega⟩ i2
  have h := ((cfg0.win 10).blk (pt ⟨i1.val / 128, by omega⟩)).view.emb_mem_set (ix3 i0 ⟨i1.val % 128, by omega⟩ i2 : S2x128x512.Idx)
  have e' : (⟨i1.val / 128 * 128 + i1.val % 128, by omega⟩ : Fin 8192) = i1 := Fin.ext (by show i1.val / 128 * 128 + i1.val % 128 = i1.val; omega)
  rw [e'] at e
  exact e ▸ h

/-- The result ends at the attention. -/
theorem final10 (c : Dev nD) (hr : Real m c) : (dats m 0 c).arrAt 10 cfg0.N = G m c :=
  (dats m 0 c).arrAt_eq_of_cover 10 (G m c) (fun t _ => flushed_eq m c hr t) cover10

end Cert.KernelIdeal.RefValue

namespace Cert.Proof.AttnClaim

open Cert.KernelIdeal.RefValue

/-- From equal arguments of which the queries, the keys, the context's keys and the sinks are finite, the kernel's result is the reference's. -/
theorem algebraic : Cert.algebraic_KernelIdeal_ReferenceIdeal_pre_attn_finite := by
  intro m g m' g' hpre hagree
  have hr (c) : Real m c := Cert.AttnFinite.real_of_pre _ _ _ _ _ _ (hpre c)
  refine ⟨fun c => G m c, ?_, ?_⟩
  · refine (θ_run Cert.KernelIdeal.defs _ _).mono (fun r h c => ?_)
      (Cert.KernelIdeal.Gen.run_main (F := Ideal) m g)
    have kept (w : Fin Cert.KernelIdeal.cfg0.W) (hw : _) := ((h c).1 w).trans (((Cert.KernelIdeal.Gen.dats m 0 c).arrAt_in w hw _).trans (Cert.KernelIdeal.Gen.A_eq m c w))
    exact ⟨((h c).1 10).trans (final10 m c (hr c)), kept 0 rfl, kept 1 rfl, kept 4 rfl, kept 7 rfl, kept 8 rfl, kept 9 rfl⟩
  · refine (θ_run Cert.ReferenceIdeal.defs _ _).mono (fun _ h c => ⟨(h c).1.trans ?_, (h c).2⟩)
      (Cert.ReferenceIdeal.Value.run (F := Ideal) m' g')
    obtain ⟨h0, h1, h2, h3, h4, h5⟩ := hagree c
    have key : ∀ i : Cert.ReferenceIdeal.S2x8192x512.Idx, (Cert.ReferenceIdeal.Value.res_main_v88 m' c : FVec Ideal _ _) i
        = attVal (m' ((c.tc : Thread _ _).loc Cert.ReferenceIdeal.main_arg0)) (m' ((c.tc : Thread _ _).loc Cert.ReferenceIdeal.main_arg1)) (m' ((c.tc : Thread _ _).loc Cert.ReferenceIdeal.main_arg2))
            (m' ((c.tc : Thread _ _).loc Cert.ReferenceIdeal.main_arg3)) (m' ((c.tc : Thread _ _).loc Cert.ReferenceIdeal.main_arg4)) (m' ((c.tc : Thread _ _).loc Cert.ReferenceIdeal.main_arg5)) i := by
      intro i
      idx_vars i
      have et : (⟨i1.val / 128 * 128 + i1.val % 128, by omega⟩ : Fin 8192) = i1 := Fin.ext (by show i1.val / 128 * 128 + i1.val % 128 = i1.val; omega)
      have el : (⟨i2.val / 128 * 128 + i2.val / 64 % 2 * 64 + i2.val % 64, by omega⟩ : Fin 512) = i2 :=
        Fin.ext (by show i2.val / 128 * 128 + i2.val / 64 % 2 * 64 + i2.val % 64 = i2.val; omega)
      have e := Cert.ReferenceIdeal.RefValue.ref_apply m' c i0 ⟨i1.val / 128, by omega⟩ ⟨i2.val / 64 % 2, by omega⟩ ⟨i2.val / 128, by omega⟩ ⟨i1.val % 128, by omega⟩ ⟨i2.val % 64, by omega⟩
        _ rfl _ rfl
      rw [et, el] at e
      exact e
    refine (funext key).trans ?_
    rw [h0, h1, h2, h3, h4, h5]
    rfl

end Cert.Proof.AttnClaim
-- ==== Proof.ProjFinite.lean ====
module

public import proofs.«01_k».proof.Defs
public import proofs.«01_k».proof.Pre_proj_finite
public import proofs.«01_k».proof.Proof.AttnFinite
public import Idealize.ShloMosaic.Lib.Pointwise

@[expose] public section

set_option maxRecDepth 16384

noncomputable section

open Idealize.ShloMosaic Idealize.ShloMosaic.TcCoe Idealize.SL.Sem

namespace Cert.ProjFinite

open Cert.Pre_proj_finite

/-- The shape relations the precondition's operations take. -/
instance facts : Cert.Pre_proj_finite.Facts where
  bcast_S_S2x1x1024 := by decide
  reducesTo_S2x1x1024_S_d0_1_2 := by decide
  h_S_ := by decide
  bcast_S_S1024 := by decide
  reducesTo_S1024_S_d0 := by decide
  slices_S1024x4880_S1024x640_0_2064 := by decide
  bcast_S_S1024x640 := by decide
  reducesTo_S1024x640_S_d0_1 := by decide

variable (x : FVec Ideal S2x8192x1024 .f32) (sh sc : FVec Ideal S2x1x1024 .f32) (g : FVec Ideal S1024 .f32)
  (w : FVec Ideal S1024x4880 .f32) (bm : FVec Ideal S16 .f32) (qg kg : FVec Ideal S64 .f32)

/-- The precondition, read: the modulation, the gain and the columns of the attention's queries and keys are real. -/
theorem real_of_pre (h : fn (F := Ideal) x sh sc g w bm qg kg = fun _ => 1#1) :
    (∀ i, AttnMath.IsReal (sh i)) ∧ (∀ i, AttnMath.IsReal (sc i)) ∧ (∀ i, AttnMath.IsReal (g i))
      ∧ (∀ (d : Fin 1024) (j : Fin 4880), 2064 ≤ j.val → j.val < 2704 → AttnMath.IsReal (w (ix2 d j))) := by
  haveI : Subsingleton S_.Idx := ⟨fun a b => funext fun x => x.elim0⟩
  have e := congrFun h (fun a => a.elim0)
  unfold fn fn_part1 at e
  obtain ⟨e, e3⟩ := AttnFinite.and_bits _ _ e
  obtain ⟨e, e2⟩ := AttnFinite.and_bits _ _ e
  obtain ⟨e0, e1⟩ := AttnFinite.and_bits _ _ e
  refine ⟨fun i => ?_, fun i => ?_, fun i => ?_, fun d j h1 h2 => ?_⟩
  · exact AttnFinite.real_of_bit _ _ AttnFinite.ofBits_pinf (Host.reduce_andi_all _ _ _ _ _ e0 i)
  · exact AttnFinite.real_of_bit _ _ AttnFinite.ofBits_pinf (Host.reduce_andi_all _ _ _ _ _ e1 i)
  · exact AttnFinite.real_of_bit _ _ AttnFinite.ofBits_pinf (Host.reduce_andi_all _ _ _ _ _ e2 i)
  · have e4 := AttnFinite.real_of_bit _ _ AttnFinite.ofBits_pinf
      (Host.reduce_andi_all _ _ _ _ _ e3 (ix2 d ⟨j.val - 2064, by omega⟩ : S1024x640.Idx))
    have e5 : (extractStridedSlice S1024x640 ![0, 2064] w Facts.slices_S1024x4880_S1024x640_0_2064) (ix2 d ⟨j.val - 2064, by omega⟩ : S1024x640.Idx)
        = w (ix2 d ⟨2064 + (j.val - 2064), by omega⟩) := by
      pointwise
    beta_reduce at e4
    rw [e5] at e4
    have e6 : (⟨2064 + (j.val - 2064), by omega⟩ : Fin 4880) = j := Fin.ext (by show 2064 + (j.val - 2064) = j.val; omega)
    rwa [e6] at e4

end Cert.ProjFinite
-- ==== Proof.ProjEmb.lean ====
module

public import proofs.«01_k».proof.Defs
public import proofs.«01_k».proof.Proof.Gen.ProjIdeal.Value
public import Idealize.ShloMosaic.Lib.Pointwise
public import Idealize.ShloMosaic.Lib.Claim
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen

variable (m : (ℓ : Loc nD τ sig) → Buf (Elt Ideal) ℓ)

/-! ## Where the blocks lie -/

/-- The grid point of batch `b` and token tile `n`. -/
def pt (b : Fin 2) (n : Fin 8) : Fin cfg0.N := ⟨8 * b.val + n.val, by have h : cfg0.N = 16 := N_0; omega⟩

theorem pt_div (b : Fin 2) (n : Fin 8) : (pt b n).val / 8 = b.val := by show (8 * b.val + n.val) / 8 = _; omega
theorem pt_mod (b : Fin 2) (n : Fin 8) : (pt b n).val % 8 = n.val := by show (8 * b.val + n.val) % 8 = _; omega

/-- Every grid point is the point of some batch and some tile. -/
theorem eq_pt (t : Fin cfg0.N) : ∃ b n, t = pt b n := by
  have h : cfg0.N = 16 := N_0
  have ht := t.isLt
  exact ⟨⟨t.val / 8, by omega⟩, ⟨t.val % 8, by omega⟩, Fin.ext (by show t.val = 8 * (t.val / 8) + t.val % 8; omega)⟩

/-- The block index of window 0 at each grid point. -/
theorem idx0 : ∀ t : Fin cfg0.N, win0_0.index t 0 = t.val / 8 ∧ win0_0.index t 1 = t.val % 8 ∧ win0_0.index t 2 = 0 :=
  (by decide +kernel : ∀ t : Fin grid0.N, _)

theorem emb0 (b : Fin 2) (n : Fin 8) (v : Fin 1024) (y : Fin 1024) :
    (win0_0.rect (pt b n)).emb (ix3 0 v y : S1x1024x1024.Idx) = (ix3 b ⟨n.val * 1024 + v.val, by omega⟩ y : S2x8192x1024.Idx) := by
  have hf := idx0 (pt b n)
  have e0 := pt_div b n
  have e1 := pt_mod b n
  funext a
  apply Fin.ext
  refine (Pipeline.Window.rect_emb_val win0_0 (pt b n) _ a).trans ?_
  match a with
  | ⟨0, _⟩ => show win0_0.index (pt b n) 0 * 1 + 0 = b.val; omega
  | ⟨1, _⟩ => show win0_0.index (pt b n) 1 * 1024 + v.val = n.val * 1024 + v.val; omega
  | ⟨2, _⟩ => show win0_0.index (pt b n) 2 * 1024 + y.val = y.val; omega

/-- The block index of window 1 at each grid point. -/
theorem idx1 : ∀ t : Fin cfg0.N, win0_1.index t 0 = t.val / 8 ∧ win0_1.index t 1 = 0 ∧ win0_1.index t 2 = 0 :=
  (by decide +kernel : ∀ t : Fin grid0.N, _)

theorem emb1 (b : Fin 2) (n : Fin 8) (y : Fin 1024) :
    (win0_1.rect (pt b n)).emb (ix3 0 0 y : S1x1x1024.Idx) = (ix3 b 0 y : S2x1x1024.Idx) := by
  have hf := idx1 (pt b n)
  have e0 := pt_div b n
  have e1 := pt_mod b n
  funext a
  apply Fin.ext
  refine (Pipeline.Window.rect_emb_val win0_1 (pt b n) _ a).trans ?_
  match a with
  | ⟨0, _⟩ => show win0_1.index (pt b n) 0 * 1 + 0 = b.val; omega
  | ⟨1, _⟩ => show win0_1.index (pt b n) 1 * 1 + 0 = 0; omega
  | ⟨2, _⟩ => show win0_1.index (pt b n) 2 * 1024 + y.val = y.val; omega

/-- The block index of window 2 at each grid point. -/
theorem idx2 : ∀ t : Fin cfg0.N, win0_2.index t 0 = t.val / 8 ∧ win0_2.index t 1 = 0 ∧ win0_2.index t 2 = 0 :=
  (by decide +kernel : ∀ t : Fin grid0.N, _)

theorem emb2 (b : Fin 2) (n : Fin 8) (y : Fin 1024) :
    (win0_2.rect (pt b n)).emb (ix3 0 0 y : S1x1x1024.Idx) = (ix3 b 0 y : S2x1x1024.Idx) := by
  have hf := idx2 (pt b n)
  have e0 := pt_div b n
  have e1 := pt_mod b n
  funext a
  apply Fin.ext
  refine (Pipeline.Window.rect_emb_val win0_2 (pt b n) _ a).trans ?_
  match a with
  | ⟨0, _⟩ => show win0_2.index (pt b n) 0 * 1 + 0 = b.val; omega
  | ⟨1, _⟩ => show win0_2.index (pt b n) 1 * 1 + 0 = 0; omega
  | ⟨2, _⟩ => show win0_2.index (pt b n) 2 * 1024 + y.val = y.val; omega

/-- The block index of window 3 at each grid point. -/
theorem idx3 : ∀ t : Fin cfg0.N, win0_3.index t 0 = 0 ∧ win0_3.index t 1 = 0 :=
  (by decide +kernel : ∀ t : Fin grid0.N, _)

theorem emb3 (b : Fin 2) (n : Fin 8) (y : Fin 1024) :
    (win0_3.rect (pt b n)).emb (ix2 0 y : S1x1024.Idx) = (ix2 0 y : S1x1024.Idx) := by
  have hf := idx3 (pt b n)
  have e0 := pt_div b n
  have e1 := pt_mod b n
  funext a
  apply Fin.ext
  refine (Pipeline.Window.rect_emb_val win0_3 (pt b n) _ a).trans ?_
  match a with
  | ⟨0, _⟩ => show win0_3.index (pt b n) 0 * 1 + 0 = 0; omega
  | ⟨1, _⟩ => show win0_3.index (pt b n) 1 * 1024 + y.val = y.val; omega

/-- The block index of window 4 at each grid point. -/
theorem idx4 : ∀ t : Fin cfg0.N, win0_4.index t 0 = 0 ∧ win0_4.index t 1 = 0 :=
  (by decide +kernel : ∀ t : Fin grid0.N, _)

theorem emb4 (b : Fin 2) (n : Fin 8) (v : Fin 1024) (y : Fin 2432) :
    (win0_4.rect (pt b n)).emb (ix2 v y : S1024x2432.Idx) = (ix2 v y : S1024x2432.Idx) := by
  have hf := idx4 (pt b n)
  have e0 := pt_div b n
  have e1 := pt_mod b n
  funext a
  apply Fin.ext
  refine (Pipeline.Window.rect_emb_val win0_4 (pt b n) _ a).trans ?_
  match a with
  | ⟨0, _⟩ => show win0_4.index (pt b n) 0 * 1024 + v.val = v.val; omega
  | ⟨1, _⟩ => show win0_4.index (pt b n) 1 * 2432 + y.val = y.val; omega

/-- The block index of window 5 at each grid point. -/
theorem idx5 : ∀ t : Fin cfg0.N, win0_5.index t 0 = 0 ∧ win0_5.index t 1 = 0 :=
  (by decide +kernel : ∀ t : Fin grid0.N, _)

theorem emb5 (b : Fin 2) (n : Fin 8) (y : Fin 128) :
    (win0_5.rect (pt b n)).emb (ix2 0 y : S1x128.Idx) = (ix2 0 y : S1x128.Idx) := by
  have hf := idx5 (pt b n)
  have e0 := pt_div b n
  have e1 := pt_mod b n
  funext a
  apply Fin.ext
  refine (Pipeline.Window.rect_emb_val win0_5 (pt b n) _ a).trans ?_
  match a with
  | ⟨0, _⟩ => show win0_5.index (pt b n) 0 * 1 + 0 = 0; omega
  | ⟨1, _⟩ => show win0_5.index (pt b n) 1 * 128 + y.val = y.val; omega

/-- The block index of window 6 at each grid point. -/
theorem idx6 : ∀ t : Fin cfg0.N, win0_6.index t 0 = 0 ∧ win0_6.index t 1 = 0 :=
  (by decide +kernel : ∀ t : Fin grid0.N, _)

theorem emb6 (b : Fin 2) (n : Fin 8) (y : Fin 512) :
    (win0_6.rect (pt b n)).emb (ix2 0 y : S1x512.Idx) = (ix2 0 y : S1x512.Idx) := by
  have hf := idx6 (pt b n)
  have e0 := pt_div b n
  have e1 := pt_mod b n
  funext a
  apply Fin.ext
  refine (Pipeline.Window.rect_emb_val win0_6 (pt b n) _ a).trans ?_
  match a with
  | ⟨0, _⟩ => show win0_6.index (pt b n) 0 * 1 + 0 = 0; omega
  | ⟨1, _⟩ => show win0_6.index (pt b n) 1 * 512 + y.val = y.val; omega

/-- The block index of window 7 at each grid point. -/
theorem idx7 : ∀ t : Fin cfg0.N, win0_7.index t 0 = 0 ∧ win0_7.index t 1 = 0 :=
  (by decide +kernel : ∀ t : Fin grid0.N, _)

theorem emb7 (b : Fin 2) (n : Fin 8) (y : Fin 128) :
    (win0_7.rect (pt b n)).emb (ix2 0 y : S1x128.Idx) = (ix2 0 y : S1x128.Idx) := by
  have hf := idx7 (pt b n)
  have e0 := pt_div b n
  have e1 := pt_mod b n
  funext a
  apply Fin.ext
  refine (Pipeline.Window.rect_emb_val win0_7 (pt b n) _ a).trans ?_
  match a with
  | ⟨0, _⟩ => show win0_7.index (pt b n) 0 * 1 + 0 = 0; omega
  | ⟨1, _⟩ => show win0_7.index (pt b n) 1 * 128 + y.val = y.val; omega

/-- The block index of window 8 at each grid point. -/
theorem idx8 : ∀ t : Fin cfg0.N, win0_8.index t 0 = 0 ∧ win0_8.index t 1 = 0 :=
  (by decide +kernel : ∀ t : Fin grid0.N, _)

theorem emb8 (b : Fin 2) (n : Fin 8) (v : Fin 512) (y : Fin 512) :
    (win0_8.rect (pt b n)).emb (ix2 v y : S512x512.Idx) = (ix2 v y : S512x512.Idx) := by
  have hf := idx8 (pt b n)
  have e0 := pt_div b n
  have e1 := pt_mod b n
  funext a
  apply Fin.ext
  refine (Pipeline.Window.rect_emb_val win0_8 (pt b n) _ a).trans ?_
  match a with
  | ⟨0, _⟩ => show win0_8.index (pt b n) 0 * 512 + v.val = v.val; omega
  | ⟨1, _⟩ => show win0_8.index (pt b n) 1 * 512 + y.val = y.val; omega

/-- The block index of window 9 at each grid point. -/
theorem idx9 : ∀ t : Fin cfg0.N, win0_9.index t 0 = 0 ∧ win0_9.index t 1 = 0 :=
  (by decide +kernel : ∀ t : Fin grid0.N, _)

theorem emb9 (b : Fin 2) (n : Fin 8) (v : Fin 128) (y : Fin 128) :
    (win0_9.rect (pt b n)).emb (ix2 v y : S128x128.Idx) = (ix2 v y : S128x128.Idx) := by
  have hf := idx9 (pt b n)
  have e0 := pt_div b n
  have e1 := pt_mod b n
  funext a
  apply Fin.ext
  refine (Pipeline.Window.rect_emb_val win0_9 (pt b n) _ a).trans ?_
  match a with
  | ⟨0, _⟩ => show win0_9.index (pt b n) 0 * 128 + v.val = v.val; omega
  | ⟨1, _⟩ => show win0_9.index (pt b n) 1 * 128 + y.val = y.val; omega

/-- The block index of window 10 at each grid point. -/
theorem idx10 : ∀ t : Fin cfg0.N, win0_10.index t 0 = t.val % 8 ∧ win0_10.index t 1 = 0 :=
  (by decide +kernel : ∀ t : Fin grid0.N, _)

theorem emb10 (b : Fin 2) (n : Fin 8) (v : Fin 1024) (y : Fin 128) :
    (win0_10.rect (pt b n)).emb (ix2 v y : S1024x128.Idx) = (ix2 ⟨n.val * 1024 + v.val, by omega⟩ y : S8192x128.Idx) := by
  have hf := idx10 (pt b n)
  have e0 := pt_div b n
  have e1 := pt_mod b n
  funext a
  apply Fin.ext
  refine (Pipeline.Window.rect_emb_val win0_10 (pt b n) _ a).trans ?_
  match a with
  | ⟨0, _⟩ => show win0_10.index (pt b n) 0 * 1024 + v.val = n.val * 1024 + v.val; omega
  | ⟨1, _⟩ => show win0_10.index (pt b n) 1 * 128 + y.val = y.val; omega

/-- The block index of window 11 at each grid point. -/
theorem idx11 : ∀ t : Fin cfg0.N, win0_11.index t 0 = t.val % 8 ∧ win0_11.index t 1 = 0 :=
  (by decide +kernel : ∀ t : Fin grid0.N, _)

theorem emb11 (b : Fin 2) (n : Fin 8) (v : Fin 1024) (y : Fin 128) :
    (win0_11.rect (pt b n)).emb (ix2 v y : S1024x128.Idx) = (ix2 ⟨n.val * 1024 + v.val, by omega⟩ y : S8192x128.Idx) := by
  have hf := idx11 (pt b n)
  have e0 := pt_div b n
  have e1 := pt_mod b n
  funext a
  apply Fin.ext
  refine (Pipeline.Window.rect_emb_val win0_11 (pt b n) _ a).trans ?_
  match a with
  | ⟨0, _⟩ => show win0_11.index (pt b n) 0 * 1024 + v.val = n.val * 1024 + v.val; omega
  | ⟨1, _⟩ => show win0_11.index (pt b n) 1 * 128 + y.val = y.val; omega

/-- The block index of window 12 at each grid point. -/
theorem idx12 : ∀ t : Fin cfg0.N, win0_12.index t 0 = t.val / 8 ∧ win0_12.index t 1 = t.val % 8 ∧ win0_12.index t 2 = 0 :=
  (by decide +kernel : ∀ t : Fin grid0.N, _)

theorem emb12 (b : Fin 2) (n : Fin 8) (v : Fin 1024) (y : Fin 512) :
    (win0_12.rect (pt b n)).emb (ix3 0 v y : S1x1024x512.Idx) = (ix3 b ⟨n.val * 1024 + v.val, by omega⟩ y : S2x8192x512.Idx) := by
  have hf := idx12 (pt b n)
  have e0 := pt_div b n
  have e1 := pt_mod b n
  funext a
  apply Fin.ext
  refine (Pipeline.Window.rect_emb_val win0_12 (pt b n) _ a).trans ?_
  match a with
  | ⟨0, _⟩ => show win0_12.index (pt b n) 0 * 1 + 0 = b.val; omega
  | ⟨1, _⟩ => show win0_12.index (pt b n) 1 * 1024 + v.val = n.val * 1024 + v.val; omega
  | ⟨2, _⟩ => show win0_12.index (pt b n) 2 * 512 + y.val = y.val; omega

/-- The block index of window 13 at each grid point. -/
theorem idx13 : ∀ t : Fin cfg0.N, win0_13.index t 0 = t.val / 8 ∧ win0_13.index t 1 = t.val % 8 ∧ win0_13.index t 2 = 0 :=
  (by decide +kernel : ∀ t : Fin grid0.N, _)

theorem emb13 (b : Fin 2) (n : Fin 8) (v : Fin 1024) (y : Fin 512) :
    (win0_13.rect (pt b n)).emb (ix3 0 v y : S1x1024x512.Idx) = (ix3 b ⟨n.val * 1024 + v.val, by omega⟩ y : S2x8192x512.Idx) := by
  have hf := idx13 (pt b n)
  have e0 := pt_div b n
  have e1 := pt_mod b n
  funext a
  apply Fin.ext
  refine (Pipeline.Window.rect_emb_val win0_13 (pt b n) _ a).trans ?_
  match a with
  | ⟨0, _⟩ => show win0_13.index (pt b n) 0 * 1 + 0 = b.val; omega
  | ⟨1, _⟩ => show win0_13.index (pt b n) 1 * 1024 + v.val = n.val * 1024 + v.val; omega
  | ⟨2, _⟩ => show win0_13.index (pt b n) 2 * 512 + y.val = y.val; omega

/-- The block index of window 14 at each grid point. -/
theorem idx14 : ∀ t : Fin cfg0.N, win0_14.index t 0 = t.val / 8 ∧ win0_14.index t 1 = t.val % 8 ∧ win0_14.index t 2 = 0 :=
  (by decide +kernel : ∀ t : Fin grid0.N, _)

theorem emb14 (b : Fin 2) (n : Fin 8) (v : Fin 1024) (y : Fin 512) :
    (win0_14.rect (pt b n)).emb (ix3 0 v y : S1x1024x512.Idx) = (ix3 b ⟨n.val * 1024 + v.val, by omega⟩ y : S2x8192x512.Idx) := by
  have hf := idx14 (pt b n)
  have e0 := pt_div b n
  have e1 := pt_mod b n
  funext a
  apply Fin.ext
  refine (Pipeline.Window.rect_emb_val win0_14 (pt b n) _ a).trans ?_
  match a with
  | ⟨0, _⟩ => show win0_14.index (pt b n) 0 * 1 + 0 = b.val; omega
  | ⟨1, _⟩ => show win0_14.index (pt b n) 1 * 1024 + v.val = n.val * 1024 + v.val; omega
  | ⟨2, _⟩ => show win0_14.index (pt b n) 2 * 512 + y.val = y.val; omega

/-- The block index of window 15 at each grid point. -/
theorem idx15 : ∀ t : Fin cfg0.N, win0_15.index t 0 = t.val / 8 ∧ win0_15.index t 1 = t.val % 8 ∧ win0_15.index t 2 = 0 :=
  (by decide +kernel : ∀ t : Fin grid0.N, _)

theorem emb15 (b : Fin 2) (n : Fin 8) (v : Fin 1024) (y : Fin 128) :
    (win0_15.rect (pt b n)).emb (ix3 0 v y : S1x1024x128.Idx) = (ix3 b ⟨n.val * 1024 + v.val, by omega⟩ y : S2x8192x128.Idx) := by
  have hf := idx15 (pt b n)
  have e0 := pt_div b n
  have e1 := pt_mod b n
  funext a
  apply Fin.ext
  refine (Pipeline.Window.rect_emb_val win0_15 (pt b n) _ a).trans ?_
  match a with
  | ⟨0, _⟩ => show win0_15.index (pt b n) 0 * 1 + 0 = b.val; omega
  | ⟨1, _⟩ => show win0_15.index (pt b n) 1 * 1024 + v.val = n.val * 1024 + v.val; omega
  | ⟨2, _⟩ => show win0_15.index (pt b n) 2 * 128 + y.val = y.val; omega

/-- The block index of window 16 at each grid point. -/
theorem idx16 : ∀ t : Fin cfg0.N, win0_16.index t 0 = t.val / 8 ∧ win0_16.index t 1 = t.val % 8 ∧ win0_16.index t 2 = 0 :=
  (by decide +kernel : ∀ t : Fin grid0.N, _)

theorem emb16 (b : Fin 2) (n : Fin 8) (v : Fin 1024) (y : Fin 512) :
    (win0_16.rect (pt b n)).emb (ix3 0 v y : S1x1024x512.Idx) = (ix3 b ⟨n.val * 1024 + v.val, by omega⟩ y : S2x8192x512.Idx) := by
  have hf := idx16 (pt b n)
  have e0 := pt_div b n
  have e1 := pt_mod b n
  funext a
  apply Fin.ext
  refine (Pipeline.Window.rect_emb_val win0_16 (pt b n) _ a).trans ?_
  match a with
  | ⟨0, _⟩ => show win0_16.index (pt b n) 0 * 1 + 0 = b.val; omega
  | ⟨1, _⟩ => show win0_16.index (pt b n) 1 * 1024 + v.val = n.val * 1024 + v.val; omega
  | ⟨2, _⟩ => show win0_16.index (pt b n) 2 * 512 + y.val = y.val; omega

/-- The block index of window 17 at each grid point. -/
theorem idx17 : ∀ t : Fin cfg0.N, win0_17.index t 0 = t.val / 8 ∧ win0_17.index t 1 = t.val % 8 ∧ win0_17.index t 2 = 0 :=
  (by decide +kernel : ∀ t : Fin grid0.N, _)

theorem emb17 (b : Fin 2) (n : Fin 8) (v : Fin 1024) (y : Fin 128) :
    (win0_17.rect (pt b n)).emb (ix3 0 v y : S1x1024x128.Idx) = (ix3 b ⟨n.val * 1024 + v.val, by omega⟩ y : S2x8192x128.Idx) := by
  have hf := idx17 (pt b n)
  have e0 := pt_div b n
  have e1 := pt_mod b n
  funext a
  apply Fin.ext
  refine (Pipeline.Window.rect_emb_val win0_17 (pt b n) _ a).trans ?_
  match a with
  | ⟨0, _⟩ => show win0_17.index (pt b n) 0 * 1 + 0 = b.val; omega
  | ⟨1, _⟩ => show win0_17.index (pt b n) 1 * 1024 + v.val = n.val * 1024 + v.val; omega
  | ⟨2, _⟩ => show win0_17.index (pt b n) 2 * 128 + y.val = y.val; omega

/-- The block index of window 18 at each grid point. -/
theorem idx18 : ∀ t : Fin cfg0.N, win0_18.index t 0 = t.val / 8 ∧ win0_18.index t 1 = t.val % 8 ∧ win0_18.index t 2 = 0 :=
  (by decide +kernel : ∀ t : Fin grid0.N, _)

theorem emb18 (b : Fin 2) (n : Fin 8) (v : Fin 1024) (y : Fin 128) :
    (win0_18.rect (pt b n)).emb (ix3 0 v y : S1x1024x128.Idx) = (ix3 b ⟨n.val * 1024 + v.val, by omega⟩ y : S2x8192x128.Idx) := by
  have hf := idx18 (pt b n)
  have e0 := pt_div b n
  have e1 := pt_mod b n
  funext a
  apply Fin.ext
  refine (Pipeline.Window.rect_emb_val win0_18 (pt b n) _ a).trans ?_
  match a with
  | ⟨0, _⟩ => show win0_18.index (pt b n) 0 * 1 + 0 = b.val; omega
  | ⟨1, _⟩ => show win0_18.index (pt b n) 1 * 1024 + v.val = n.val * 1024 + v.val; omega
  | ⟨2, _⟩ => show win0_18.index (pt b n) 2 * 128 + y.val = y.val; omega

end Cert.ProjIdeal.RefValue
-- ==== Proof.ProjBlk.lean ====
module

public import proofs.«01_k».proof.Defs
public import proofs.«01_k».proof.Proof.ProjEmb
public import Idealize.ShloMosaic.Lib.Pointwise
public import Idealize.ShloMosaic.Lib.Claim
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen

variable (m : (ℓ : Loc nD τ sig) → Buf (Elt Ideal) ℓ)

/-- The block of the tokens. -/
theorem blk0 (c : Dev nD) (b : Fin 2) (n : Fin 8) (r d : Fin 1024) :
    iblk m c 0 (pt b n) (ix3 0 r d : S1x1024x1024.Idx) = m ((c : Thread nD τ).loc main_arg0) (ix3 b ⟨n.val * 1024 + r.val, by omega⟩ d : S2x8192x1024.Idx) := by
  show V m c main_arg0 ((win0_0.rect (pt b n)).emb _) = _
  rw [emb0]
  rw [V_main_arg0]

/-- The block of the shift. -/
theorem blk1 (c : Dev nD) (b : Fin 2) (n : Fin 8) (d : Fin 1024) :
    iblk m c 1 (pt b n) (ix3 0 0 d : S1x1x1024.Idx) = m ((c : Thread nD τ).loc main_arg1) (ix3 b 0 d : S2x1x1024.Idx) := by
  show V m c main_arg1 ((win0_1.rect (pt b n)).emb _) = _
  rw [emb1]
  rw [V_main_arg1]

/-- The block of the scale. -/
theorem blk2 (c : Dev nD) (b : Fin 2) (n : Fin 8) (d : Fin 1024) :
    iblk m c 2 (pt b n) (ix3 0 0 d : S1x1x1024.Idx) = m ((c : Thread nD τ).loc main_arg2) (ix3 b 0 d : S2x1x1024.Idx) := by
  show V m c main_arg2 ((win0_2.rect (pt b n)).emb _) = _
  rw [emb2]
  rw [V_main_arg2]

/-- The block of the gain. -/
theorem blk3 (c : Dev nD) (b : Fin 2) (n : Fin 8) (d : Fin 1024) :
    iblk m c 3 (pt b n) (ix2 0 d : S1x1024.Idx) = m ((c : Thread nD τ).loc main_arg3) (ix1 d : S1024.Idx) := by
  show V m c main_v80 ((win0_3.rect (pt b n)).emb _) = _
  rw [emb3]
  after_reads_at

/-- The block of the queries' norm gains, one head repeated. -/
theorem blk6 (c : Dev nD) (b : Fin 2) (n : Fin 8) (l : Fin 512) :
    iblk m c 6 (pt b n) (ix2 0 l : S1x512.Idx) = m ((c : Thread nD τ).loc main_arg6) (ix1 ⟨l.val % 64, by omega⟩ : S64.Idx) := by
  show V m c main_v57 ((win0_6.rect (pt b n)).emb _) = _
  rw [emb6]
  after_reads_at

/-- The block of the keys' norm gains, one head repeated. -/
theorem blk7 (c : Dev nD) (b : Fin 2) (n : Fin 8) (l : Fin 128) :
    iblk m c 7 (pt b n) (ix2 0 l : S1x128.Idx) = m ((c : Thread nD τ).loc main_arg7) (ix1 ⟨l.val % 64, by omega⟩ : S64.Idx) := by
  show V m c main_v61 ((win0_7.rect (pt b n)).emb _) = _
  rw [emb7]
  after_reads_at

end Cert.ProjIdeal.RefValue
-- ==== Proof.ProjW.lean ====
module

public import proofs.«01_k».proof.Defs
public import proofs.«01_k».proof.Proof.ProjEmb
public import Idealize.ShloMosaic.Lib.Pointwise
public import Idealize.ShloMosaic.Lib.Claim
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen

variable (m : (ℓ : Loc nD τ sig) → Buf (Elt Ideal) ℓ)
/-! ## The packed matrix -/

/-- The natural head that the packed queries' place `p` holds. -/
def hd (p : Nat) : Nat := p % 2 * 4 + p / 2

/-- The same, among the eight heads. -/
def hd8 (p : Fin 8) : Fin 8 := ⟨hd p.val, by unfold hd; omega⟩

/-- Zero as a value. -/
theorem nat_zero : (FloatOps.sitofp (F := Ideal) FTy.f32 0#32 : EReal) = 0 := by
  show (((0#32 : BitVec 32).toInt : ℝ) : EReal) = 0
  simp

/-- A gather along the middle axis of a three-axis array reads, at `(u, p, v)`, the operand at its start index for `p`. -/
theorem gather_mid {α : Type} (x : S1024x8x64.Idx → α) (s : IVec S8x1 32) (o : Fin 8 → Fin 8)
    (ho : ∀ p : Fin 8, min (s (ix2 p 0)).toInt.toNat 7 = (o p).val) (u : Fin 1024) (p : Fin 8) (v : Fin 64) :
    Host.gather gather_S1024x8x64_S8x1_S1024x8x64_02_1_n_n_1_1_1024164 x s (ix3 u p v) = x (ix3 u (o p) v) := by
  unfold Host.gather
  congr 1
  funext a
  refine Fin.ext ?_
  show GatherDims.start _ _ s a + GatherDims.batchCoord _ _ a + GatherDims.offCoord _ _ a = _
  rw [GatherDims.batchCoord_eq_zero _ _ _ List.not_mem_nil]
  match a with
  | ⟨1, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, h0⟩ : Fin S1024x8x64.rank) ∈ gather_S1024x8x64_S8x1_S1024x8x64_02_1_n_n_1_1_1024164.startIndexMap from List.mem_singleton.mpr rfl)]
    refine Eq.trans ?_ (ho p)
    refine congrArg (fun i => min (s i).toInt.toNat 7) ?_
    funext b
    refine Fin.ext ?_
    match b with
    | ⟨0, _⟩ => rfl
    | ⟨1, _⟩ => rfl
  | ⟨0, hk⟩ =>
    unfold GatherDims.start
    rw [dif_neg (show ¬ (⟨0, hk⟩ : Fin S1024x8x64.rank) ∈ gather_S1024x8x64_S8x1_S1024x8x64_02_1_n_n_1_1_1024164.startIndexMap from
      fun h => absurd (congrArg Fin.val (List.mem_singleton.mp h)) (show ¬ 0 = 1 by decide))]
    simp only [Nat.zero_add]
    rfl
  | ⟨2, hk⟩ =>
    unfold GatherDims.start
    rw [dif_neg (show ¬ (⟨2, hk⟩ : Fin S1024x8x64.rank) ∈ gather_S1024x8x64_S8x1_S1024x8x64_02_1_n_n_1_1_1024164.startIndexMap from
      fun h => absurd (congrArg Fin.val (List.mem_singleton.mp h)) (show ¬ 2 = 1 by decide))]
    simp only [Nat.zero_add]
    rfl

section col
variable (c : Dev nD) (b : Fin 2) (n : Fin 8) (d : Fin 1024) (j : Fin 2432)

set_option maxHeartbeats 1000000 in
/-- The packed matrix's first 1536 columns are the input matrix's. -/
theorem blk4_m (h : j.val < 1536) :
    iblk m c 4 (pt b n) (ix2 d j : S1024x2432.Idx) = m ((c : Thread nD τ).loc main_arg4) (ix2 d ⟨j.val, by omega⟩ : S1024x4880.Idx) := by
  show V m c main_v51 ((win0_4.rect (pt b n)).emb _) = _
  rw [emb4]
  after_reads_at
  split
  · after_reads_at
  split
  · after_reads_at
    refine congrArg (fun k => m (c, Proc.tc.devRef main_arg4) (ix2 d k)) (Fin.ext ?_)
    show 512 + (j.val - 512) = j.val
    omega
  rw [dif_pos (by omega)]
  after_reads_at
  refine congrArg (fun k => m (c, Proc.tc.devRef main_arg4) (ix2 d k)) (Fin.ext ?_)
  show 1024 + (j.val - 512 - 512) = j.val
  omega

set_option maxHeartbeats 1000000 in
/-- The packed matrix's columns of the queries, the heads reordered. -/
theorem blk4_q (h1 : 1536 ≤ j.val) (h : j.val < 2048) :
    iblk m c 4 (pt b n) (ix2 d j : S1024x2432.Idx)
      = m ((c : Thread nD τ).loc main_arg4) (ix2 d ⟨2064 + 64 * hd ((j.val - 1536) / 64) + j.val % 64, by unfold hd; omega⟩ : S1024x4880.Idx) := by
  show V m c main_v51 ((win0_4.rect (pt b n)).emb _) = _
  rw [emb4]
  after_reads_at
  rw [dif_neg (by omega), dif_neg (by omega), dif_neg (by omega), dif_pos (by omega)]
  after_reads_at
  rw [gather_mid _ _ hd8 (by decide +kernel)]
  refine congrArg (fun k => m (c, Proc.tc.devRef main_arg4) (ix2 d k)) (Fin.ext ?_)
  show 2064 + (hd ((j.val - 512 - 512 - 512) / 64) * 64 + (j.val - 512 - 512 - 512) % 64) = 2064 + 64 * hd ((j.val - 1536) / 64) + j.val % 64
  rw [show j.val - 512 - 512 - 512 = j.val - 1536 by omega]
  omega

set_option maxHeartbeats 1000000 in
/-- The packed matrix's columns of the keys and the values. -/
theorem blk4_kv (h1 : 2048 ≤ j.val) (h : j.val < 2304) :
    iblk m c 4 (pt b n) (ix2 d j : S1024x2432.Idx) = m ((c : Thread nD τ).loc main_arg4) (ix2 d ⟨528 + j.val, by omega⟩ : S1024x4880.Idx) := by
  show V m c main_v51 ((win0_4.rect (pt b n)).emb _) = _
  rw [emb4]
  after_reads_at
  rw [dif_neg (by omega), dif_neg (by omega), dif_neg (by omega), dif_neg (by omega)]
  split
  · after_reads_at
    refine congrArg (fun k => m (c, Proc.tc.devRef main_arg4) (ix2 d k)) (Fin.ext ?_)
    show 2576 + (j.val - 512 - 512 - 512 - 512) = 528 + j.val
    omega
  rw [dif_pos (by omega)]
  after_reads_at
  refine congrArg (fun k => m (c, Proc.tc.devRef main_arg4) (ix2 d k)) (Fin.ext ?_)
  show 2704 + (j.val - 512 - 512 - 512 - 512 - 128) = 528 + j.val
  omega

set_option maxHeartbeats 1000000 in
/-- The packed matrix's columns of the gates, padded with zeros. -/
theorem blk4_g (h1 : 2304 ≤ j.val) :
    iblk m c 4 (pt b n) (ix2 d j : S1024x2432.Idx) =
     (if h : j.val < 2320 then m ((c : Thread nD τ).loc main_arg4) (ix2 d ⟨j.val - 256, by omega⟩ : S1024x4880.Idx) else (0 : EReal)) := by
  show V m c main_v51 ((win0_4.rect (pt b n)).emb _) = _
  rw [emb4]
  after_reads_at
  rw [dif_neg (by omega), dif_neg (by omega), dif_neg (by omega), dif_neg (by omega), dif_neg (by omega), dif_neg (by omega)]
  after_reads_at
  by_cases h : j.val < 2320
  · refine Eq.trans (dif_pos (show j.val - 512 - 512 - 512 - 512 - 128 - 128 < 16 by omega)) (Eq.trans ?_ (dif_pos h).symm)
    refine congrArg (fun k => m (c, Proc.tc.devRef main_arg4) (ix2 d k)) (Fin.ext ?_)
    show 2048 + (j.val - 512 - 512 - 512 - 512 - 128 - 128) = j.val - 256
    omega
  · refine Eq.trans (dif_neg (show ¬ j.val - 512 - 512 - 512 - 512 - 128 - 128 < 16 by omega)) (Eq.trans ?_ (dif_neg h).symm)
    exact nat_zero
end col

/-! ## The gates' biases, and the matrices that sum over a head -/

/-- The gates' biases, padded with zeros. -/
theorem blk5 (c : Dev nD) (b : Fin 2) (n : Fin 8) (j : Fin 128) :
    iblk m c 5 (pt b n) (ix2 0 j : S1x128.Idx) = (if h : j.val < 16 then m ((c : Thread nD τ).loc main_arg5) (ix1 ⟨j.val, h⟩ : S16.Idx) else (0 : EReal)) := by
  show V m c main_v53 ((win0_5.rect (pt b n)).emb _) = _
  rw [emb5]
  after_reads_at
  split
  · rfl
  · exact nat_zero

/-- The quotient of a word by 64, rounded down, as the host computes it. -/
def fdiv (w : BitVec 32) : BitVec 32 :=
  Scalar.select
    (IntOp.andi
      (IntOp.cmpi CmpIPredicate.ne (if w = 0 then (0 : BitVec 32) else if w.msb = true then -1 else 1)
        (if id (constantI S_ 32 64#32) ix0 = 0 then (0 : BitVec 32) else if BitVec.msb (id (constantI S_ 32 64#32) ix0) = true then -1 else 1))
      (IntOp.cmpi CmpIPredicate.ne (IntOp.remsi ArithUnit.host w (id (constantI S_ 32 64#32) ix0)) 0#32))
    (IntOp.subi (IntOp.divsi ArithUnit.host w (id (constantI S_ 32 64#32) ix0)) 1#32)
    (IntOp.divsi ArithUnit.host w (id (constantI S_ 32 64#32) ix0))

/-- The floor quotient by 64 of a small number. -/
theorem fdiv_nat : ∀ k : Fin 512, fdiv (BitVec.ofNat 32 k.val) = BitVec.ofNat 32 (k.val / 64) := by decide +kernel

/-- The comparison of two lanes' heads, as a value. -/
theorem same_head (i j : Nat) (hi : i < 512) (hj : j < 512) :
    (FloatOps.uitofp (F := Ideal) FTy.bf16 (IntOp.cmpi CmpIPredicate.eq (fdiv (BitVec.ofNat 32 i)) (fdiv (BitVec.ofNat 32 j))) : EReal)
      = if i / 64 = j / 64 then 1 else 0 := by
  rw [fdiv_nat ⟨i, hi⟩, fdiv_nat ⟨j, hj⟩]
  show (((BitVec.ofBool (BitVec.ofNat 32 (i / 64) == BitVec.ofNat 32 (j / 64))).toNat : ℝ) : EReal) = _
  by_cases h : i / 64 = j / 64
  · rw [if_pos h, h]
    simp
  · rw [if_neg h]
    have e : BitVec.ofNat 32 (i / 64) ≠ BitVec.ofNat 32 (j / 64) := by
      intro e
      have e' := congrArg BitVec.toNat e
      simp only [BitVec.toNat_ofNat] at e'
      omega
    simp [e]

/-- The matrix of ones within a head, for the queries. -/
theorem blk8 (c : Dev nD) (b : Fin 2) (n : Fin 8) (d j : Fin 512) :
    iblk m c 8 (pt b n) (ix2 d j : S512x512.Idx) = if d.val / 64 = j.val / 64 then (1 : EReal) else 0 := by
  refine Eq.trans ?_ (same_head d.val j.val (by omega) (by omega))
  show V m c main_v70 ((win0_8.rect (pt b n)).emb _) = _
  rw [emb8]
  after_reads_at
  unfold fdiv
  congr!

/-- The matrix of ones within a head, for the keys. -/
theorem blk9 (c : Dev nD) (b : Fin 2) (n : Fin 8) (d j : Fin 128) :
    iblk m c 9 (pt b n) (ix2 d j : S128x128.Idx) = if d.val / 64 = j.val / 64 then (1 : EReal) else 0 := by
  refine Eq.trans ?_ (same_head d.val j.val (by omega) (by omega))
  show V m c main_v79 ((win0_9.rect (pt b n)).emb _) = _
  rw [emb9]
  after_reads_at
  unfold fdiv
  congr!

end Cert.ProjIdeal.RefValue
-- ==== Proof.ProjTab.lean ====
module

public import proofs.«01_k».proof.Defs
public import proofs.«01_k».proof.Proof.ProjEmb
public import Idealize.ShloMosaic.Lib.Pointwise
public import Idealize.ShloMosaic.Lib.Claim
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen

variable (m : (ℓ : Loc nD τ sig) → Buf (Elt Ideal) ℓ)
/-! ## The rotary tables -/

/-- A natural number as a value. -/
abbrev nat (n : Nat) : EReal := FloatOps.sitofp (F := Ideal) FTy.f32 (BitVec.ofNat 32 n)

/-- The angle of lane `j` of 32 at token `t`: the first 16 lanes turn with the row, the last 16 with the column. -/
def ang (t j : Nat) : EReal :=
  if j < 16 then
    nat (t / 64) * Ideal.pow (Ideal.ofBits FTy.f32 1176256512#32) (Ideal.div (-nat j) (Ideal.ofBits FTy.f32 1098907648#32))
  else
    nat (t % 64) * Ideal.pow (Ideal.ofBits FTy.f32 1176256512#32) (Ideal.div (-nat (j - 16)) (Ideal.ofBits FTy.f32 1098907648#32))

set_option maxHeartbeats 2000000 in
/-- The block of the cosines. -/
theorem blk10 (c : Dev nD) (b : Fin 2) (n : Fin 8) (d : Fin 1024) (j : Fin 128) :
    iblk m c 10 (pt b n) (ix2 d j : S1024x128.Idx) = Ideal.cos (ang (n.val * 1024 + d.val) (j.val % 32)) := by
  show V m c main_v29 ((win0_10.rect (pt b n)).emb _) = _
  rw [emb10]
  after_reads_at
  split
  · rw [show j.val % 32 = j.val by omega]
    after_reads_at
    after_reads_at
    simp only [dite_eq_ite]
    rfl
  split
  · rw [show j.val % 32 = j.val - 32 by omega]
    after_reads_at
    after_reads_at
    simp only [dite_eq_ite]
    rfl
  split
  · rw [show j.val % 32 = j.val - 32 - 32 by omega]
    after_reads_at
    after_reads_at
    simp only [dite_eq_ite]
    rfl
  · rw [show j.val % 32 = j.val - 32 - 32 - 32 by omega]
    after_reads_at
    after_reads_at
    simp only [dite_eq_ite]
    rfl

set_option maxHeartbeats 2000000 in
/-- The block of the signed sines. -/
theorem blk11 (c : Dev nD) (b : Fin 2) (n : Fin 8) (d : Fin 1024) (j : Fin 128) :
    iblk m c 11 (pt b n) (ix2 d j : S1024x128.Idx)
      = if j.val % 64 < 32 then -Ideal.sin (ang (n.val * 1024 + d.val) (j.val % 32)) else Ideal.sin (ang (n.val * 1024 + d.val) (j.val % 32)) := by
  show V m c main_v31 ((win0_11.rect (pt b n)).emb _) = _
  rw [emb11]
  after_reads_at
  split
  · rw [show j.val % 32 = j.val by omega, if_pos (show j.val % 64 < 32 by omega)]
    after_reads_at
    after_reads_at
    simp only [dite_eq_ite]
    rfl
  split
  · rw [show j.val % 32 = j.val - 32 by omega, if_neg (show ¬ j.val % 64 < 32 by omega)]
    after_reads_at
    after_reads_at
    simp only [dite_eq_ite]
    rfl
  split
  · rw [show j.val % 32 = j.val - 32 - 32 by omega, if_pos (show j.val % 64 < 32 by omega)]
    after_reads_at
    after_reads_at
    simp only [dite_eq_ite]
    rfl
  · rw [show j.val % 32 = j.val - 32 - 32 - 32 by omega, if_neg (show ¬ j.val % 64 < 32 by omega)]
    after_reads_at
    after_reads_at
    simp only [dite_eq_ite]
    rfl

end Cert.ProjIdeal.RefValue
-- ==== Proof.ProjKer.lean ====
module

public import proofs.«01_k».proof.Defs
public import proofs.«01_k».proof.Proof.Gen.ProjIdeal.Frame
public import proofs.«01_k».proof.Proof.AttnMath
public import Idealize.ShloMosaic.Lib.Pointwise

@[expose] public section

set_option maxRecDepth 16384

noncomputable section

open Idealize.ShloMosaic Idealize.ShloMosaic.TcCoe Idealize.SL.Sem

namespace Cert.ProjIdeal.RefValue

open Cert.ProjIdeal Cert.ProjIdeal.Gen

/-! ## The payloads, read at an index -/

/-- The modulated normalised row: `x · rsqrt (mean x² + ε) · g · (1 + scale) + shift`. -/
def modu (x : Fin 1024 → EReal) (g sc sh : Fin 1024 → EReal) (d : Fin 1024) : EReal :=
  x d * Ideal.rsqrt (Ideal.div (∑ e, x e * x e) (Ideal.ofBits FTy.f32 1149239296#32) + Ideal.ofBits FTy.f32 897988541#32)
    * g d * (1 + sc d) + sh d

section block
variable (x0 : Vec Ideal S1x1024x1024 .f32) (x1 x2 : Vec Ideal S1x1x1024 .f32) (x3 : Vec Ideal S1x1024 .f32)
  (x4 : Vec Ideal S1024x2432 .bf16) (x5 : Vec Ideal S1x128 .f32) (x6 : Vec Ideal S1x512 .f32) (x7 : Vec Ideal S1x128 .f32)
  (x8 : Vec Ideal S512x512 .bf16) (x9 : Vec Ideal S128x128 .bf16) (x10 x11 : Vec Ideal S1024x128 .f32)

/-- The modulated rows. -/
theorem rows_apply (r d : Fin 1024) :
    k0_pay25 x0 x1 x2 x3 x4 x5 x6 x7 x8 x9 x10 x11 (ix2 r d)
      = modu (fun e => x0 (ix3 0 r e)) (fun e => x3 (ix2 0 e)) (fun e => x2 (ix3 0 0 e)) (fun e => x1 (ix3 0 0 e)) d := by
  unfold_payloads
  pointwise [modu]

/-- A row of the block times a column of the packed matrix. -/
def pcol (r : Fin 1024) (j : Fin 2432) : EReal :=
  ∑ d, modu (fun e => x0 (ix3 0 r e)) (fun e => x3 (ix2 0 e)) (fun e => x2 (ix3 0 0 e)) (fun e => x1 (ix3 0 0 e)) d * x4 (ix2 d j)

/-- The first result's block: the first 512 columns of the product. -/
theorem out12_apply (r : Fin 1024) (l : Fin 512) :
    out0_12 x0 x1 x2 x3 x4 x5 x6 x7 x8 x9 x10 x11 (ix3 0 r l) = pcol x0 x1 x2 x3 x4 r ⟨l.val, by omega⟩ := by
  unfold out0_12
  rw [View.canon_unit_zero (by funext a; fin_cases a <;> rfl)]
  unfold_payloads
  pointwise [pcol, modu]

/-- The second result's block: the next 512 columns, scaled. -/
theorem out13_apply (r : Fin 1024) (l : Fin 512) :
    out0_13 x0 x1 x2 x3 x4 x5 x6 x7 x8 x9 x10 x11 (ix3 0 r l)
      = pcol x0 x1 x2 x3 x4 r ⟨512 + l.val, by omega⟩ * Ideal.ofBits .f32 0x3DB504F3#32 := by
  unfold out0_13
  rw [View.canon_unit_zero (by funext a; fin_cases a <;> rfl)]
  unfold_payloads
  pointwise [pcol, modu]

/-- The third result's block: the next 512 columns. -/
theorem out14_apply (r : Fin 1024) (l : Fin 512) :
    out0_14 x0 x1 x2 x3 x4 x5 x6 x7 x8 x9 x10 x11 (ix3 0 r l) = pcol x0 x1 x2 x3 x4 r ⟨1024 + l.val, by omega⟩ := by
  unfold out0_14
  rw [View.canon_unit_zero (by funext a; fin_cases a <;> rfl)]
  unfold_payloads
  pointwise [pcol, modu]

/-- The last result's block: the values' columns. -/
theorem out18_apply (r : Fin 1024) (l : Fin 128) :
    out0_18 x0 x1 x2 x3 x4 x5 x6 x7 x8 x9 x10 x11 (ix3 0 r l) = pcol x0 x1 x2 x3 x4 r ⟨2176 + l.val, by omega⟩ := by
  unfold out0_18
  rw [View.canon_unit_zero (by funext a; fin_cases a <;> rfl)]
  unfold_payloads
  pointwise [pcol, modu]

end block

/-- The second half of a head's lanes, as the kernel's lane arithmetic finds it. -/
theorem low_half : ∀ l : Fin 512,
    (IntOp.cmpi CmpIPredicate.slt
      (Scalar.select
        (IntOp.andi
          (IntOp.xori (IntOp.cmpi .slt (IntOp.remsi ArithUnit.vector (BitVec.ofNat 32 l.val) (Scalar.select (Scalar.cmpi .eq 64#32 0#32) 1#32 64#32)) 0#32)
            (Scalar.cmpi .slt (Scalar.select (Scalar.cmpi .eq 64#32 0#32) 1#32 64#32) 0#32))
          (IntOp.cmpi .ne (IntOp.remsi ArithUnit.vector (BitVec.ofNat 32 l.val) (Scalar.select (Scalar.cmpi .eq 64#32 0#32) 1#32 64#32)) 0#32))
        (IntOp.addi (IntOp.remsi ArithUnit.vector (BitVec.ofNat 32 l.val) (Scalar.select (Scalar.cmpi .eq 64#32 0#32) 1#32 64#32))
          (Scalar.select (Scalar.cmpi .eq 64#32 0#32) 1#32 64#32))
        (IntOp.remsi ArithUnit.vector (BitVec.ofNat 32 l.val) (Scalar.select (Scalar.cmpi .eq 64#32 0#32) 1#32 64#32)))
      32#32 : BitVec 1) = BitVec.ofBool (decide (l.val % 64 < 32)) := by decide +kernel

/-- The lanes of the forget gates, as the kernel's lane arithmetic finds them. -/
theorem high_four : ∀ l : Fin 128,
    (IntOp.cmpi CmpIPredicate.sge
      (Scalar.select
        (IntOp.andi
          (IntOp.xori (IntOp.cmpi .slt (IntOp.remsi ArithUnit.vector (BitVec.ofNat 32 l.val) (Scalar.select (Scalar.cmpi .eq 8#32 0#32) 1#32 8#32)) 0#32)
            (Scalar.cmpi .slt (Scalar.select (Scalar.cmpi .eq 8#32 0#32) 1#32 8#32) 0#32))
          (IntOp.cmpi .ne (IntOp.remsi ArithUnit.vector (BitVec.ofNat 32 l.val) (Scalar.select (Scalar.cmpi .eq 8#32 0#32) 1#32 8#32)) 0#32))
        (IntOp.addi (IntOp.remsi ArithUnit.vector (BitVec.ofNat 32 l.val) (Scalar.select (Scalar.cmpi .eq 8#32 0#32) 1#32 8#32))
          (Scalar.select (Scalar.cmpi .eq 8#32 0#32) 1#32 8#32))
        (IntOp.remsi ArithUnit.vector (BitVec.ofNat 32 l.val) (Scalar.select (Scalar.cmpi .eq 8#32 0#32) 1#32 8#32)))
      4#32 : BitVec 1) = BitVec.ofBool (decide (4 ≤ l.val % 8)) := by decide +kernel

/-- Four copies of 128 lanes side by side, read at a lane. -/
theorem lanes4 (f : Fin 128 → EReal) (l : Fin 512) :
    (if h : l.val < 128 then f ⟨l.val, h⟩
      else if h' : l.val - 128 < 128 then f ⟨l.val - 128, h'⟩
      else if h'' : l.val - 128 - 128 < 128 then f ⟨l.val - 128 - 128, h''⟩
      else f ⟨l.val - 128 - 128 - 128, by omega⟩) = f ⟨l.val % 128, by omega⟩ := by
  by_cases h : l.val < 128
  · rw [dif_pos h]; exact congrArg f (Fin.ext (by show l.val = l.val % 128; omega))
  rw [dif_neg h]
  by_cases h' : l.val - 128 < 128
  · rw [dif_pos h']; exact congrArg f (Fin.ext (by show l.val - 128 = l.val % 128; omega))
  rw [dif_neg h']
  by_cases h'' : l.val - 128 - 128 < 128
  · rw [dif_pos h'']; exact congrArg f (Fin.ext (by show l.val - 128 - 128 = l.val % 128; omega))
  rw [dif_neg h'']; exact congrArg f (Fin.ext (by show l.val - 128 - 128 - 128 = l.val % 128; omega))

section parts
variable (v : FVec Ideal S1024x512 .f32) (u : FVec Ideal S1024x128 .f32) (c s : FVec Ideal S1024x128 .f32) (k : FVec Ideal S1024x1024 .bf16)
  (w : Vec Ideal S1024x512 .bf16) (bd : Vec Ideal S512x512 .bf16) (g : Vec Ideal S1x512 .f32)

/-- The root mean square of a head, its squares summed in two parts by the matrix that knows the heads. -/
def rmsk {n : Nat} (S : Fin n → EReal) (bd : Fin n → EReal) (g : EReal) (l : Fin n) : EReal :=
  S l * Ideal.rsqrt ((∑ x, (S x * S x) * bd x + ∑ x, (S x * S x - S x * S x) * bd x) * Ideal.ofBits .f32 1015021568#32
    + Ideal.ofBits .f32 897988541#32) * g

/-- The queries after the norm, at a lane. -/
theorem pay8_apply (r : Fin 1024) (l : Fin 512) :
    k0_pay8 k w bd g (ix2 r l) = rmsk (fun x => ∑ d, k (ix2 r d) * w (ix2 d x)) (fun x => bd (ix2 x l)) (g (ix2 0 l)) l := by
  unfold_payloads
  pointwise [rmsk]

/-- The turn of a head: each lane by the cosine, its partner half a head away by the signed sine. -/
theorem pay10_apply (r : Fin 1024) (l : Fin 512) :
    k0_pay10 v c s (ix3 0 r l)
      = (v (ix2 r l) * c (ix2 r ⟨l.val % 128, by omega⟩)
          + (if l.val % 64 < 32 then v (ix2 r ⟨(l.val + 512 - 480) % 512, by omega⟩) else v (ix2 r ⟨(l.val + 512 - 32) % 512, by omega⟩))
            * s (ix2 r ⟨l.val % 128, by omega⟩)) * Ideal.ofBits .f32 1040187392#32 := by
  rw [← lanes4 (fun j => c (ix2 r j)) l, ← lanes4 (fun j => s (ix2 r j)) l, ← AttnMath.select_ofBool, ← low_half l]
  unfold_payloads
  pointwise

/-- The gates before the activation, at a lane. -/
theorem pay1_apply (r : Fin 1024) (l : Fin 128) :
    k0_pay1 (F := Ideal) u k0_pay22 k0_pay23 k0_pay24 (ix3 0 r l)
      = if 4 ≤ l.val % 8 then min (u (ix2 r l)) 0 - Ideal.log1p (Ideal.exp (0 - max (u (ix2 r l)) (-u (ix2 r l)))) else u (ix2 r l) := by
  rw [← AttnMath.select_ofBool, ← high_four l]
  unfold_payloads
  pointwise
  rfl

end parts

section lanes
variable (p26 : FVec Ideal S1024x128 .f32) (p27 : FVec Ideal S1024x128 .f32) (c s : FVec Ideal S1024x128 .f32) (k : FVec Ideal S1024x1024 .bf16)
  (w : Vec Ideal S1024x128 .bf16) (bd : Vec Ideal S128x128 .bf16) (g : Vec Ideal S1x128 .f32)

/-- The keys after the norm, at a lane. -/
theorem pay14_apply (r : Fin 1024) (l : Fin 128) :
    k0_pay14 (k0_pay11 k w) (k0_pay12 k w) (k0_pay13 bd) g (ix2 r l)
      = rmsk (fun x => ∑ d, k (ix2 r d) * w (ix2 d x)) (fun x => bd (ix2 x l)) (g (ix2 0 l)) l := by
  unfold_payloads
  pointwise [rmsk]

/-- The gates after the activation, at a lane. -/
theorem pay21_apply (b : Vec Ideal S1x128 .f32) (r : Fin 1024) (l : Fin 128) :
    k0_pay21 k w b (ix2 r l) = ∑ d, k (ix2 r d) * w (ix2 d l) + b (ix2 0 l) := by
  unfold_payloads
  pointwise
end lanes
end Cert.ProjIdeal.RefValue
-- ==== Proof.ProjOut.lean ====
module

public import proofs.«01_k».proof.Defs
public import proofs.«01_k».proof.Proof.ProjKer
public import Idealize.ShloMosaic.Lib.Pointwise

@[expose] public section

set_option maxRecDepth 16384

noncomputable section

open Idealize.ShloMosaic Idealize.ShloMosaic.TcCoe Idealize.SL.Sem

namespace Cert.ProjIdeal.RefValue

open Cert.ProjIdeal Cert.ProjIdeal.Gen

/-! ## The loads from the packed matrix and the tables -/

section loads
variable (x4 : Vec Ideal S1024x2432 .bf16) (x5 x7 : Vec Ideal S1x128 .f32) (x6 : Vec Ideal S1x512 .f32)
  (x8 : Vec Ideal S512x512 .bf16) (x9 : Vec Ideal S128x128 .bf16) (x10 : Vec Ideal S1024x128 .f32)

theorem ld_q (d : Fin 1024) (l : Fin 512) : View.ld x4 r0_5 (ix2 d l) = x4 (ix2 d ⟨1536 + l.val, by omega⟩) := by pointwise
theorem ld_k (d : Fin 1024) (l : Fin 128) : View.ld x4 r0_9 (ix2 d l) = x4 (ix2 d ⟨2048 + l.val, by omega⟩) := by pointwise
theorem ld_g (d : Fin 1024) (l : Fin 128) : View.ld x4 r0_14 (ix2 d l) = x4 (ix2 d ⟨2304 + l.val, by omega⟩) := by pointwise
theorem ld_8 (d : Fin 512) (l : Fin 512) : View.ld x8 r0_6 (ix2 d l) = x8 (ix2 d l) := by pointwise
theorem ld_9 (d : Fin 128) (l : Fin 128) : View.ld x9 r0_10 (ix2 d l) = x9 (ix2 d l) := by pointwise
theorem ld_6 (l : Fin 512) : View.ld x6 r0_7 (ix2 0 l) = x6 (ix2 0 l) := by pointwise
theorem ld_7 (l : Fin 128) : View.ld x7 r0_11 (ix2 0 l) = x7 (ix2 0 l) := by pointwise
theorem ld_10 (r : Fin 1024) (l : Fin 128) : View.ld x10 r0_8 (ix2 r l) = x10 (ix2 r l) := by pointwise
end loads

/-- The turn of a head of 128 lanes. -/
theorem pay19_apply (v c s : FVec Ideal S1024x128 .f32) (r : Fin 1024) (l : Fin 128) :
    k0_pay19 v c s k0_pay17 (dynamicRotate 1 96#32 none v rotates_S1024x128_d1) 32#32 (ix3 0 r l)
      = v (ix2 r l) * c (ix2 r l)
          + (if l.val % 64 < 32 then v (ix2 r ⟨(l.val + 128 - 96) % 128, by omega⟩) else v (ix2 r ⟨(l.val + 128 - 32) % 128, by omega⟩))
            * s (ix2 r l) := by
  rw [← AttnMath.select_ofBool, ← low_half ⟨l.val, by omega⟩]
  unfold_payloads
  pointwise

section block
variable (x0 : Vec Ideal S1x1024x1024 .f32) (x1 x2 : Vec Ideal S1x1x1024 .f32) (x3 : Vec Ideal S1x1024 .f32)
  (x4 : Vec Ideal S1024x2432 .bf16) (x5 : Vec Ideal S1x128 .f32) (x6 : Vec Ideal S1x512 .f32) (x7 : Vec Ideal S1x128 .f32)
  (x8 : Vec Ideal S512x512 .bf16) (x9 : Vec Ideal S128x128 .bf16) (x10 x11 : Vec Ideal S1024x128 .f32)

/-- The gates' block: the biased product, and the logarithm of its sigmoid at the forget gates. -/
theorem out15_apply (r : Fin 1024) (l : Fin 128) :
    out0_15 x0 x1 x2 x3 x4 x5 x6 x7 x8 x9 x10 x11 (ix3 0 r l)
      = if 4 ≤ l.val % 8 then
          min (pcol x0 x1 x2 x3 x4 r ⟨2304 + l.val, by omega⟩ + x5 (ix2 0 l)) 0
            - Ideal.log1p (Ideal.exp (0 - max (pcol x0 x1 x2 x3 x4 r ⟨2304 + l.val, by omega⟩ + x5 (ix2 0 l))
              (-(pcol x0 x1 x2 x3 x4 r ⟨2304 + l.val, by omega⟩ + x5 (ix2 0 l)))))
        else pcol x0 x1 x2 x3 x4 r ⟨2304 + l.val, by omega⟩ + x5 (ix2 0 l) := by
  unfold out0_15
  rw [View.canon_unit_zero (by funext a; fin_cases a <;> rfl)]
  have e : k0_pay21 (k0_pay25 x0 x1 x2 x3 x4 x5 x6 x7 x8 x9 x10 x11) (View.ld x4 r0_14) (View.ld x5 r0_11) (ix2 r l)
      = pcol x0 x1 x2 x3 x4 r ⟨2304 + l.val, by omega⟩ + x5 (ix2 0 l) := by
    refine (pay21_apply _ _ _ r l).trans (congrArg₂ (fun y z => y + z) ?_ (ld_7 x5 l))
    exact Finset.sum_congr rfl fun d _ => congrArg₂ (· * ·) (rows_apply x0 x1 x2 x3 x4 x5 x6 x7 x8 x9 x10 x11 r d) (ld_g x4 d l)
  rw [pay1_apply, e]

/-- A lane of the queries before the turn. -/
def qlane (r : Fin 1024) (l : Fin 512) : EReal :=
  rmsk (fun x : Fin 512 => pcol x0 x1 x2 x3 x4 r ⟨1536 + x.val, by omega⟩) (fun x => x8 (ix2 x l)) (x6 (ix2 0 l)) l

/-- A lane of the keys before the turn. -/
def klane (r : Fin 1024) (l : Fin 128) : EReal :=
  rmsk (fun x : Fin 128 => pcol x0 x1 x2 x3 x4 r ⟨2048 + x.val, by omega⟩) (fun x => x9 (ix2 x l)) (x7 (ix2 0 l)) l

/-- The queries before the turn, at a lane. -/
theorem qlane_apply (r : Fin 1024) (l : Fin 512) :
    k0_pay8 (k0_pay25 x0 x1 x2 x3 x4 x5 x6 x7 x8 x9 x10 x11) (View.ld x4 r0_5) (View.ld x8 r0_6) (View.ld x6 r0_7) (ix2 r l)
      = qlane x0 x1 x2 x3 x4 x6 x8 r l := by
  refine (pay8_apply _ _ _ _ r l).trans ?_
  have e1 : (fun x : Fin 512 => ∑ d, k0_pay25 x0 x1 x2 x3 x4 x5 x6 x7 x8 x9 x10 x11 (ix2 r d) * View.ld x4 r0_5 (ix2 d x))
      = fun x => pcol x0 x1 x2 x3 x4 r ⟨1536 + x.val, by omega⟩ := by
    funext x
    exact Finset.sum_congr rfl fun d _ => congrArg₂ (· * ·) (rows_apply x0 x1 x2 x3 x4 x5 x6 x7 x8 x9 x10 x11 r d) (ld_q x4 d x)
  exact congrFun (congr (congr (congrArg rmsk e1) (funext fun x => ld_8 x8 x l)) (ld_6 x6 l)) l

/-- The keys before the turn, at a lane. -/
theorem klane_apply (r : Fin 1024) (l : Fin 128) :
    k0_pay14 (k0_pay26 x0 x1 x2 x3 x4 x5 x6 x7 x8 x9 x10 x11) (k0_pay27 x0 x1 x2 x3 x4 x5 x6 x7 x8 x9 x10 x11)
      (k0_pay28 x0 x1 x2 x3 x4 x5 x6 x7 x8 x9 x10 x11) (View.ld x7 r0_11) (ix2 r l)
      = klane x0 x1 x2 x3 x4 x7 x9 r l := by
  unfold k0_pay26 k0_pay27 k0_pay28
  refine (pay14_apply _ _ _ _ r l).trans ?_
  have e1 : (fun x : Fin 128 => ∑ d, k0_pay25 x0 x1 x2 x3 x4 x5 x6 x7 x8 x9 x10 x11 (ix2 r d) * View.ld x4 r0_9 (ix2 d x))
      = fun x => pcol x0 x1 x2 x3 x4 r ⟨2048 + x.val, by omega⟩ := by
    funext x
    exact Finset.sum_congr rfl fun d _ => congrArg₂ (· * ·) (rows_apply x0 x1 x2 x3 x4 x5 x6 x7 x8 x9 x10 x11 r d) (ld_k x4 d x)
  exact congrFun (congr (congr (congrArg rmsk e1) (funext fun x => ld_9 x9 x l)) (ld_7 x7 l)) l

/-- The queries' block: a lane of the turned and scaled heads. -/
theorem out16_apply (r : Fin 1024) (l : Fin 512) :
    out0_16 x0 x1 x2 x3 x4 x5 x6 x7 x8 x9 x10 x11 (ix3 0 r l)
      = (qlane x0 x1 x2 x3 x4 x6 x8 r l * x10 (ix2 r ⟨l.val % 128, by omega⟩)
          + (if l.val % 64 < 32 then qlane x0 x1 x2 x3 x4 x6 x8 r ⟨(l.val + 512 - 480) % 512, by omega⟩
              else qlane x0 x1 x2 x3 x4 x6 x8 r ⟨(l.val + 512 - 32) % 512, by omega⟩)
            * x11 (ix2 r ⟨l.val % 128, by omega⟩)) * Ideal.ofBits .f32 1040187392#32 := by
  unfold out0_16
  rw [View.canon_unit_zero (by funext a; fin_cases a <;> rfl)]
  refine (pay10_apply _ _ _ r l).trans ?_
  simp only [qlane_apply]
  refine congrArg (fun z => z * Ideal.ofBits FTy.f32 1040187392#32) (congrArg₂ (fun y z => y + z) ?_ ?_)
  · refine congrArg (fun z => qlane x0 x1 x2 x3 x4 x6 x8 r l * z) ?_
    unfold_payloads
    pointwise
  · exact congrArg (fun z => (if l.val % 64 < 32 then qlane x0 x1 x2 x3 x4 x6 x8 r ⟨(l.val + 512 - 480) % 512, by omega⟩
              else qlane x0 x1 x2 x3 x4 x6 x8 r ⟨(l.val + 512 - 32) % 512, by omega⟩) * z) (ld_10 x11 r _)

/-- The keys' block: a lane of the turned heads. -/
theorem out17_apply (r : Fin 1024) (l : Fin 128) :
    out0_17 x0 x1 x2 x3 x4 x5 x6 x7 x8 x9 x10 x11 (ix3 0 r l)
      = klane x0 x1 x2 x3 x4 x7 x9 r l * x10 (ix2 r l)
          + (if l.val % 64 < 32 then klane x0 x1 x2 x3 x4 x7 x9 r ⟨(l.val + 128 - 96) % 128, by omega⟩
              else klane x0 x1 x2 x3 x4 x7 x9 r ⟨(l.val + 128 - 32) % 128, by omega⟩)
            * x11 (ix2 r l) := by
  unfold out0_17
  rw [View.canon_unit_zero (by funext a; fin_cases a <;> rfl)]
  refine (pay19_apply _ _ _ r l).trans ?_
  simp only [klane_apply]
  rw [show k0_pay15 (View.ld x10 r0_8) (ix2 r l) = x10 (ix2 r l) by
    unfold_payloads
    pointwise, show k0_pay16 (View.ld x11 r0_8) (ix2 r l) = x11 (ix2 r l) by
    unfold_payloads
    pointwise]

end block
end Cert.ProjIdeal.RefValue
-- ==== Proof.ProjMath.lean ====
module

public import proofs.«01_k».proof.Defs
public import proofs.«01_k».proof.Proof.ProjKer
public import proofs.«01_k».proof.Proof.ProjTab
public import proofs.«01_k».proof.Proof.AttnMath

@[expose] public section

set_option maxRecDepth 16384

noncomputable section

open Idealize.ShloMosaic

namespace Cert.ProjIdeal.RefValue

open Cert.AttnMath

/-! ## The sums over a head -/

/-- The root mean square norm of a head's 64 lanes. -/
def rms64 (S g : Fin 64 → EReal) (e : Fin 64) : EReal :=
  S e * Ideal.rsqrt (Ideal.div (∑ x, S x * S x) (Ideal.ofBits FTy.f32 1115684864#32) + Ideal.ofBits FTy.f32 897988541#32) * g e

/-- A head turned by the angles of token `t`. -/
def turn (a : Fin 64 → EReal) (t : Nat) (e : Fin 64) : EReal :=
  if h : e.val < 32 then
    a ⟨e.val, by omega⟩ * Ideal.cos (ang t e.val) - a ⟨32 + e.val, by omega⟩ * Ideal.sin (ang t e.val)
  else
    a ⟨32 + (e.val - 32), by omega⟩ * Ideal.cos (ang t (e.val - 32)) + a ⟨e.val - 32, by omega⟩ * Ideal.sin (ang t (e.val - 32))

/-- A sum with the matrix that knows the heads is the sum over the lane's own head. -/
theorem seg_sum {n : Nat} (hn : n % 64 = 0) (f : Fin n → EReal) (l : Fin n) :
    ∑ x : Fin n, f x * (if x.val / 64 = l.val / 64 then (1 : EReal) else 0)
      = ∑ e : Fin 64, f ⟨64 * (l.val / 64) + e.val, by have := l.isLt; omega⟩ := by
  simp only [mul_ite, mul_one, mul_zero]
  rw [← Finset.sum_filter]
  refine Finset.sum_nbij' (fun x => (⟨x.val % 64, by omega⟩ : Fin 64))
    (fun e => (⟨64 * (l.val / 64) + e.val, by have := l.isLt; omega⟩ : Fin n)) ?_ ?_ ?_ ?_ ?_
  · intro x _
    exact Finset.mem_univ _
  · intro e _
    refine Finset.mem_filter.2 ⟨Finset.mem_univ _, ?_⟩
    show (64 * (l.val / 64) + e.val) / 64 = l.val / 64
    omega
  · intro x hx
    have h := (Finset.mem_filter.1 hx).2
    exact Fin.ext (by show 64 * (l.val / 64) + x.val % 64 = x.val; omega)
  · intro e _
    exact Fin.ext (by show (64 * (l.val / 64) + e.val) % 64 = e.val; omega)
  · intro x hx
    have h := (Finset.mem_filter.1 hx).2
    exact congrArg f (Fin.ext (by show x.val = 64 * (l.val / 64) + x.val % 64; omega))

/-- Times a sixty-fourth is divided by 64. -/
theorem div64 (s : EReal) : s * Ideal.ofBits FTy.f32 1015021568#32 = Ideal.div s (Ideal.ofBits FTy.f32 1115684864#32) := by
  have h1 : Ideal.ofBits FTy.f32 1015021568#32 = (((64 : ℝ)⁻¹ : ℝ) : EReal) := by
    simp [Ideal.ofBits, Ideal.ieee]
    rw [← EReal.coe_mul]
    norm_num
  have h2 : Ideal.ofBits FTy.f32 1115684864#32 = ((64 : ℝ) : EReal) := by
    simp [Ideal.ofBits, Ideal.ieee]
    rw [← EReal.coe_mul]
    norm_num
  rw [h1, h2]
  unfold Ideal.div
  rw [if_neg (by exact_mod_cast (by norm_num : (64 : ℝ) ≠ 0)), EReal.coe_inv]

/-- A product of a real value with itself, less itself, is zero. -/
theorem sq_sub {x : EReal} (h : IsReal x) : x * x - x * x = 0 := by
  obtain ⟨r, hr⟩ := h.mul h
  rw [hr, ← EReal.coe_sub, sub_self]
  rfl

/-- The kernel's norm of a head, the squares summed in two parts, is the norm: the second part is zero where the values are real. -/
theorem rms_eq {n : Nat} (hn : n % 64 = 0) (S : Fin n → EReal) (hS : ∀ x, IsReal (S x)) (G : Fin 64 → EReal) (l : Fin n) :
    rmsk S (fun x => if x.val / 64 = l.val / 64 then (1 : EReal) else 0) (G ⟨l.val % 64, by omega⟩) l
      = rms64 (fun x => S ⟨64 * (l.val / 64) + x.val, by have := l.isLt; omega⟩) G ⟨l.val % 64, by omega⟩ := by
  unfold rmsk rms64
  simp only [fun x => sq_sub (hS x), zero_mul, Finset.sum_const_zero, add_zero]
  rw [seg_sum hn (fun x => S x * S x) l, div64]
  have e : (⟨64 * (l.val / 64) + l.val % 64, by have := l.isLt; omega⟩ : Fin n) = l :=
    Fin.ext (by show 64 * (l.val / 64) + l.val % 64 = l.val; omega)
  show S l * _ * _ = S ⟨64 * (l.val / 64) + l.val % 64, by have := l.isLt; omega⟩ * _ * _
  rw [e]

/-- The kernel's turn of a head, the sine signed and the partner found by moving lanes, is the turn. -/
theorem turn_eq {n : Nat} (v : Fin n → EReal) (A : Nat → Fin 64 → EReal)
    (hv : ∀ l : Fin n, v l = A (l.val / 64) ⟨l.val % 64, by omega⟩) (t : Nat) (c s : EReal) (l p q : Fin n)
    (hc : c = Ideal.cos (ang t (l.val % 32)))
    (hs : s = if l.val % 64 < 32 then -Ideal.sin (ang t (l.val % 32)) else Ideal.sin (ang t (l.val % 32)))
    (hp : l.val % 64 < 32 → p.val = l.val + 32) (hq : ¬ l.val % 64 < 32 → q.val + 32 = l.val) :
    v l * c + (if l.val % 64 < 32 then v p else v q) * s = turn (A (l.val / 64)) t ⟨l.val % 64, by omega⟩ := by
  have key : ∀ (a a' : Nat) (e e' : Nat) (he : e < 64) (he' : e' < 64), a = a' → e = e' → A a ⟨e, he⟩ = A a' ⟨e', he'⟩ := by
    rintro a _ e _ _ _ rfl rfl
    rfl
  unfold turn
  by_cases h : l.val % 64 < 32
  · have hp := hp h
    rw [dif_pos h, if_pos h, hs, if_pos h, hc, hv l, hv p, mul_neg, ← sub_eq_add_neg,
      show l.val % 32 = l.val % 64 by omega,
      key (p.val / 64) (l.val / 64) (p.val % 64) (32 + l.val % 64) (by omega) (by omega) (by omega) (by omega)]
  · have hq := hq h
    rw [dif_neg h, if_neg h, hs, if_neg h, hc, hv l, hv q,
      show l.val % 32 = l.val % 64 - 32 by omega,
      key (q.val / 64) (l.val / 64) (q.val % 64) (l.val % 64 - 32) (by omega) (by omega) (by omega) (by omega),
      key (l.val / 64) (l.val / 64) (l.val % 64) (32 + (l.val % 64 - 32)) (by omega) (by omega) (by omega) (by omega)]

/-! ## The modulated rows of real values are real -/

/-- A sum of squares of real values is a nonnegative real. -/
theorem sq_sum {n : Nat} (s : Finset (Fin n)) (x : Fin n → EReal) (hx : ∀ e, IsReal (x e)) : ∃ r : ℝ, 0 ≤ r ∧ ∑ e ∈ s, x e * x e = (r : EReal) := by
  classical
  induction s using Finset.induction_on with
  | empty => exact ⟨0, le_refl _, by simp⟩
  | insert a s ha ih =>
    obtain ⟨r, hr, e⟩ := ih
    obtain ⟨y, hy⟩ := hx a
    exact ⟨y * y + r, add_nonneg (mul_self_nonneg y) hr, by rw [Finset.sum_insert ha, e, hy, ← EReal.coe_mul, ← EReal.coe_add]⟩

/-- A square is not negative. -/
theorem sq_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- A row whose elements are not all real has plus infinity as its sum of squares. -/
theorem sq_sum_top {n : Nat} (x : Fin n → EReal) (h : ¬ ∀ e, IsReal (x e)) : ∑ e, x e * x e = ⊤ := by
  obtain ⟨a, ha⟩ := not_forall.1 h
  have e : x a * x a = ⊤ := by
    generalize x a = y at ha ⊢
    induction y with
    | bot => exact EReal.bot_mul_bot
    | top => exact EReal.top_mul_top
    | coe r => exact absurd ⟨r, rfl⟩ ha
  rw [← Finset.add_sum_erase Finset.univ (fun e => x e * x e) (Finset.mem_univ a), e]
  exact EReal.top_add_of_ne_bot (ne_of_gt (lt_of_lt_of_le EReal.bot_lt_zero (Finset.sum_nonneg fun e _ => sq_nonneg (x e))))

/-- The modulated normalised row is real wherever the gain and the modulation are, whatever the row: a row that is not real is normalised to zero. -/
theorem modu_real (x g sc sh : Fin 1024 → EReal) (hg : ∀ e, IsReal (g e)) (hsc : ∀ e, IsReal (sc e))
    (hsh : ∀ e, IsReal (sh e)) (d : Fin 1024) : IsReal (modu x g sc sh d) := by
  have h1 : Ideal.ofBits FTy.f32 1149239296#32 = ((1024 : ℝ) : EReal) := by
    simp [Ideal.ofBits, Ideal.ieee]
    rw [← EReal.coe_mul]
    norm_num
  have h2 : ∃ p : ℝ, 0 < p ∧ Ideal.ofBits FTy.f32 897988541#32 = (p : EReal) := by
    refine ⟨(8796093 : ℝ) * (2 : ℝ) ^ (-43 : ℤ), by positivity, ?_⟩
    simp [Ideal.ofBits, Ideal.ieee]
  obtain ⟨p, hp, h2⟩ := h2
  by_cases hx : ∀ e, IsReal (x e)
  swap
  · unfold modu
    rw [sq_sum_top x hx, h1, h2]
    unfold Ideal.div
    rw [if_neg (by exact_mod_cast (by norm_num : (1024 : ℝ) ≠ 0)), ← EReal.coe_inv, EReal.top_mul_coe_of_pos (by norm_num), EReal.top_add_coe]
    rw [show Ideal.rsqrt ⊤ = 0 from rfl, mul_zero, zero_mul, zero_mul, zero_add]
    exact hsh d
  obtain ⟨r, hr, e⟩ := sq_sum Finset.univ x hx
  have hq : 0 < r * (1024 : ℝ)⁻¹ + p := by positivity
  have h3 : IsReal (Ideal.rsqrt (Ideal.div (∑ e, x e * x e) (Ideal.ofBits FTy.f32 1149239296#32) + Ideal.ofBits FTy.f32 897988541#32)) := by
    rw [e, h1, h2]
    unfold Ideal.div
    rw [if_neg (by exact_mod_cast (by norm_num : (1024 : ℝ) ≠ 0)), ← EReal.coe_inv, ← EReal.coe_mul, ← EReal.coe_add]
    refine ⟨(Real.sqrt (r * (1024 : ℝ)⁻¹ + p))⁻¹, ?_⟩
    rw [Ideal.rsqrt_coe, if_neg (not_lt.2 hq.le), if_neg hq.ne']
  unfold modu
  exact ((((hx d).mul h3).mul (hg d)).mul (IsReal.add ⟨1, rfl⟩ (hsc d))).add (hsh d)

/-! ## The logarithm of the sigmoid -/

/-- `log (1 + exp y)` is not minus infinity. -/
theorem log1p_exp (y : EReal) : Ideal.log1p (Ideal.exp y) ≠ ⊥ := by
  induction y with
  | bot =>
    show Ideal.log (1 + ((0 : ℝ) : EReal)) ≠ ⊥
    rw [← EReal.coe_one, ← EReal.coe_add]
    show (if (1 + 0 : ℝ) ≤ 0 then (⊥ : EReal) else ((Real.log (1 + 0) : ℝ) : EReal)) ≠ ⊥
    rw [if_neg (by norm_num)]
    exact EReal.coe_ne_bot _
  | coe r =>
    show Ideal.log (1 + ((Real.exp r : ℝ) : EReal)) ≠ ⊥
    rw [← EReal.coe_one, ← EReal.coe_add]
    show (if (1 + Real.exp r : ℝ) ≤ 0 then (⊥ : EReal) else ((Real.log (1 + Real.exp r) : ℝ) : EReal)) ≠ ⊥
    rw [if_neg (not_le.2 (by have := Real.exp_pos r; linarith))]
    exact EReal.coe_ne_bot _
  | top =>
    show Ideal.log (1 + (⊤ : EReal)) ≠ ⊥
    rw [← EReal.coe_one, EReal.coe_add_top]
    exact bot_lt_top.ne'

/-- The two forms of the logarithm of the sigmoid. -/
theorem log_sigmoid (u : EReal) :
    min u 0 - Ideal.log1p (Ideal.exp (0 - max u (-u))) = -(max (-u) 0 + Ideal.log1p (Ideal.exp (-max (-u) (- -u)))) := by
  have hL : (0 : EReal) - max u (-u) = -max (-u) (- -u) := by
    rw [neg_neg, max_comm, zero_sub]
  rw [hL]
  have h0 : max (-u) 0 ≠ ⊥ := ne_of_gt (lt_of_lt_of_le (EReal.bot_lt_zero) (le_max_right _ _))
  rw [EReal.neg_add (Or.inl h0) (Or.inr (log1p_exp _))]
  congr 1
  rcases le_total u 0 with h | h
  · rw [min_eq_left h, max_eq_left (by rw [← neg_zero]; exact EReal.neg_le_neg_iff.2 h), neg_neg]
  · rw [min_eq_right h, max_eq_right (by rw [← neg_zero]; exact EReal.neg_le_neg_iff.2 h), neg_zero]

end Cert.ProjIdeal.RefValue
-- ==== Proof.ProjCol.lean ====
module

public import proofs.«01_k».proof.Defs
public import proofs.«01_k».proof.Proof.Gen.ProjIdeal.Value
public import proofs.«01_k».proof.Proof.ProjBlk
public import proofs.«01_k».proof.Proof.ProjW
public import proofs.«01_k».proof.Proof.ProjTab
public import proofs.«01_k».proof.Proof.ProjOut
public import proofs.«01_k».proof.Proof.ProjMath
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen
open Cert.AttnMath (IsReal)

variable (m : (ℓ : Loc nD τ sig) → Buf (Elt Ideal) ℓ)

/-- Column `j` of the product of token `t`'s modulated normalised row with the input matrix. -/
def prow (x : FVec Ideal S2x8192x1024 .f32) (sh sc : FVec Ideal S2x1x1024 .f32) (g : FVec Ideal S1024 .f32) (w : FVec Ideal S1024x4880 .f32)
    (b : Fin 2) (t : Fin 8192) (j : Fin 4880) : EReal :=
  ∑ d, modu (fun e => x (ix3 b t e)) (fun e => g (ix1 e)) (fun e => sc (ix3 b 0 e)) (fun e => sh (ix3 b 0 e)) d * w (ix2 d j)

/-- `prow` of the arguments. -/
def prowm (c : Dev nD) (b : Fin 2) (t : Fin 8192) (j : Fin 4880) : EReal :=
  prow (m ((c : Thread nD τ).loc main_arg0)) (m ((c : Thread nD τ).loc main_arg1)) (m ((c : Thread nD τ).loc main_arg2)) (m ((c : Thread nD τ).loc main_arg3)) (m ((c : Thread nD τ).loc main_arg4)) b t j

/-- A gate before its activation: a gate's column plus its bias, and zero in the lanes past the sixteenth. -/
def gatev (c : Dev nD) (b : Fin 2) (t : Fin 8192) (l : Fin 128) : EReal :=
  if h : l.val < 16 then prowm m c b t ⟨2048 + l.val, by omega⟩ + m ((c : Thread nD τ).loc main_arg5) (ix1 ⟨l.val, h⟩ : S16.Idx) else 0

/-- A head of the queries after the norm, `h` counted in the order the kernel lays the heads. -/
def qhead (c : Dev nD) (b : Fin 2) (t : Fin 8192) (h : Nat) : Fin 64 → EReal :=
  rms64 (fun x => prowm m c b t ⟨2064 + 64 * hd (h % 8) + x.val, by unfold hd; omega⟩) (fun x => m ((c : Thread nD τ).loc main_arg6) (ix1 x : S64.Idx))

/-- A head of the keys after the norm. -/
def khead (c : Dev nD) (b : Fin 2) (t : Fin 8192) (h : Nat) : Fin 64 → EReal :=
  rms64 (fun x => prowm m c b t ⟨2576 + 64 * (h % 2) + x.val, by omega⟩) (fun x => m ((c : Thread nD τ).loc main_arg7) (ix1 x : S64.Idx))

section col
variable (c : Dev nD) (b : Fin 2) (n : Fin 8) (r : Fin 1024)

/-- A column of the kernel's product is the modulated row times that column of the kernel's matrix. -/
theorem pcol_x (j : Fin 2432) : pcol (iblk m c 0 (pt b n)) (iblk m c 1 (pt b n)) (iblk m c 2 (pt b n)) (iblk m c 3 (pt b n)) (iblk m c 4 (pt b n)) r j
    = ∑ d, modu (fun e => m ((c : Thread nD τ).loc main_arg0) (ix3 b ⟨n.val * 1024 + r.val, by omega⟩ e : S2x8192x1024.Idx)) (fun e => m ((c : Thread nD τ).loc main_arg3) (ix1 e : S1024.Idx)) (fun e => m ((c : Thread nD τ).loc main_arg2) (ix3 b 0 e : S2x1x1024.Idx))
        (fun e => m ((c : Thread nD τ).loc main_arg1) (ix3 b 0 e : S2x1x1024.Idx)) d * iblk m c 4 (pt b n) (ix2 d j : S1024x2432.Idx) := by
  unfold pcol
  simp only [blk0, blk1, blk2, blk3]

/-- The first 1536 columns are the input matrix's. -/
theorem pcol_m (j : Fin 2432) (h : j.val < 1536) : pcol (iblk m c 0 (pt b n)) (iblk m c 1 (pt b n)) (iblk m c 2 (pt b n)) (iblk m c 3 (pt b n)) (iblk m c 4 (pt b n)) r j = prowm m c b ⟨n.val * 1024 + r.val, by omega⟩ ⟨j.val, by omega⟩ :=
  (pcol_x m c b n r j).trans (Finset.sum_congr rfl fun d _ => Ideal.mul_congr rfl (blk4_m m c b n d j h))

/-- The queries' columns are the input matrix's, the heads in the kernel's order. -/
theorem pcol_q (j : Fin 2432) (h1 : 1536 ≤ j.val) (h : j.val < 2048) : pcol (iblk m c 0 (pt b n)) (iblk m c 1 (pt b n)) (iblk m c 2 (pt b n)) (iblk m c 3 (pt b n)) (iblk m c 4 (pt b n)) r j
    = prowm m c b ⟨n.val * 1024 + r.val, by omega⟩ ⟨2064 + 64 * hd ((j.val - 1536) / 64) + j.val % 64, by unfold hd; omega⟩ :=
  (pcol_x m c b n r j).trans (Finset.sum_congr rfl fun d _ => Ideal.mul_congr rfl (blk4_q m c b n d j h1 h))

/-- The keys' and values' columns are the input matrix's, 528 further on. -/
theorem pcol_kv (j : Fin 2432) (h1 : 2048 ≤ j.val) (h : j.val < 2304) : pcol (iblk m c 0 (pt b n)) (iblk m c 1 (pt b n)) (iblk m c 2 (pt b n)) (iblk m c 3 (pt b n)) (iblk m c 4 (pt b n)) r j
    = prowm m c b ⟨n.val * 1024 + r.val, by omega⟩ ⟨528 + j.val, by omega⟩ :=
  (pcol_x m c b n r j).trans (Finset.sum_congr rfl fun d _ => Ideal.mul_congr rfl (blk4_kv m c b n d j h1 h))

/-- A gate's column and bias are the input matrix's and the bias', or zero. -/
theorem pcol_g (l : Fin 128) : pcol (iblk m c 0 (pt b n)) (iblk m c 1 (pt b n)) (iblk m c 2 (pt b n)) (iblk m c 3 (pt b n)) (iblk m c 4 (pt b n)) r ⟨2304 + l.val, by omega⟩ + iblk m c 5 (pt b n) (ix2 0 l : S1x128.Idx)
    = gatev m c b ⟨n.val * 1024 + r.val, by omega⟩ l := by
  unfold gatev
  by_cases h : l.val < 16
  · rw [dif_pos h]
    have e1 : pcol (iblk m c 0 (pt b n)) (iblk m c 1 (pt b n)) (iblk m c 2 (pt b n)) (iblk m c 3 (pt b n)) (iblk m c 4 (pt b n)) r ⟨2304 + l.val, by omega⟩ = prowm m c b ⟨n.val * 1024 + r.val, by omega⟩ ⟨2048 + l.val, by omega⟩ := by
      refine (pcol_x m c b n r _).trans ?_
      unfold prowm prow
      refine Finset.sum_congr rfl fun d _ => Ideal.mul_congr rfl ?_
      refine (blk4_g m c b n d ⟨2304 + l.val, by omega⟩ (by show 2304 ≤ 2304 + l.val; omega)).trans ?_
      rw [dif_pos (show 2304 + l.val < 2320 by omega)]
      exact congrArg (fun k => m ((c : Thread nD τ).loc main_arg4) (ix2 d k : S1024x4880.Idx)) (Fin.ext (by show 2304 + l.val - 256 = 2048 + l.val; omega))
    have e2 := blk5 m c b n l
    rw [dif_pos h] at e2
    exact congrArg₂ (· + ·) e1 e2
  · rw [dif_neg h]
    have e1 : pcol (iblk m c 0 (pt b n)) (iblk m c 1 (pt b n)) (iblk m c 2 (pt b n)) (iblk m c 3 (pt b n)) (iblk m c 4 (pt b n)) r ⟨2304 + l.val, by omega⟩ = 0 := by
      refine (pcol_x m c b n r _).trans (Finset.sum_eq_zero fun d _ => ?_)
      have e := blk4_g m c b n d ⟨2304 + l.val, by omega⟩ (by show 2304 ≤ 2304 + l.val; omega)
      rw [dif_neg (show ¬ 2304 + l.val < 2320 by omega)] at e
      exact (Ideal.mul_congr rfl e).trans (mul_zero _)
    have e2 := blk5 m c b n l
    rw [dif_neg h] at e2
    exact (congrArg₂ (· + ·) e1 e2).trans (add_zero _)

/-- A lane of the kernel's queries before the turn is a lane of the normed head, where the product is real. -/
theorem qlane_eq (hr : ∀ t (j : Fin 4880), 2064 ≤ j.val → j.val < 2704 → IsReal (prowm m c b t j)) (l : Fin 512) :
    qlane (iblk m c 0 (pt b n)) (iblk m c 1 (pt b n)) (iblk m c 2 (pt b n)) (iblk m c 3 (pt b n)) (iblk m c 4 (pt b n)) (iblk m c 6 (pt b n)) (iblk m c 8 (pt b n)) r l = qhead m c b ⟨n.val * 1024 + r.val, by omega⟩ (l.val / 64) ⟨l.val % 64, by omega⟩ := by
  unfold qlane
  have e1 : (fun x : Fin 512 => pcol (iblk m c 0 (pt b n)) (iblk m c 1 (pt b n)) (iblk m c 2 (pt b n)) (iblk m c 3 (pt b n)) (iblk m c 4 (pt b n)) r ⟨1536 + x.val, by omega⟩)
      = fun x : Fin 512 => prowm m c b ⟨n.val * 1024 + r.val, by omega⟩ ⟨2064 + 64 * hd (x.val / 64) + x.val % 64, by unfold hd; omega⟩ := by
    funext x
    refine (pcol_q m c b n r ⟨1536 + x.val, by omega⟩ (by show 1536 ≤ 1536 + x.val; omega) (by show 1536 + x.val < 2048; omega)).trans ?_
    refine congrArg (prowm m c b ⟨n.val * 1024 + r.val, by omega⟩) (Fin.ext ?_)
    show 2064 + 64 * hd ((1536 + x.val - 1536) / 64) + (1536 + x.val) % 64 = 2064 + 64 * hd (x.val / 64) + x.val % 64
    rw [Nat.add_sub_cancel_left]
    omega
  have e2 : (fun x : Fin 512 => iblk m c 8 (pt b n) (ix2 x l : S512x512.Idx)) = fun x : Fin 512 => if x.val / 64 = l.val / 64 then (1 : EReal) else 0 :=
    funext fun x => blk8 m c b n x l
  refine (congrFun (congr (congr (congrArg rmsk e1) e2) (blk6 m c b n l)) l).trans ?_
  refine (rms_eq (by norm_num) _ (fun x => hr _ _ (by show 2064 ≤ 2064 + 64 * hd (x.val / 64) + x.val % 64; omega)
    (by show 2064 + 64 * hd (x.val / 64) + x.val % 64 < 2704; unfold hd; omega)) (fun x => m ((c : Thread nD τ).loc main_arg6) (ix1 x : S64.Idx)) l).trans ?_
  unfold qhead
  refine congrArg (fun S => rms64 S (fun x => m ((c : Thread nD τ).loc main_arg6) (ix1 x : S64.Idx)) ⟨l.val % 64, by omega⟩) (funext fun x => ?_)
  refine congrArg (prowm m c b ⟨n.val * 1024 + r.val, by omega⟩) (Fin.ext ?_)
  show 2064 + 64 * hd ((64 * (l.val / 64) + x.val) / 64) + (64 * (l.val / 64) + x.val) % 64 = 2064 + 64 * hd (l.val / 64 % 8) + x.val
  rw [show (64 * (l.val / 64) + x.val) / 64 = l.val / 64 by omega, show l.val / 64 % 8 = l.val / 64 by omega]
  omega

/-- A lane of the kernel's keys before the turn is a lane of the normed head, where the product is real. -/
theorem klane_eq (hr : ∀ t (j : Fin 4880), 2064 ≤ j.val → j.val < 2704 → IsReal (prowm m c b t j)) (l : Fin 128) :
    klane (iblk m c 0 (pt b n)) (iblk m c 1 (pt b n)) (iblk m c 2 (pt b n)) (iblk m c 3 (pt b n)) (iblk m c 4 (pt b n)) (iblk m c 7 (pt b n)) (iblk m c 9 (pt b n)) r l = khead m c b ⟨n.val * 1024 + r.val, by omega⟩ (l.val / 64) ⟨l.val % 64, by omega⟩ := by
  unfold klane
  have e1 : (fun x : Fin 128 => pcol (iblk m c 0 (pt b n)) (iblk m c 1 (pt b n)) (iblk m c 2 (pt b n)) (iblk m c 3 (pt b n)) (iblk m c 4 (pt b n)) r ⟨2048 + x.val, by omega⟩)
      = fun x : Fin 128 => prowm m c b ⟨n.val * 1024 + r.val, by omega⟩ ⟨2576 + x.val, by omega⟩ := by
    funext x
    refine (pcol_kv m c b n r ⟨2048 + x.val, by omega⟩ (by show 2048 ≤ 2048 + x.val; omega) (by show 2048 + x.val < 2304; omega)).trans ?_
    exact congrArg (prowm m c b ⟨n.val * 1024 + r.val, by omega⟩) (Fin.ext (by show 528 + (2048 + x.val) = 2576 + x.val; omega))
  have e2 : (fun x : Fin 128 => iblk m c 9 (pt b n) (ix2 x l : S128x128.Idx)) = fun x : Fin 128 => if x.val / 64 = l.val / 64 then (1 : EReal) else 0 :=
    funext fun x => blk9 m c b n x l
  refine (congrFun (congr (congr (congrArg rmsk e1) e2) (blk7 m c b n l)) l).trans ?_
  refine (rms_eq (by norm_num) _ (fun x => hr _ _ (by show 2064 ≤ 2576 + x.val; omega)
    (by show 2576 + x.val < 2704; omega)) (fun x => m ((c : Thread nD τ).loc main_arg7) (ix1 x : S64.Idx)) l).trans ?_
  unfold khead
  refine congrArg (fun S => rms64 S (fun x => m ((c : Thread nD τ).loc main_arg7) (ix1 x : S64.Idx)) ⟨l.val % 64, by omega⟩) (funext fun x => ?_)
  refine congrArg (prowm m c b ⟨n.val * 1024 + r.val, by omega⟩) (Fin.ext ?_)
  show 2576 + (64 * (l.val / 64) + x.val) = 2576 + 64 * (l.val / 64 % 2) + x.val
  omega
end col

end Cert.ProjIdeal.RefValue
-- ==== Proof.ProjEndA.lean ====
module

public import proofs.«01_k».proof.Defs
public import proofs.«01_k».proof.Proof.Gen.ProjIdeal.Value
public import proofs.«01_k».proof.Proof.ProjCol
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen
open Cert.AttnMath (IsReal)

variable (m : (ℓ : Loc nD τ sig) → Buf (Elt Ideal) ℓ)

/-- The value of result 0, the queries of the recurrence, at a batch, a token and a lane. -/
def val12 (c : Dev nD) (b : Fin 2) (t : Fin 8192) (l : Fin 512) : EReal :=
  prowm m c b t ⟨l.val, by omega⟩

/-- `val12` as the contents of the result's array. -/
def G12 (c : Dev nD) : Buf (Elt Ideal) ((c : Thread nD τ).loc main_v81_0) :=
  fun i : S2x8192x512.Idx => val12 m c (i 0) (i 1) (i 2)

set_option maxHeartbeats 2000000 in
/-- What point `t` writes back to result 0 is block `t` of `G12`. -/
theorem flushed12_eq (c : Dev nD) (t : Fin cfg0.N) :
    (dats m 0 c).flushed 12 t = (win0_12.blk t).view.read (Elt Ideal) (G12 m c) := by
  obtain ⟨b, n, rfl⟩ := eq_pt t
  rw [Value.flushed12]
  have key : ∀ y : S1x1024x512.Idx, out0_12 (iblk m c 0 (pt b n)) (iblk m c 1 (pt b n)) (iblk m c 2 (pt b n)) (iblk m c 3 (pt b n))
      (iblk m c 4 (pt b n)) (iblk m c 5 (pt b n)) (iblk m c 6 (pt b n)) (iblk m c 7 (pt b n))
      (iblk m c 8 (pt b n)) (iblk m c 9 (pt b n)) (iblk m c 10 (pt b n)) (iblk m c 11 (pt b n)) y
      = G12 m c ((win0_12.rect (pt b n)).emb y) := by
    intro y
    idx_vars y
    obtain rfl : y0 = 0 := Subsingleton.elim _ _
    refine Eq.trans ?_ (congrArg (G12 m c) (emb12 b n y1 y2)).symm
    refine (out12_apply _ _ _ _ _ _ _ _ _ _ _ _ y1 y2).trans ?_
    show _ = val12 m c b ⟨n.val * 1024 + y1.val, by omega⟩ y2
    unfold val12
    exact pcol_m m c b n y1 ⟨y2.val, by omega⟩ (by show y2.val < 1536; omega)
  exact funext key

/-- The blocks of result 0 tile its array. -/
theorem cover12 (i : S2x8192x512.Idx) : ∃ t : Fin cfg0.N, (cfg0.win 12).flush t = true ∧ i ∈ ((cfg0.win 12).blk t).view.set := by
  idx_vars i
  refine ⟨pt i0 ⟨i1.val / 1024, by omega⟩, flush0_12 _, ?_⟩
  have e := emb12 i0 ⟨i1.val / 1024, by omega⟩ ⟨i1.val % 1024, by omega⟩ i2
  have h := ((cfg0.win 12).blk (pt i0 ⟨i1.val / 1024, by omega⟩)).view.emb_mem_set (ix3 0 ⟨i1.val % 1024, by omega⟩ i2 : S1x1024x512.Idx)
  have e' : (⟨i1.val / 1024 * 1024 + i1.val % 1024, by omega⟩ : Fin 8192) = i1 := Fin.ext (by show i1.val / 1024 * 1024 + i1.val % 1024 = i1.val; omega)
  rw [e'] at e
  exact e ▸ h

/-- Result 0 ends at `G12`. -/
theorem final12 (c : Dev nD) : (dats m 0 c).arrAt 12 cfg0.N = G12 m c :=
  (dats m 0 c).arrAt_eq_of_cover 12 (G12 m c) (fun t _ => flushed12_eq m c t) cover12

/-- The value of result 1, the keys of the recurrence, at a batch, a token and a lane. -/
def val13 (c : Dev nD) (b : Fin 2) (t : Fin 8192) (l : Fin 512) : EReal :=
  prowm m c b t ⟨512 + l.val, by omega⟩ * Ideal.ofBits FTy.f32 0x3DB504F3#32

/-- `val13` as the contents of the result's array. -/
def G13 (c : Dev nD) : Buf (Elt Ideal) ((c : Thread nD τ).loc main_v81_1) :=
  fun i : S2x8192x512.Idx => val13 m c (i 0) (i 1) (i 2)

set_option maxHeartbeats 2000000 in
/-- What point `t` writes back to result 1 is block `t` of `G13`. -/
theorem flushed13_eq (c : Dev nD) (t : Fin cfg0.N) :
    (dats m 0 c).flushed 13 t = (win0_13.blk t).view.read (Elt Ideal) (G13 m c) := by
  obtain ⟨b, n, rfl⟩ := eq_pt t
  rw [Value.flushed13]
  have key : ∀ y : S1x1024x512.Idx, out0_13 (iblk m c 0 (pt b n)) (iblk m c 1 (pt b n)) (iblk m c 2 (pt b n)) (iblk m c 3 (pt b n))
      (iblk m c 4 (pt b n)) (iblk m c 5 (pt b n)) (iblk m c 6 (pt b n)) (iblk m c 7 (pt b n))
      (iblk m c 8 (pt b n)) (iblk m c 9 (pt b n)) (iblk m c 10 (pt b n)) (iblk m c 11 (pt b n)) y
      = G13 m c ((win0_13.rect (pt b n)).emb y) := by
    intro y
    idx_vars y
    obtain rfl : y0 = 0 := Subsingleton.elim _ _
    refine Eq.trans ?_ (congrArg (G13 m c) (emb13 b n y1 y2)).symm
    refine (out13_apply _ _ _ _ _ _ _ _ _ _ _ _ y1 y2).trans ?_
    show _ = val13 m c b ⟨n.val * 1024 + y1.val, by omega⟩ y2
    unfold val13
    exact congrArg (· * Ideal.ofBits FTy.f32 0x3DB504F3#32) (pcol_m m c b n y1 ⟨512 + y2.val, by omega⟩ (by show 512 + y2.val < 1536; omega))
  exact funext key

/-- The blocks of result 1 tile its array. -/
theorem cover13 (i : S2x8192x512.Idx) : ∃ t : Fin cfg0.N, (cfg0.win 13).flush t = true ∧ i ∈ ((cfg0.win 13).blk t).view.set := by
  idx_vars i
  refine ⟨pt i0 ⟨i1.val / 1024, by omega⟩, flush0_13 _, ?_⟩
  have e := emb13 i0 ⟨i1.val / 1024, by omega⟩ ⟨i1.val % 1024, by omega⟩ i2
  have h := ((cfg0.win 13).blk (pt i0 ⟨i1.val / 1024, by omega⟩)).view.emb_mem_set (ix3 0 ⟨i1.val % 1024, by omega⟩ i2 : S1x1024x512.Idx)
  have e' : (⟨i1.val / 1024 * 1024 + i1.val % 1024, by omega⟩ : Fin 8192) = i1 := Fin.ext (by show i1.val / 1024 * 1024 + i1.val % 1024 = i1.val; omega)
  rw [e'] at e
  exact e ▸ h

/-- Result 1 ends at `G13`. -/
theorem final13 (c : Dev nD) : (dats m 0 c).arrAt 13 cfg0.N = G13 m c :=
  (dats m 0 c).arrAt_eq_of_cover 13 (G13 m c) (fun t _ => flushed13_eq m c t) cover13

/-- The value of result 2, the values of the recurrence, at a batch, a token and a lane. -/
def val14 (c : Dev nD) (b : Fin 2) (t : Fin 8192) (l : Fin 512) : EReal :=
  prowm m c b t ⟨1024 + l.val, by omega⟩

/-- `val14` as the contents of the result's array. -/
def G14 (c : Dev nD) : Buf (Elt Ideal) ((c : Thread nD τ).loc main_v81_2) :=
  fun i : S2x8192x512.Idx => val14 m c (i 0) (i 1) (i 2)

set_option maxHeartbeats 2000000 in
/-- What point `t` writes back to result 2 is block `t` of `G14`. -/
theorem flushed14_eq (c : Dev nD) (t : Fin cfg0.N) :
    (dats m 0 c).flushed 14 t = (win0_14.blk t).view.read (Elt Ideal) (G14 m c) := by
  obtain ⟨b, n, rfl⟩ := eq_pt t
  rw [Value.flushed14]
  have key : ∀ y : S1x1024x512.Idx, out0_14 (iblk m c 0 (pt b n)) (iblk m c 1 (pt b n)) (iblk m c 2 (pt b n)) (iblk m c 3 (pt b n))
      (iblk m c 4 (pt b n)) (iblk m c 5 (pt b n)) (iblk m c 6 (pt b n)) (iblk m c 7 (pt b n))
      (iblk m c 8 (pt b n)) (iblk m c 9 (pt b n)) (iblk m c 10 (pt b n)) (iblk m c 11 (pt b n)) y
      = G14 m c ((win0_14.rect (pt b n)).emb y) := by
    intro y
    idx_vars y
    obtain rfl : y0 = 0 := Subsingleton.elim _ _
    refine Eq.trans ?_ (congrArg (G14 m c) (emb14 b n y1 y2)).symm
    refine (out14_apply _ _ _ _ _ _ _ _ _ _ _ _ y1 y2).trans ?_
    show _ = val14 m c b ⟨n.val * 1024 + y1.val, by omega⟩ y2
    unfold val14
    exact pcol_m m c b n y1 ⟨1024 + y2.val, by omega⟩ (by show 1024 + y2.val < 1536; omega)
  exact funext key

/-- The blocks of result 2 tile its array. -/
theorem cover14 (i : S2x8192x512.Idx) : ∃ t : Fin cfg0.N, (cfg0.win 14).flush t = true ∧ i ∈ ((cfg0.win 14).blk t).view.set := by
  idx_vars i
  refine ⟨pt i0 ⟨i1.val / 1024, by omega⟩, flush0_14 _, ?_⟩
  have e := emb14 i0 ⟨i1.val / 1024, by omega⟩ ⟨i1.val % 1024, by omega⟩ i2
  have h := ((cfg0.win 14).blk (pt i0 ⟨i1.val / 1024, by omega⟩)).view.emb_mem_set (ix3 0 ⟨i1.val % 1024, by omega⟩ i2 : S1x1024x512.Idx)
  have e' : (⟨i1.val / 1024 * 1024 + i1.val % 1024, by omega⟩ : Fin 8192) = i1 := Fin.ext (by show i1.val / 1024 * 1024 + i1.val % 1024 = i1.val; omega)
  rw [e'] at e
  exact e ▸ h

/-- Result 2 ends at `G14`. -/
theorem final14 (c : Dev nD) : (dats m 0 c).arrAt 14 cfg0.N = G14 m c :=
  (dats m 0 c).arrAt_eq_of_cover 14 (G14 m c) (fun t _ => flushed14_eq m c t) cover14

/-- The value of result 3, the gates, at a batch, a token and a lane. -/
def val15 (c : Dev nD) (b : Fin 2) (t : Fin 8192) (l : Fin 128) : EReal :=
  if 4 ≤ l.val % 8 then min (gatev m c b t l) 0 - Ideal.log1p (Ideal.exp (0 - max (gatev m c b t l) (-gatev m c b t l))) else gatev m c b t l

/-- `val15` as the contents of the result's array. -/
def G15 (c : Dev nD) : Buf (Elt Ideal) ((c : Thread nD τ).loc main_v81_3) :=
  fun i : S2x8192x128.Idx => val15 m c (i 0) (i 1) (i 2)

set_option maxHeartbeats 2000000 in
/-- What point `t` writes back to result 3 is block `t` of `G15`. -/
theorem flushed15_eq (c : Dev nD) (t : Fin cfg0.N) :
    (dats m 0 c).flushed 15 t = (win0_15.blk t).view.read (Elt Ideal) (G15 m c) := by
  obtain ⟨b, n, rfl⟩ := eq_pt t
  rw [Value.flushed15]
  have key : ∀ y : S1x1024x128.Idx, out0_15 (iblk m c 0 (pt b n)) (iblk m c 1 (pt b n)) (iblk m c 2 (pt b n)) (iblk m c 3 (pt b n))
      (iblk m c 4 (pt b n)) (iblk m c 5 (pt b n)) (iblk m c 6 (pt b n)) (iblk m c 7 (pt b n))
      (iblk m c 8 (pt b n)) (iblk m c 9 (pt b n)) (iblk m c 10 (pt b n)) (iblk m c 11 (pt b n)) y
      = G15 m c ((win0_15.rect (pt b n)).emb y) := by
    intro y
    idx_vars y
    obtain rfl : y0 = 0 := Subsingleton.elim _ _
    refine Eq.trans ?_ (congrArg (G15 m c) (emb15 b n y1 y2)).symm
    refine (out15_apply _ _ _ _ _ _ _ _ _ _ _ _ y1 y2).trans ?_
    show _ = val15 m c b ⟨n.val * 1024 + y1.val, by omega⟩ y2
    unfold val15
    exact congrArg (fun z : EReal => if 4 ≤ y2.val % 8 then min z 0 - Ideal.log1p (Ideal.exp (0 - max z (-z))) else z) (pcol_g m c b n y1 y2)
  exact funext key

/-- The blocks of result 3 tile its array. -/
theorem cover15 (i : S2x8192x128.Idx) : ∃ t : Fin cfg0.N, (cfg0.win 15).flush t = true ∧ i ∈ ((cfg0.win 15).blk t).view.set := by
  idx_vars i
  refine ⟨pt i0 ⟨i1.val / 1024, by omega⟩, flush0_15 _, ?_⟩
  have e := emb15 i0 ⟨i1.val / 1024, by omega⟩ ⟨i1.val % 1024, by omega⟩ i2
  have h := ((cfg0.win 15).blk (pt i0 ⟨i1.val / 1024, by omega⟩)).view.emb_mem_set (ix3 0 ⟨i1.val % 1024, by omega⟩ i2 : S1x1024x128.Idx)
  have e' : (⟨i1.val / 1024 * 1024 + i1.val % 1024, by omega⟩ : Fin 8192) = i1 := Fin.ext (by show i1.val / 1024 * 1024 + i1.val % 1024 = i1.val; omega)
  rw [e'] at e
  exact e ▸ h

/-- Result 3 ends at `G15`. -/
theorem final15 (c : Dev nD) : (dats m 0 c).arrAt 15 cfg0.N = G15 m c :=
  (dats m 0 c).arrAt_eq_of_cover 15 (G15 m c) (fun t _ => flushed15_eq m c t) cover15

/-- The value of result 6, the values of the attention, at a batch, a token and a lane. -/
def val18 (c : Dev nD) (b : Fin 2) (t : Fin 8192) (l : Fin 128) : EReal :=
  prowm m c b t ⟨2704 + l.val, by omega⟩

/-- `val18` as the contents of the result's array. -/
def G18 (c : Dev nD) : Buf (Elt Ideal) ((c : Thread nD τ).loc main_v81_6) :=
  fun i : S2x8192x128.Idx => val18 m c (i 0) (i 1) (i 2)

set_option maxHeartbeats 2000000 in
/-- What point `t` writes back to result 6 is block `t` of `G18`. -/
theorem flushed18_eq (c : Dev nD) (t : Fin cfg0.N) :
    (dats m 0 c).flushed 18 t = (win0_18.blk t).view.read (Elt Ideal) (G18 m c) := by
  obtain ⟨b, n, rfl⟩ := eq_pt t
  rw [Value.flushed18]
  have key : ∀ y : S1x1024x128.Idx, out0_18 (iblk m c 0 (pt b n)) (iblk m c 1 (pt b n)) (iblk m c 2 (pt b n)) (iblk m c 3 (pt b n))
      (iblk m c 4 (pt b n)) (iblk m c 5 (pt b n)) (iblk m c 6 (pt b n)) (iblk m c 7 (pt b n))
      (iblk m c 8 (pt b n)) (iblk m c 9 (pt b n)) (iblk m c 10 (pt b n)) (iblk m c 11 (pt b n)) y
      = G18 m c ((win0_18.rect (pt b n)).emb y) := by
    intro y
    idx_vars y
    obtain rfl : y0 = 0 := Subsingleton.elim _ _
    refine Eq.trans ?_ (congrArg (G18 m c) (emb18 b n y1 y2)).symm
    refine (out18_apply _ _ _ _ _ _ _ _ _ _ _ _ y1 y2).trans ?_
    show _ = val18 m c b ⟨n.val * 1024 + y1.val, by omega⟩ y2
    unfold val18
    refine (pcol_kv m c b n y1 ⟨2176 + y2.val, by omega⟩ (by show 2048 ≤ 2176 + y2.val; omega) (by show 2176 + y2.val < 2304; omega)).trans ?_
    exact congrArg (prowm m c b ⟨n.val * 1024 + y1.val, by omega⟩) (Fin.ext (by show 528 + (2176 + y2.val) = 2704 + y2.val; omega))
  exact funext key

/-- The blocks of result 6 tile its array. -/
theorem cover18 (i : S2x8192x128.Idx) : ∃ t : Fin cfg0.N, (cfg0.win 18).flush t = true ∧ i ∈ ((cfg0.win 18).blk t).view.set := by
  idx_vars i
  refine ⟨pt i0 ⟨i1.val / 1024, by omega⟩, flush0_18 _, ?_⟩
  have e := emb18 i0 ⟨i1.val / 1024, by omega⟩ ⟨i1.val % 1024, by omega⟩ i2
  have h := ((cfg0.win 18).blk (pt i0 ⟨i1.val / 1024, by omega⟩)).view.emb_mem_set (ix3 0 ⟨i1.val % 1024, by omega⟩ i2 : S1x1024x128.Idx)
  have e' : (⟨i1.val / 1024 * 1024 + i1.val % 1024, by omega⟩ : Fin 8192) = i1 := Fin.ext (by show i1.val / 1024 * 1024 + i1.val % 1024 = i1.val; omega)
  rw [e'] at e
  exact e ▸ h

/-- Result 6 ends at `G18`. -/
theorem final18 (c : Dev nD) : (dats m 0 c).arrAt 18 cfg0.N = G18 m c :=
  (dats m 0 c).arrAt_eq_of_cover 18 (G18 m c) (fun t _ => flushed18_eq m c t) cover18

end Cert.ProjIdeal.RefValue
-- ==== Proof.ProjEndB.lean ====
module

public import proofs.«01_k».proof.Defs
public import proofs.«01_k».proof.Proof.Gen.ProjIdeal.Value
public import proofs.«01_k».proof.Proof.ProjCol
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen
open Cert.AttnMath (IsReal)

variable (m : (ℓ : Loc nD τ sig) → Buf (Elt Ideal) ℓ)

/-- The value of result 4, the queries of the attention, at a batch, a token and a lane. -/
def val16 (c : Dev nD) (b : Fin 2) (t : Fin 8192) (l : Fin 512) : EReal :=
  turn (qhead m c b t (l.val / 64)) t.val ⟨l.val % 64, by omega⟩ * Ideal.ofBits FTy.f32 1040187392#32

/-- `val16` as the contents of the result's array. -/
def G16 (c : Dev nD) : Buf (Elt Ideal) ((c : Thread nD τ).loc main_v81_4) :=
  fun i : S2x8192x512.Idx => val16 m c (i 0) (i 1) (i 2)

set_option maxHeartbeats 2000000 in
/-- What point `t` writes back to result 4 is block `t` of `G16`. -/
theorem flushed16_eq (c : Dev nD) (hr : ∀ b t (j : Fin 4880), 2064 ≤ j.val → j.val < 2704 → IsReal (prowm m c b t j)) (t : Fin cfg0.N) :
    (dats m 0 c).flushed 16 t = (win0_16.blk t).view.read (Elt Ideal) (G16 m c) := by
  obtain ⟨b, n, rfl⟩ := eq_pt t
  rw [Value.flushed16]
  have key : ∀ y : S1x1024x512.Idx, out0_16 (iblk m c 0 (pt b n)) (iblk m c 1 (pt b n)) (iblk m c 2 (pt b n)) (iblk m c 3 (pt b n))
      (iblk m c 4 (pt b n)) (iblk m c 5 (pt b n)) (iblk m c 6 (pt b n)) (iblk m c 7 (pt b n))
      (iblk m c 8 (pt b n)) (iblk m c 9 (pt b n)) (iblk m c 10 (pt b n)) (iblk m c 11 (pt b n)) y
      = G16 m c ((win0_16.rect (pt b n)).emb y) := by
    intro y
    idx_vars y
    obtain rfl : y0 = 0 := Subsingleton.elim _ _
    refine Eq.trans ?_ (congrArg (G16 m c) (emb16 b n y1 y2)).symm
    refine (out16_apply _ _ _ _ _ _ _ _ _ _ _ _ y1 y2).trans ?_
    show _ = val16 m c b ⟨n.val * 1024 + y1.val, by omega⟩ y2
    unfold val16
    refine congrArg (· * Ideal.ofBits FTy.f32 1040187392#32) ?_
    refine turn_eq (fun l : Fin 512 => qlane (iblk m c 0 (pt b n)) (iblk m c 1 (pt b n)) (iblk m c 2 (pt b n)) (iblk m c 3 (pt b n)) (iblk m c 4 (pt b n)) (iblk m c 6 (pt b n)) (iblk m c 8 (pt b n)) y1 l) (qhead m c b ⟨n.val * 1024 + y1.val, by omega⟩)
      (qlane_eq m c b n y1 (hr b)) (n.val * 1024 + y1.val) _ _ y2 ⟨(y2.val + 512 - 480) % 512, by omega⟩ ⟨(y2.val + 512 - 32) % 512, by omega⟩ ?_ ?_ ?_ ?_
    · refine (blk10 m c b n y1 ⟨y2.val % 128, by omega⟩).trans ?_
      show Ideal.cos (ang _ (y2.val % 128 % 32)) = _
      rw [show y2.val % 128 % 32 = y2.val % 32 by omega]
    · refine (blk11 m c b n y1 ⟨y2.val % 128, by omega⟩).trans ?_
      show (if y2.val % 128 % 64 < 32 then -Ideal.sin (ang _ (y2.val % 128 % 32)) else Ideal.sin (ang _ (y2.val % 128 % 32))) = _
      rw [show y2.val % 128 % 32 = y2.val % 32 by omega, show y2.val % 128 % 64 = y2.val % 64 by omega]
    · intro h
      show (y2.val + 512 - 480) % 512 = y2.val + 32
      omega
    · intro h
      show (y2.val + 512 - 32) % 512 + 32 = y2.val
      omega
  exact funext key

/-- The blocks of result 4 tile its array. -/
theorem cover16 (i : S2x8192x512.Idx) : ∃ t : Fin cfg0.N, (cfg0.win 16).flush t = true ∧ i ∈ ((cfg0.win 16).blk t).view.set := by
  idx_vars i
  refine ⟨pt i0 ⟨i1.val / 1024, by omega⟩, flush0_16 _, ?_⟩
  have e := emb16 i0 ⟨i1.val / 1024, by omega⟩ ⟨i1.val % 1024, by omega⟩ i2
  have h := ((cfg0.win 16).blk (pt i0 ⟨i1.val / 1024, by omega⟩)).view.emb_mem_set (ix3 0 ⟨i1.val % 1024, by omega⟩ i2 : S1x1024x512.Idx)
  have e' : (⟨i1.val / 1024 * 1024 + i1.val % 1024, by omega⟩ : Fin 8192) = i1 := Fin.ext (by show i1.val / 1024 * 1024 + i1.val % 1024 = i1.val; omega)
  rw [e'] at e
  exact e ▸ h

/-- Result 4 ends at `G16`. -/
theorem final16 (c : Dev nD) (hr : ∀ b t (j : Fin 4880), 2064 ≤ j.val → j.val < 2704 → IsReal (prowm m c b t j)) : (dats m 0 c).arrAt 16 cfg0.N = G16 m c :=
  (dats m 0 c).arrAt_eq_of_cover 16 (G16 m c) (fun t _ => flushed16_eq m c hr t) cover16

/-- The value of result 5, the keys of the attention, at a batch, a token and a lane. -/
def val17 (c : Dev nD) (b : Fin 2) (t : Fin 8192) (l : Fin 128) : EReal :=
  turn (khead m c b t (l.val / 64)) t.val ⟨l.val % 64, by omega⟩

/-- `val17` as the contents of the result's array. -/
def G17 (c : Dev nD) : Buf (Elt Ideal) ((c : Thread nD τ).loc main_v81_5) :=
  fun i : S2x8192x128.Idx => val17 m c (i 0) (i 1) (i 2)

set_option maxHeartbeats 2000000 in
/-- What point `t` writes back to result 5 is block `t` of `G17`. -/
theorem flushed17_eq (c : Dev nD) (hr : ∀ b t (j : Fin 4880), 2064 ≤ j.val → j.val < 2704 → IsReal (prowm m c b t j)) (t : Fin cfg0.N) :
    (dats m 0 c).flushed 17 t = (win0_17.blk t).view.read (Elt Ideal) (G17 m c) := by
  obtain ⟨b, n, rfl⟩ := eq_pt t
  rw [Value.flushed17]
  have key : ∀ y : S1x1024x128.Idx, out0_17 (iblk m c 0 (pt b n)) (iblk m c 1 (pt b n)) (iblk m c 2 (pt b n)) (iblk m c 3 (pt b n))
      (iblk m c 4 (pt b n)) (iblk m c 5 (pt b n)) (iblk m c 6 (pt b n)) (iblk m c 7 (pt b n))
      (iblk m c 8 (pt b n)) (iblk m c 9 (pt b n)) (iblk m c 10 (pt b n)) (iblk m c 11 (pt b n)) y
      = G17 m c ((win0_17.rect (pt b n)).emb y) := by
    intro y
    idx_vars y
    obtain rfl : y0 = 0 := Subsingleton.elim _ _
    refine Eq.trans ?_ (congrArg (G17 m c) (emb17 b n y1 y2)).symm
    refine (out17_apply _ _ _ _ _ _ _ _ _ _ _ _ y1 y2).trans ?_
    show _ = val17 m c b ⟨n.val * 1024 + y1.val, by omega⟩ y2
    unfold val17
    refine turn_eq (fun l : Fin 128 => klane (iblk m c 0 (pt b n)) (iblk m c 1 (pt b n)) (iblk m c 2 (pt b n)) (iblk m c 3 (pt b n)) (iblk m c 4 (pt b n)) (iblk m c 7 (pt b n)) (iblk m c 9 (pt b n)) y1 l) (khead m c b ⟨n.val * 1024 + y1.val, by omega⟩)
      (klane_eq m c b n y1 (hr b)) (n.val * 1024 + y1.val) _ _ y2 ⟨(y2.val + 128 - 96) % 128, by omega⟩ ⟨(y2.val + 128 - 32) % 128, by omega⟩ (blk10 m c b n y1 y2) (blk11 m c b n y1 y2) ?_ ?_
    · intro h
      show (y2.val + 128 - 96) % 128 = y2.val + 32
      omega
    · intro h
      show (y2.val + 128 - 32) % 128 + 32 = y2.val
      omega
  exact funext key

/-- The blocks of result 5 tile its array. -/
theorem cover17 (i : S2x8192x128.Idx) : ∃ t : Fin cfg0.N, (cfg0.win 17).flush t = true ∧ i ∈ ((cfg0.win 17).blk t).view.set := by
  idx_vars i
  refine ⟨pt i0 ⟨i1.val / 1024, by omega⟩, flush0_17 _, ?_⟩
  have e := emb17 i0 ⟨i1.val / 1024, by omega⟩ ⟨i1.val % 1024, by omega⟩ i2
  have h := ((cfg0.win 17).blk (pt i0 ⟨i1.val / 1024, by omega⟩)).view.emb_mem_set (ix3 0 ⟨i1.val % 1024, by omega⟩ i2 : S1x1024x128.Idx)
  have e' : (⟨i1.val / 1024 * 1024 + i1.val % 1024, by omega⟩ : Fin 8192) = i1 := Fin.ext (by show i1.val / 1024 * 1024 + i1.val % 1024 = i1.val; omega)
  rw [e'] at e
  exact e ▸ h

/-- Result 5 ends at `G17`. -/
theorem final17 (c : Dev nD) (hr : ∀ b t (j : Fin 4880), 2064 ≤ j.val → j.val < 2704 → IsReal (prowm m c b t j)) : (dats m 0 c).arrAt 17 cfg0.N = G17 m c :=
  (dats m 0 c).arrAt_eq_of_cover 17 (G17 m c) (fun t _ => flushed17_eq m c hr t) cover17

end Cert.ProjIdeal.RefValue
-- ==== Proof.ProjRef.lean ====
module

public import proofs.«01_k».proof.Defs
public import proofs.«01_k».proof.Proof.Gen.ProjRefIdeal.Run
public import proofs.«01_k».proof.Proof.ProjMath
public import Idealize.ShloMosaic.Lib.Pointwise

@[expose] public section

set_option maxRecDepth 16384

noncomputable section

open Idealize.ShloMosaic Idealize.ShloMosaic.TcCoe Idealize.SL.Sem

namespace Cert.ProjRefIdeal.RefValue

open Cert.ProjIdeal.RefValue (modu rms64 turn ang)
open Cert.ProjRefIdeal Cert.ProjRefIdeal.Gen Cert.ProjRefIdeal.Value

/-! ## The parts of the reference's terms -/

/-- The product of the modulated normalised tokens with the whole input matrix. -/
def prod (x : FVec Ideal S2x8192x1024 .f32) (sh sc : FVec Ideal S2x1x1024 .f32) (g : FVec Ideal S1024 .f32) (w : FVec Ideal S1024x4880 .f32) : FVec Ideal S2x8192x4880 .f32 :=
  (Host.dotGeneral dot_S2x8192x1024_S1024x4880_S2x8192x4880_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)) w)

/-- The query heads, each normalised by its root mean square. -/
def qheads (P : FVec Ideal S2x8192x4880 .f32) (q : FVec Ideal S64 .f32) : FVec Ideal S2x8192x8x64 .f32 :=
  (mulf (mulf (shapeCast _ (extractStridedSlice S2x8192x512 ![0, 0, 2064] P slices_S2x8192x4880_S2x8192x512_0_0_2064) shapeCasts_S2x8192x512_S2x8192x8x64) (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf (shapeCast _ (extractStridedSlice S2x8192x512 ![0, 0, 2064] P slices_S2x8192x4880_S2x8192x512_0_0_2064) shapeCasts_S2x8192x512_S2x8192x8x64) (shapeCast _ (extractStridedSlice S2x8192x512 ![0, 0, 2064] P slices_S2x8192x4880_S2x8192x512_0_0_2064) shapeCasts_S2x8192x512_S2x8192x8x64)) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 q)))

/-- The key heads, each normalised by its root mean square. -/
def kheads (P : FVec Ideal S2x8192x4880 .f32) (q : FVec Ideal S64 .f32) : FVec Ideal S2x8192x2x64 .f32 :=
  (mulf (mulf (shapeCast _ (extractStridedSlice S2x8192x128 ![0, 0, 2576] P slices_S2x8192x4880_S2x8192x128_0_0_2576) shapeCasts_S2x8192x128_S2x8192x2x64) (broadcastInDim S2x8192x2x64 ![0, 1, 2, 3] bcast_S2x8192x2x1_S2x8192x2x64_0_1_2_3 (Host.rsqrt (addf (Host.divf (broadcastInDim S2x8192x2x1 ![0, 1, 2] bcast_S2x8192x2_S2x8192x2x1_0_1_2 (Host.reduceAdd (mulf (shapeCast _ (extractStridedSlice S2x8192x128 ![0, 0, 2576] P slices_S2x8192x4880_S2x8192x128_0_0_2576) shapeCasts_S2x8192x128_S2x8192x2x64) (shapeCast _ (extractStridedSlice S2x8192x128 ![0, 0, 2576] P slices_S2x8192x4880_S2x8192x128_0_0_2576) shapeCasts_S2x8192x128_S2x8192x2x64)) (constant S_ .f32 0x00000000#32) reducesTo_S2x8192x2x64_S2x8192x2_d3 h_S_)) (broadcastInDim S2x8192x2x1 ![] bcast_S_S2x8192x2x1 (constant S_ .f32 0x42800000#32))) (broadcastInDim S2x8192x2x1 ![] bcast_S_S2x8192x2x1 (constant S_ .f32 0x358637BD#32)))))) (broadcastInDim S2x8192x2x64 ![0, 1, 2, 3] bcast_S1x1x1x64_S2x8192x2x64_0_1_2_3 (broadcastInDim S1x1x1x64 ![3] bcast_S64_S1x1x1x64_3 q)))

/-- The angles of every token. -/
def angles : FVec Ideal S8192x32 .f32 :=
  (concatenate S8192x32 1 [⟨S8192x16, (mulf (broadcastInDim S8192x16 ![0, 1] bcast_S8192x1_S8192x16_0_1 (sitofp .f32 (broadcastInDim S8192x1 ![0] bcast_S8192_S8192x1_0 (shapeCast _ (broadcastInDim S128x64 ![0, 1] bcast_S128x1_S128x64_0_1 (broadcastInDim S128x1 ![0] bcast_S128_S128x1_0 (iotaInDim S128 32 0))) shapeCasts_S128x64_S8192)))) (broadcastInDim S8192x16 ![0, 1] bcast_S1x16_S8192x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩, ⟨S8192x16, (mulf (broadcastInDim S8192x16 ![0, 1] bcast_S8192x1_S8192x16_0_1 (sitofp .f32 (broadcastInDim S8192x1 ![0] bcast_S8192_S8192x1_0 (shapeCast _ (broadcastInDim S128x64 ![0, 1] bcast_S1x64_S128x64_0_1 (broadcastInDim S1x64 ![1] bcast_S64_S1x64_1 (iotaInDim S64 32 0))) shapeCasts_S128x64_S8192)))) (broadcastInDim S8192x16 ![0, 1] bcast_S1x16_S8192x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩] concatenates_S8192x16_S8192x16_S8192x32_d1)

/-- The biased gates, with zeros after them. -/
def gates (P : FVec Ideal S2x8192x4880 .f32) (q : FVec Ideal S16 .f32) : FVec Ideal S2x8192x128 .f32 :=
  (pad S2x8192x128 ![0, 0, 0] ![0, 0, 112] ![0, 0, 0] (addf (extractStridedSlice S2x8192x16 ![0, 0, 2048] P slices_S2x8192x4880_S2x8192x16_0_0_2048) (broadcastInDim S2x8192x16 ![0, 1, 2] bcast_S1x1x16_S2x8192x16_0_1_2 (broadcastInDim S1x1x16 ![2] bcast_S16_S1x1x16_2 q))) (sitofp .f32 (constantI S_ 32 0#32)) pads_S2x8192x16_S2x8192x128_000_000_01120 h_S_)

/-- The query heads turned by the angles. -/
def qturn (Q : FVec Ideal S2x8192x8x64 .f32) (A : FVec Ideal S8192x32 .f32) : FVec Ideal S2x8192x8x64 .f32 :=
  (concatenate S2x8192x8x64 3 [⟨S2x8192x8x32, (subf (mulf (extractStridedSlice S2x8192x8x32 ![0, 0, 0, 0] Q slices_S2x8192x8x64_S2x8192x8x32_0_0_0_0) (broadcastInDim S2x8192x8x32 ![0, 1, 2, 3] bcast_S1x8192x1x32_S2x8192x8x32_0_1_2_3 (broadcastInDim S1x8192x1x32 ![1, 3] bcast_S8192x32_S1x8192x1x32_1_3 (Host.cos A)))) (mulf (extractStridedSlice S2x8192x8x32 ![0, 0, 0, 32] Q slices_S2x8192x8x64_S2x8192x8x32_0_0_0_32) (broadcastInDim S2x8192x8x32 ![0, 1, 2, 3] bcast_S1x8192x1x32_S2x8192x8x32_0_1_2_3 (broadcastInDim S1x8192x1x32 ![1, 3] bcast_S8192x32_S1x8192x1x32_1_3 (Host.sin A)))))⟩, ⟨S2x8192x8x32, (addf (mulf (extractStridedSlice S2x8192x8x32 ![0, 0, 0, 32] Q slices_S2x8192x8x64_S2x8192x8x32_0_0_0_32) (broadcastInDim S2x8192x8x32 ![0, 1, 2, 3] bcast_S1x8192x1x32_S2x8192x8x32_0_1_2_3 (broadcastInDim S1x8192x1x32 ![1, 3] bcast_S8192x32_S1x8192x1x32_1_3 (Host.cos A)))) (mulf (extractStridedSlice S2x8192x8x32 ![0, 0, 0, 0] Q slices_S2x8192x8x64_S2x8192x8x32_0_0_0_0) (broadcastInDim S2x8192x8x32 ![0, 1, 2, 3] bcast_S1x8192x1x32_S2x8192x8x32_0_1_2_3 (broadcastInDim S1x8192x1x32 ![1, 3] bcast_S8192x32_S1x8192x1x32_1_3 (Host.sin A)))))⟩] concatenates_S2x8192x8x32_S2x8192x8x32_S2x8192x8x64_d3)

/-- The key heads turned by the angles. -/
def kturn (Q : FVec Ideal S2x8192x2x64 .f32) (A : FVec Ideal S8192x32 .f32) : FVec Ideal S2x8192x2x64 .f32 :=
  (concatenate S2x8192x2x64 3 [⟨S2x8192x2x32, (subf (mulf (extractStridedSlice S2x8192x2x32 ![0, 0, 0, 0] Q slices_S2x8192x2x64_S2x8192x2x32_0_0_0_0) (broadcastInDim S2x8192x2x32 ![0, 1, 2, 3] bcast_S1x8192x1x32_S2x8192x2x32_0_1_2_3 (broadcastInDim S1x8192x1x32 ![1, 3] bcast_S8192x32_S1x8192x1x32_1_3 (Host.cos A)))) (mulf (extractStridedSlice S2x8192x2x32 ![0, 0, 0, 32] Q slices_S2x8192x2x64_S2x8192x2x32_0_0_0_32) (broadcastInDim S2x8192x2x32 ![0, 1, 2, 3] bcast_S1x8192x1x32_S2x8192x2x32_0_1_2_3 (broadcastInDim S1x8192x1x32 ![1, 3] bcast_S8192x32_S1x8192x1x32_1_3 (Host.sin A)))))⟩, ⟨S2x8192x2x32, (addf (mulf (extractStridedSlice S2x8192x2x32 ![0, 0, 0, 32] Q slices_S2x8192x2x64_S2x8192x2x32_0_0_0_32) (broadcastInDim S2x8192x2x32 ![0, 1, 2, 3] bcast_S1x8192x1x32_S2x8192x2x32_0_1_2_3 (broadcastInDim S1x8192x1x32 ![1, 3] bcast_S8192x32_S1x8192x1x32_1_3 (Host.cos A)))) (mulf (extractStridedSlice S2x8192x2x32 ![0, 0, 0, 0] Q slices_S2x8192x2x64_S2x8192x2x32_0_0_0_0) (broadcastInDim S2x8192x2x32 ![0, 1, 2, 3] bcast_S1x8192x1x32_S2x8192x2x32_0_1_2_3 (broadcastInDim S1x8192x1x32 ![1, 3] bcast_S8192x32_S1x8192x1x32_1_3 (Host.sin A)))))⟩] concatenates_S2x8192x2x32_S2x8192x2x32_S2x8192x2x64_d3)

/-- The heads reordered: the four queries of each key head apart. -/
def qorder (R : FVec Ideal S2x8192x8x64 .f32) : FVec Ideal S2x8192x4x2x64 .f32 :=
  (transpose S2x8192x4x2x64 [0, 1, 3, 2, 4] (shapeCast _ R shapeCasts_S2x8192x8x64_S2x8192x2x4x64) transposes_S2x8192x2x4x64_S2x8192x4x2x64_0_1_3_2_4)

/-! ## The parts at an index -/

/-- The product at an index: a modulated row times a column. -/
theorem prod_apply (x : FVec Ideal S2x8192x1024 .f32) (sh sc : FVec Ideal S2x1x1024 .f32) (g : FVec Ideal S1024 .f32) (w : FVec Ideal S1024x4880 .f32)
    (b : Fin 2) (t : Fin 8192) (j : Fin 4880) :
    prod x sh sc g w (ix3 b t j)
      = ∑ d, modu (fun e => x (ix3 b t e)) (fun e => g (ix1 e)) (fun e => sc (ix3 b 0 e)) (fun e => sh (ix3 b 0 e)) d * w (ix2 d j) := by
  unfold prod
  pointwise [modu]

/-- A lane of the normed heads of the queries. -/
theorem qheads_apply (P : FVec Ideal S2x8192x4880 .f32) (q : FVec Ideal S64 .f32) (b : Fin 2) (t : Fin 8192) (h : Fin 8) (e : Fin 64) :
    qheads P q (ix4 b t h e) = rms64 (fun x => P (ix3 b t ⟨2064 + (h.val * 64 + x.val), by omega⟩)) (fun x => q (ix1 x)) e := by
  unfold qheads
  pointwise [rms64]

/-- A lane of the normed heads of the keys. -/
theorem kheads_apply (P : FVec Ideal S2x8192x4880 .f32) (q : FVec Ideal S64 .f32) (b : Fin 2) (t : Fin 8192) (h : Fin 2) (e : Fin 64) :
    kheads P q (ix4 b t h e) = rms64 (fun x => P (ix3 b t ⟨2576 + (h.val * 64 + x.val), by omega⟩)) (fun x => q (ix1 x)) e := by
  unfold kheads
  pointwise [rms64]

/-- The angle of a token and a frequency. -/
theorem angles_apply (t : Fin 8192) (j : Fin 32) : angles (ix2 t j) = ang t.val j.val := by
  unfold angles ang
  pointwise
  simp only [dite_eq_ite]

/-- A gate before the activation: a column plus its bias, and zero past the sixteenth lane. -/
theorem gates_apply (P : FVec Ideal S2x8192x4880 .f32) (q : FVec Ideal S16 .f32) (b : Fin 2) (t : Fin 8192) (l : Fin 128) :
    gates P q (ix3 b t l) = if h : l.val < 16 then P (ix3 b t ⟨2048 + l.val, by omega⟩) + q (ix1 ⟨l.val, h⟩)
      else FloatOps.sitofp (F := Ideal) FTy.f32 0#32 := by
  unfold gates
  pointwise

/-- The product of the arguments. -/
abbrev prodm (m : (ℓ : Loc nD τ sig) → Buf (Elt Ideal) ℓ) (c : Dev nD) : FVec Ideal S2x8192x4880 .f32 :=
  prod (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

end Cert.ProjRefIdeal.RefValue
-- ==== Proof.ProjRefQ.lean ====
module

public import proofs.«01_k».proof.Defs
public import proofs.«01_k».proof.Proof.Gen.ProjRefIdeal.Run
public import proofs.«01_k».proof.Proof.ProjRef
public import Idealize.ShloMosaic.Lib.Pointwise

@[expose] public section

set_option maxRecDepth 16384

noncomputable section

open Idealize.ShloMosaic Idealize.ShloMosaic.TcCoe Idealize.SL.Sem

namespace Cert.ProjRefIdeal.RefValue

open Cert.ProjIdeal.RefValue (modu rms64 turn ang)
open Cert.ProjRefIdeal Cert.ProjRefIdeal.Gen Cert.ProjRefIdeal.Value

/-- The turned queries at an index. -/
theorem qturn_apply (Q : FVec Ideal S2x8192x8x64 .f32) (b : Fin 2) (t : Fin 8192) (h : Fin 8) (e : Fin 64) :
    qturn Q angles (ix4 b t h e) = turn (fun e => Q (ix4 b t h e)) t.val e := by
  have ha := angles_apply
  generalize (angles : FVec Ideal S8192x32 .f32) = A at ha ⊢
  unfold qturn turn
  pointwise [ha]

end Cert.ProjRefIdeal.RefValue
-- ==== Proof.ProjRefK.lean ====
module

public import proofs.«01_k».proof.Defs
public import proofs.«01_k».proof.Proof.Gen.ProjRefIdeal.Run
public import proofs.«01_k».proof.Proof.ProjRef
public import Idealize.ShloMosaic.Lib.Pointwise

@[expose] public section

set_option maxRecDepth 16384

noncomputable section

open Idealize.ShloMosaic Idealize.ShloMosaic.TcCoe Idealize.SL.Sem

namespace Cert.ProjRefIdeal.RefValue

open Cert.ProjIdeal.RefValue (modu rms64 turn ang)
open Cert.ProjRefIdeal Cert.ProjRefIdeal.Gen Cert.ProjRefIdeal.Value

/-- The turned keys at an index. -/
theorem kturn_apply (Q : FVec Ideal S2x8192x2x64 .f32) (b : Fin 2) (t : Fin 8192) (h : Fin 2) (e : Fin 64) :
    kturn Q angles (ix4 b t h e) = turn (fun e => Q (ix4 b t h e)) t.val e := by
  have ha := angles_apply
  generalize (angles : FVec Ideal S8192x32 .f32) = A at ha ⊢
  unfold kturn turn
  pointwise [ha]

/-- The turned keys laid in lanes, at an index. -/
theorem kflat_apply (R : FVec Ideal S2x8192x2x64 .f32) (b : Fin 2) (t : Fin 8192) (l : Fin 128) :
    (truncf .bf16 (shapeCast S2x8192x128 R shapeCasts_S2x8192x2x64_S2x8192x128) bitsLt_bf16_f32 : FVec Ideal S2x8192x128 .bf16)
      (ix3 b t l : S2x8192x128.Idx) = R (ix4 b t ⟨l.val / 64, by omega⟩ ⟨l.val % 64, by omega⟩) := by
  pointwise

variable (m : (ℓ : Loc nD τ sig) → Buf (Elt Ideal) ℓ)

/-- The term of the result, its parts named. -/
theorem form_v136 (c : Dev nD) : res_main_v136 m c = (truncf .bf16 (shapeCast S2x8192x128 (kturn (kheads (prodm m c) (m ((c.tc : Thread nD τ).loc main_arg7))) angles) shapeCasts_S2x8192x2x64_S2x8192x128) bitsLt_bf16_f32 : FVec Ideal S2x8192x128 .bf16) := rfl

/-- The keys of the attention at an index: a lane of the turned normed head. -/
theorem k_out (c : Dev nD) (b : Fin 2) (t : Fin 8192) (l : Fin 128) :
    res_main_v136 m c (ix3 b t l : S2x8192x128.Idx)
      = turn (fun e => kheads (prodm m c) (m ((c.tc : Thread nD τ).loc main_arg7)) (ix4 b t ⟨l.val / 64, by omega⟩ e)) t.val
          ⟨l.val % 64, by omega⟩ :=
  (congrFun (form_v136 m c) _).trans ((kflat_apply _ b t l).trans (kturn_apply _ b t _ _))

end Cert.ProjRefIdeal.RefValue
-- ==== Proof.ProjRefO.lean ====
module

public import proofs.«01_k».proof.Defs
public import proofs.«01_k».proof.Proof.Gen.ProjRefIdeal.Run
public import proofs.«01_k».proof.Proof.ProjRef
public import Idealize.ShloMosaic.Lib.Pointwise

@[expose] public section

set_option maxRecDepth 16384

noncomputable section

open Idealize.ShloMosaic Idealize.ShloMosaic.TcCoe Idealize.SL.Sem

namespace Cert.ProjRefIdeal.RefValue

open Cert.ProjIdeal.RefValue (modu rms64 turn ang)
open Cert.ProjRefIdeal Cert.ProjRefIdeal.Gen Cert.ProjRefIdeal.Value

/-- The reordered queries at an index. -/
theorem qorder_apply (R : FVec Ideal S2x8192x8x64 .f32) (b : Fin 2) (t : Fin 8192) (g : Fin 4) (p : Fin 2) (e : Fin 64) :
    qorder R (ix5 b t g p e) = R (ix4 b t ⟨p.val * 4 + g.val, by omega⟩ e) := by
  unfold qorder
  pointwise

/-- The reordered queries, scaled and laid in lanes, at an index. -/
theorem qflat_apply (R : FVec Ideal S2x8192x4x2x64 .f32) (b : Fin 2) (t : Fin 8192) (l : Fin 512) :
    (truncf .bf16 (shapeCast S2x8192x512 (mulf R (broadcastInDim S2x8192x4x2x64 ![] bcast_S_S2x8192x4x2x64 (constant S_ .f32 0x3E000000#32))) shapeCasts_S2x8192x4x2x64_S2x8192x512) bitsLt_bf16_f32 : FVec Ideal S2x8192x512 .bf16)
      (ix3 b t l : S2x8192x512.Idx) = R (ix5 b t ⟨l.val / 128, by omega⟩ ⟨l.val / 64 % 2, by omega⟩ ⟨l.val % 64, by omega⟩) * Ideal.ofBits FTy.f32 1040187392#32 := by
  pointwise

variable (m : (ℓ : Loc nD τ sig) → Buf (Elt Ideal) ℓ)

/-- The term of the result, its parts named. -/
theorem form_v134 (c : Dev nD) : res_main_v134 m c = (truncf .bf16 (shapeCast S2x8192x512 (mulf (qorder (qturn (qheads (prodm m c) (m ((c.tc : Thread nD τ).loc main_arg6))) angles)) (broadcastInDim S2x8192x4x2x64 ![] bcast_S_S2x8192x4x2x64 (constant S_ .f32 0x3E000000#32))) shapeCasts_S2x8192x4x2x64_S2x8192x512) bitsLt_bf16_f32 : FVec Ideal S2x8192x512 .bf16) := rfl

/-- The queries of the attention at an index: a turned head's lane, scaled, the heads in the order of the pairs. -/
theorem q_out_turn (c : Dev nD) (b : Fin 2) (t : Fin 8192) (l : Fin 512) :
    res_main_v134 m c (ix3 b t l : S2x8192x512.Idx)
      = qturn (qheads (prodm m c) (m ((c.tc : Thread nD τ).loc main_arg6))) angles (ix4 b t ⟨l.val / 64 % 2 * 4 + l.val / 128, by omega⟩ ⟨l.val % 64, by omega⟩)
          * Ideal.ofBits FTy.f32 1040187392#32 :=
  (congrFun (form_v134 m c) _).trans ((qflat_apply _ b t l).trans (congrArg (fun z => z * Ideal.ofBits FTy.f32 1040187392#32) (qorder_apply _ b t _ _ _)))

end Cert.ProjRefIdeal.RefValue
-- ==== Proof.ProjRefG.lean ====
module

public import proofs.«01_k».proof.Defs
public import proofs.«01_k».proof.Proof.Gen.ProjRefIdeal.Run
public import proofs.«01_k».proof.Proof.ProjRef
public import Idealize.ShloMosaic.Lib.Pointwise

@[expose] public section

set_option maxRecDepth 16384

noncomputable section

open Idealize.ShloMosaic Idealize.ShloMosaic.TcCoe Idealize.SL.Sem

namespace Cert.ProjRefIdeal.RefValue

open Cert.ProjIdeal.RefValue (modu rms64 turn ang)
open Cert.ProjRefIdeal Cert.ProjRefIdeal.Gen Cert.ProjRefIdeal.Value

set_option maxHeartbeats 2000000 in
/-- The gates' activation at a lane: the logarithm of the sigmoid on the second four of each eight lanes, nothing on the first four. -/
theorem gflat_apply (Z : FVec Ideal S2x8192x128 .f32) (b : Fin 2) (t : Fin 8192) (l : Fin 128) :
    (shapeCast S2x8192x128 (concatenate S2x8192x16x2x4 3 [⟨S2x8192x16x1x4, (extractStridedSlice S2x8192x16x1x4 ![0, 0, 0, 0, 0] (shapeCast _ Z shapeCasts_S2x8192x128_S2x8192x16x2x4) slices_S2x8192x16x2x4_S2x8192x16x1x4_0_0_0_0_0)⟩, ⟨S2x8192x16x1x4, (Host.negf (select (cmpf .une (subf (Host.negf (extractStridedSlice S2x8192x16x1x4 ![0, 0, 0, 1, 0] (shapeCast _ Z shapeCasts_S2x8192x128_S2x8192x16x2x4) slices_S2x8192x16x2x4_S2x8192x16x1x4_0_0_0_1_0)) (broadcastInDim S2x8192x16x1x4 ![] bcast_S_S2x8192x16x1x4 (constant S_ .f32 0x00000000#32))) (subf (Host.negf (extractStridedSlice S2x8192x16x1x4 ![0, 0, 0, 1, 0] (shapeCast _ Z shapeCasts_S2x8192x128_S2x8192x16x2x4) slices_S2x8192x16x2x4_S2x8192x16x1x4_0_0_0_1_0)) (broadcastInDim S2x8192x16x1x4 ![] bcast_S_S2x8192x16x1x4 (constant S_ .f32 0x00000000#32)))) (addf (Host.negf (extractStridedSlice S2x8192x16x1x4 ![0, 0, 0, 1, 0] (shapeCast _ Z shapeCasts_S2x8192x128_S2x8192x16x2x4) slices_S2x8192x16x2x4_S2x8192x16x1x4_0_0_0_1_0)) (broadcastInDim S2x8192x16x1x4 ![] bcast_S_S2x8192x16x1x4 (constant S_ .f32 0x00000000#32))) (addf (maximumf (Host.negf (extractStridedSlice S2x8192x16x1x4 ![0, 0, 0, 1, 0] (shapeCast _ Z shapeCasts_S2x8192x128_S2x8192x16x2x4) slices_S2x8192x16x2x4_S2x8192x16x1x4_0_0_0_1_0)) (broadcastInDim S2x8192x16x1x4 ![] bcast_S_S2x8192x16x1x4 (constant S_ .f32 0x00000000#32))) (Host.log1p (Host.exp (Host.negf (Host.absf (subf (Host.negf (extractStridedSlice S2x8192x16x1x4 ![0, 0, 0, 1, 0] (shapeCast _ Z shapeCasts_S2x8192x128_S2x8192x16x2x4) slices_S2x8192x16x2x4_S2x8192x16x1x4_0_0_0_1_0)) (broadcastInDim S2x8192x16x1x4 ![] bcast_S_S2x8192x16x1x4 (constant S_ .f32 0x00000000#32))))))))))⟩] concatenates_S2x8192x16x1x4_S2x8192x16x1x4_S2x8192x16x2x4_d3) shapeCasts_S2x8192x16x2x4_S2x8192x128 : FVec Ideal S2x8192x128 .f32)
      (ix3 b t l : S2x8192x128.Idx)
      = if l.val / 4 % 2 < 1 then Z (ix3 b t l)
        else -(max (-Z (ix3 b t l)) 0
          + Ideal.log1p (Ideal.exp (-max (-Z (ix3 b t l)) (- -Z (ix3 b t l))))) := by
  pointwise
  by_cases h : l.val / 4 % 2 < 1
  · rw [if_pos h, dif_pos h]
  · rw [if_neg h, dif_neg h, if_neg (fun h => h rfl)]
    have e : (⟨l.val / 8 * 8 + (1 + (l.val / 4 % 2 - 1)) * 4 + l.val % 4, by omega⟩ : Fin 128) = l :=
      Fin.ext (by show l.val / 8 * 8 + (1 + (l.val / 4 % 2 - 1)) * 4 + l.val % 4 = l.val; omega)
    rw [e]
    rfl

variable (m : (ℓ : Loc nD τ sig) → Buf (Elt Ideal) ℓ)

/-- The term of the result, its parts named. -/
theorem form_v132 (c : Dev nD) : res_main_v132 m c = (shapeCast S2x8192x128 (concatenate S2x8192x16x2x4 3 [⟨S2x8192x16x1x4, (extractStridedSlice S2x8192x16x1x4 ![0, 0, 0, 0, 0] (shapeCast _ (gates (prodm m c) (m ((c.tc : Thread nD τ).loc main_arg5))) shapeCasts_S2x8192x128_S2x8192x16x2x4) slices_S2x8192x16x2x4_S2x8192x16x1x4_0_0_0_0_0)⟩, ⟨S2x8192x16x1x4, (Host.negf (select (cmpf .une (subf (Host.negf (extractStridedSlice S2x8192x16x1x4 ![0, 0, 0, 1, 0] (shapeCast _ (gates (prodm m c) (m ((c.tc : Thread nD τ).loc main_arg5))) shapeCasts_S2x8192x128_S2x8192x16x2x4) slices_S2x8192x16x2x4_S2x8192x16x1x4_0_0_0_1_0)) (broadcastInDim S2x8192x16x1x4 ![] bcast_S_S2x8192x16x1x4 (constant S_ .f32 0x00000000#32))) (subf (Host.negf (extractStridedSlice S2x8192x16x1x4 ![0, 0, 0, 1, 0] (shapeCast _ (gates (prodm m c) (m ((c.tc : Thread nD τ).loc main_arg5))) shapeCasts_S2x8192x128_S2x8192x16x2x4) slices_S2x8192x16x2x4_S2x8192x16x1x4_0_0_0_1_0)) (broadcastInDim S2x8192x16x1x4 ![] bcast_S_S2x8192x16x1x4 (constant S_ .f32 0x00000000#32)))) (addf (Host.negf (extractStridedSlice S2x8192x16x1x4 ![0, 0, 0, 1, 0] (shapeCast _ (gates (prodm m c) (m ((c.tc : Thread nD τ).loc main_arg5))) shapeCasts_S2x8192x128_S2x8192x16x2x4) slices_S2x8192x16x2x4_S2x8192x16x1x4_0_0_0_1_0)) (broadcastInDim S2x8192x16x1x4 ![] bcast_S_S2x8192x16x1x4 (constant S_ .f32 0x00000000#32))) (addf (maximumf (Host.negf (extractStridedSlice S2x8192x16x1x4 ![0, 0, 0, 1, 0] (shapeCast _ (gates (prodm m c) (m ((c.tc : Thread nD τ).loc main_arg5))) shapeCasts_S2x8192x128_S2x8192x16x2x4) slices_S2x8192x16x2x4_S2x8192x16x1x4_0_0_0_1_0)) (broadcastInDim S2x8192x16x1x4 ![] bcast_S_S2x8192x16x1x4 (constant S_ .f32 0x00000000#32))) (Host.log1p (Host.exp (Host.negf (Host.absf (subf (Host.negf (extractStridedSlice S2x8192x16x1x4 ![0, 0, 0, 1, 0] (shapeCast _ (gates (prodm m c) (m ((c.tc : Thread nD τ).loc main_arg5))) shapeCasts_S2x8192x128_S2x8192x16x2x4) slices_S2x8192x16x2x4_S2x8192x16x1x4_0_0_0_1_0)) (broadcastInDim S2x8192x16x1x4 ![] bcast_S_S2x8192x16x1x4 (constant S_ .f32 0x00000000#32))))))))))⟩] concatenates_S2x8192x16x1x4_S2x8192x16x1x4_S2x8192x16x2x4_d3) shapeCasts_S2x8192x16x2x4_S2x8192x128 : FVec Ideal S2x8192x128 .f32) := rfl

/-- The gates' result at an index. -/
theorem gates_out (c : Dev nD) (b : Fin 2) (t : Fin 8192) (l : Fin 128) :
    res_main_v132 m c (ix3 b t l : S2x8192x128.Idx)
      = if l.val / 4 % 2 < 1 then gates (prodm m c) (m ((c.tc : Thread nD τ).loc main_arg5)) (ix3 b t l)
        else -(max (-gates (prodm m c) (m ((c.tc : Thread nD τ).loc main_arg5)) (ix3 b t l)) 0
          + Ideal.log1p (Ideal.exp (-max (-gates (prodm m c) (m ((c.tc : Thread nD τ).loc main_arg5)) (ix3 b t l)) (- -gates (prodm m c) (m ((c.tc : Thread nD τ).loc main_arg5)) (ix3 b t l))))) :=
  (congrFun (form_v132 m c) _).trans (gflat_apply _ b t l)

end Cert.ProjRefIdeal.RefValue
-- ==== Proof.ProjValue.lean ====
module

public import proofs.«01_k».proof.Defs
public import proofs.«01_k».proof.Proof.Gen.ProjIdeal.Value
public import proofs.«01_k».proof.Proof.Gen.ProjRefIdeal.Run
public import proofs.«01_k».proof.Proof.ProjFinite
public import proofs.«01_k».proof.Proof.ProjEndA
public import proofs.«01_k».proof.Proof.ProjEndB
public import proofs.«01_k».proof.Proof.ProjRefQ
public import proofs.«01_k».proof.Proof.ProjRefK
public import proofs.«01_k».proof.Proof.ProjRefO
public import proofs.«01_k».proof.Proof.ProjRefG
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem

namespace Cert.ProjRefIdeal.RefValue

open Cert.ProjRefIdeal Cert.ProjRefIdeal.Gen Cert.ProjRefIdeal.Value

/-- A result that is a run of the product's columns, at an index. -/
theorem cut12 (P : FVec Ideal S2x8192x4880 .f32) (b : Fin 2) (t : Fin 8192) (l : Fin 512) :
    (truncf .bf16 (extractStridedSlice S2x8192x512 ![0, 0, 0] P slices_S2x8192x4880_S2x8192x512_0_0_0) bitsLt_bf16_f32 : FVec Ideal S2x8192x512 .bf16) (ix3 b t l : S2x8192x512.Idx) = P (ix3 b t ⟨l.val, by omega⟩) := by
  pointwise

/-- A result that is a run of the product's columns, at an index. -/
theorem cut13 (P : FVec Ideal S2x8192x4880 .f32) (b : Fin 2) (t : Fin 8192) (l : Fin 512) :
    (truncf .bf16 (mulf (extractStridedSlice S2x8192x512 ![0, 0, 512] P slices_S2x8192x4880_S2x8192x512_0_0_512) (broadcastInDim S2x8192x512 ![] bcast_S_S2x8192x512 (constant S_ .f32 0x3DB504F3#32))) bitsLt_bf16_f32 : FVec Ideal S2x8192x512 .bf16) (ix3 b t l : S2x8192x512.Idx) = P (ix3 b t ⟨512 + l.val, by omega⟩) * Ideal.ofBits FTy.f32 0x3DB504F3#32 := by
  pointwise

/-- A result that is a run of the product's columns, at an index. -/
theorem cut14 (P : FVec Ideal S2x8192x4880 .f32) (b : Fin 2) (t : Fin 8192) (l : Fin 512) :
    (truncf .bf16 (extractStridedSlice S2x8192x512 ![0, 0, 1024] P slices_S2x8192x4880_S2x8192x512_0_0_1024) bitsLt_bf16_f32 : FVec Ideal S2x8192x512 .bf16) (ix3 b t l : S2x8192x512.Idx) = P (ix3 b t ⟨1024 + l.val, by omega⟩) := by
  pointwise

/-- A result that is a run of the product's columns, at an index. -/
theorem cut18 (P : FVec Ideal S2x8192x4880 .f32) (b : Fin 2) (t : Fin 8192) (l : Fin 128) :
    (truncf .bf16 (extractStridedSlice S2x8192x128 ![0, 0, 2704] P slices_S2x8192x4880_S2x8192x128_0_0_2704) bitsLt_bf16_f32 : FVec Ideal S2x8192x128 .bf16) (ix3 b t l : S2x8192x128.Idx) = P (ix3 b t ⟨2704 + l.val, by omega⟩) := by
  pointwise

end Cert.ProjRefIdeal.RefValue

namespace Cert.Proof.ProjClaim

open Cert.ProjIdeal.RefValue
open Cert.ProjRefIdeal.RefValue (prod prodm prod_apply qheads_apply kheads_apply gates gates_apply gates_out q_out_turn qturn_apply k_out qheads kheads cut12 cut13 cut14 cut18)
open Cert.AttnMath (IsReal isReal_sum)
open Cert.ProjIdeal (S2x8192x512 S2x8192x128 S2x8192x1024 S2x1x1024 S1024 S1024x4880 S16 S64)

section real
variable (m : (ℓ : Loc Cert.ProjIdeal.nD Cert.ProjIdeal.τ Cert.ProjIdeal.sig) → Buf (Elt Ideal) ℓ)

/-- Under the precondition the columns of the attention's queries and keys are real. -/
theorem prow_real (h : Cert.Pre_ProjIdeal_proj_finite m) (c : Dev Cert.ProjIdeal.nD) (b : Fin 2) (t : Fin 8192) (j : Fin 4880)
    (h1 : 2064 ≤ j.val) (h2 : j.val < 2704) : IsReal (prowm m c b t j) := by
  obtain ⟨hsh, hsc, hg, hw⟩ := Cert.ProjFinite.real_of_pre _ _ _ _ _ _ _ _ (h c)
  unfold prowm prow
  exact isReal_sum _ _ fun d _ => IsReal.mul (modu_real _ _ _ _ (fun e => hg _) (fun e => hsc _) (fun e => hsh _) d) (hw d j h1 h2)
end real

section ref
variable (m : (ℓ : Loc Cert.ProjIdeal.nD Cert.ProjIdeal.τ Cert.ProjIdeal.sig) → Buf (Elt Ideal) ℓ)
  (m' : (ℓ : Loc Cert.ProjRefIdeal.nD Cert.ProjRefIdeal.τ Cert.ProjRefIdeal.sig) → Buf (Elt Ideal) ℓ) (c : Dev Cert.ProjIdeal.nD)
  (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
  (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
  (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
  (h3 : m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3))
  (h4 : m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4))
include h0 h1 h2 h3 h4

/-- The reference's product, at an index, of equal arguments. -/
theorem prodm_eq (b : Fin 2) (t : Fin 8192) (j : Fin 4880) : prodm m' c (ix3 b t j) = prowm m c b t j := by
  refine (prod_apply _ _ _ _ _ b t j).trans ?_
  rw [h0, h1, h2, h3, h4]
  rfl

/-- The gates' result at an index is the kernel's. -/
theorem gates_eq (h5 : m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) (b : Fin 2) (t : Fin 8192) (l : Fin 128) :
    Cert.ProjRefIdeal.Value.res_main_v132 m' c (ix3 b t l : S2x8192x128.Idx) = val15 m c b t l := by
  have e : gates (prodm m' c) (m' ((c.tc : Thread Cert.ProjRefIdeal.nD Cert.ProjRefIdeal.τ).loc Cert.ProjRefIdeal.main_arg5)) (ix3 b t l) = gatev m c b t l := by
    refine (gates_apply _ _ b t l).trans ?_
    unfold gatev
    by_cases h : l.val < 16
    · rw [dif_pos h, dif_pos h, prodm_eq m m' c h0 h1 h2 h3 h4, h5]
    · rw [dif_neg h, dif_neg h]
      exact nat_zero
  refine (gates_out m' c b t l).trans ?_
  rw [e]
  unfold val15
  by_cases h : l.val / 4 % 2 < 1
  · rw [if_pos h, if_neg (by omega)]
  · rw [if_neg h, if_pos (by omega), log_sigmoid]

/-- The queries' result at an index is the kernel's. -/
theorem q_eq (h6 : m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) (b : Fin 2) (t : Fin 8192) (l : Fin 512) :
    Cert.ProjRefIdeal.Value.res_main_v134 m' c (ix3 b t l : S2x8192x512.Idx) = val16 m c b t l := by
  refine (q_out_turn m' c b t l).trans ?_
  unfold val16
  refine congrArg (· * Ideal.ofBits FTy.f32 1040187392#32) ?_
  refine (qturn_apply _ b t _ _).trans ?_
  refine congrArg (fun a => turn a t.val ⟨l.val % 64, by omega⟩) (funext fun e => ?_)
  refine (qheads_apply _ _ b t _ e).trans ?_
  unfold qhead
  rw [h6]
  refine congrArg (fun a => rms64 a (fun x => m ((c.tc : Thread Cert.ProjIdeal.nD Cert.ProjIdeal.τ).loc Cert.ProjIdeal.main_arg6) (ix1 x : S64.Idx)) e) (funext fun x => ?_)
  refine (prodm_eq m m' c h0 h1 h2 h3 h4 b t _).trans ?_
  refine congrArg (prowm m c b t) (Fin.ext ?_)
  show 2064 + ((l.val / 64 % 2 * 4 + l.val / 128) * 64 + x.val) = 2064 + 64 * hd (l.val / 64 % 8) + x.val
  unfold hd
  omega

/-- The keys' result at an index is the kernel's. -/
theorem k_eq (h7 : m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) (b : Fin 2) (t : Fin 8192) (l : Fin 128) :
    Cert.ProjRefIdeal.Value.res_main_v136 m' c (ix3 b t l : S2x8192x128.Idx) = val17 m c b t l := by
  refine (k_out m' c b t l).trans ?_
  unfold val17
  refine congrArg (fun a => turn a t.val ⟨l.val % 64, by omega⟩) (funext fun e => ?_)
  refine (kheads_apply _ _ b t _ e).trans ?_
  unfold khead
  rw [h7]
  refine congrArg (fun a => rms64 a (fun x => m ((c.tc : Thread Cert.ProjIdeal.nD Cert.ProjIdeal.τ).loc Cert.ProjIdeal.main_arg7) (ix1 x : S64.Idx)) e) (funext fun x => ?_)
  refine (prodm_eq m m' c h0 h1 h2 h3 h4 b t _).trans ?_
  refine congrArg (prowm m c b t) (Fin.ext ?_)
  show 2576 + (l.val / 64 * 64 + x.val) = 2576 + 64 * (l.val / 64 % 2) + x.val
  omega
end ref

set_option maxHeartbeats 2000000 in
/-- The kernel's seven results are the reference's, from equal arguments, where the modulation and the queries' and keys' weights are real. -/
theorem algebraic : Cert.algebraic_ProjIdeal_ProjRefIdeal_pre_proj_finite := by
  intro m g m' g' hpre hagree
  refine ⟨fun c => G12 m c, fun c => G13 m c, fun c => G14 m c, fun c => G15 m c, fun c => G16 m c, fun c => G17 m c, fun c => G18 m c, ?_, ?_⟩
  · refine (θ_run Cert.ProjIdeal.defs _ _).mono (fun _ h c => ?_) (Cert.ProjIdeal.Value.run_blocks (F := Ideal) m g)
    obtain ⟨a12, a13, a14, a15, a16, a17, a18, rest⟩ := h c
    exact ⟨a12.trans (final12 m c), a13.trans (final13 m c), a14.trans (final14 m c), a15.trans (final15 m c),
      a16.trans (final16 m c (prow_real m hpre c)), a17.trans (final17 m c (prow_real m hpre c)), a18.trans (final18 m c), rest⟩
  · refine (θ_run Cert.ProjRefIdeal.defs _ _).mono (fun _ h c => ?_) (Cert.ProjRefIdeal.Value.run (F := Ideal) m' g')
    obtain ⟨a12, a13, a14, a15, a16, a17, a18, rest⟩ := h c
    obtain ⟨h0, h1, h2, h3, h4, h5, h6, h7⟩ := hagree c
    have hp := prodm_eq m m' c h0 h1 h2 h3 h4
    refine ⟨a12.trans ?_, a13.trans ?_, a14.trans ?_, a15.trans ?_, a16.trans ?_, a17.trans ?_, a18.trans ?_, rest⟩
    · funext i
      change S2x8192x512.Idx at i
      idx_vars i
      exact (cut12 (prodm m' c) i0 i1 i2).trans (hp i0 i1 _)
    · funext i
      change S2x8192x512.Idx at i
      idx_vars i
      exact (cut13 (prodm m' c) i0 i1 i2).trans (congrArg (· * Ideal.ofBits FTy.f32 0x3DB504F3#32) (hp i0 i1 _))
    · funext i
      change S2x8192x512.Idx at i
      idx_vars i
      exact (cut14 (prodm m' c) i0 i1 i2).trans (hp i0 i1 _)
    · funext i
      change S2x8192x128.Idx at i
      idx_vars i
      exact gates_eq m m' c h0 h1 h2 h3 h4 h5 i0 i1 i2
    · funext i
      change S2x8192x512.Idx at i
      idx_vars i
      exact q_eq m m' c h0 h1 h2 h3 h4 h6 i0 i1 i2
    · funext i
      change S2x8192x128.Idx at i
      idx_vars i
      exact k_eq m m' c h0 h1 h2 h3 h4 h7 i0 i1 i2
    · funext i
      change S2x8192x128.Idx at i
      idx_vars i
      exact (cut18 (prodm m' c) i0 i1 i2).trans (hp i0 i1 _)

end Cert.Proof.ProjClaim
-- ==== Proof.MergeValue.lean ====
module

public import proofs.«01_k».proof.Defs
public import proofs.«01_k».proof.Proof.Gen.MergeIdeal.Value
public import proofs.«01_k».proof.Proof.Gen.MergeRefIdeal.Run
public import Idealize.ShloMosaic.Lib.Pointwise
public import Idealize.ShloMosaic.Lib.Claim
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen

variable (m : (ℓ : Loc nD τ sig) → Buf (Elt Ideal) ℓ)

/-! ## Where the blocks lie -/

/-- The block indices of the thirteen argument windows and of the result window at each grid point. -/
theorem idx_facts : ∀ t : Fin cfg0.N,
    (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = 0 ∧ win0_3.index t 1 = 0)
    ∧ (win0_4.index t 0 = t.val / 16 ∧ win0_4.index t 1 = 0 ∧ win0_4.index t 2 = 0)
    ∧ (win0_5.index t 0 = t.val / 16 ∧ win0_5.index t 1 = t.val % 16 ∧ win0_5.index t 2 = 0)
    ∧ (win0_6.index t 0 = t.val / 16 ∧ win0_6.index t 1 = t.val % 16 ∧ win0_6.index t 2 = 0)
    ∧ (win0_7.index t 0 = t.val / 16 ∧ win0_7.index t 1 = t.val % 16 ∧ win0_7.index t 2 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = t.val / 16 ∧ win0_13.index t 1 = t.val % 16 ∧ win0_13.index t 2 = 0) :=
  (by decide +kernel : ∀ t : Fin grid0.N, _)

/-- The grid point of batch `b` and token tile `n`. -/
def pt (b : Fin 2) (n : Fin 16) : Fin cfg0.N := ⟨16 * b.val + n.val, by have h : cfg0.N = 32 := N_0; omega⟩

theorem pt_div (b : Fin 2) (n : Fin 16) : (pt b n).val / 16 = b.val := by show (16 * b.val + n.val) / 16 = _; omega
theorem pt_mod (b : Fin 2) (n : Fin 16) : (pt b n).val % 16 = n.val := by show (16 * b.val + n.val) % 16 = _; omega

/-- Every grid point is the point of some batch and some tile. -/
theorem eq_pt (t : Fin cfg0.N) : ∃ b n, t = pt b n := by
  have h : cfg0.N = 32 := N_0
  have ht := t.isLt
  exact ⟨⟨t.val / 16, by omega⟩, ⟨t.val % 16, by omega⟩, Fin.ext (by show t.val = 16 * (t.val / 16) + t.val % 16; omega)⟩

theorem emb0 (b : Fin 2) (n : Fin 16) (v : Fin 512) (w : Fin 1024) :
    (win0_0.rect (pt b n)).emb (ix3 0 v w : S1x512x1024.Idx) = (ix3 b ⟨n.val * 512 + v.val, by omega⟩ w : S2x8192x1024.Idx) := by
  have hf := (idx_facts (pt b n)).1
  have e0 := pt_div b n
  have e1 := pt_mod b n
  funext a
  apply Fin.ext
  refine (Pipeline.Window.rect_emb_val win0_0 (pt b n) _ a).trans ?_
  match a with
  | ⟨0, _⟩ => show win0_0.index (pt b n) 0 * 1 + 0 = b.val; omega
  | ⟨1, _⟩ => show win0_0.index (pt b n) 1 * 512 + v.val = n.val * 512 + v.val; omega
  | ⟨2, _⟩ => show win0_0.index (pt b n) 2 * 1024 + w.val = w.val; omega

theorem emb1 (b : Fin 2) (n : Fin 16) (w : Fin 1024) :
    (win0_1.rect (pt b n)).emb (ix3 0 0 w : S1x1x1024.Idx) = (ix3 b 0 w : S2x1x1024.Idx) := by
  have hf := (idx_facts (pt b n)).2.1
  have e0 := pt_div b n
  have e1 := pt_mod b n
  funext a
  apply Fin.ext
  refine (Pipeline.Window.rect_emb_val win0_1 (pt b n) _ a).trans ?_
  match a with
  | ⟨0, _⟩ => show win0_1.index (pt b n) 0 * 1 + 0 = b.val; omega
  | ⟨1, _⟩ => show win0_1.index (pt b n) 1 * 1 + 0 = 0; omega
  | ⟨2, _⟩ => show win0_1.index (pt b n) 2 * 1024 + w.val = w.val; omega

theorem emb2 (b : Fin 2) (n : Fin 16) (w : Fin 1024) :
    (win0_2.rect (pt b n)).emb (ix3 0 0 w : S1x1x1024.Idx) = (ix3 b 0 w : S2x1x1024.Idx) := by
  have hf := (idx_facts (pt b n)).2.2.1
  have e0 := pt_div b n
  have e1 := pt_mod b n
  funext a
  apply Fin.ext
  refine (Pipeline.Window.rect_emb_val win0_2 (pt b n) _ a).trans ?_
  match a with
  | ⟨0, _⟩ => show win0_2.index (pt b n) 0 * 1 + 0 = b.val; omega
  | ⟨1, _⟩ => show win0_2.index (pt b n) 1 * 1 + 0 = 0; omega
  | ⟨2, _⟩ => show win0_2.index (pt b n) 2 * 1024 + w.val = w.val; omega

theorem emb3 (b : Fin 2) (n : Fin 16) (v : Fin 1024) :
    (win0_3.rect (pt b n)).emb (ix2 0 v : S1x1024.Idx) = (ix2 0 v : S1x1024.Idx) := by
  have hf := (idx_facts (pt b n)).2.2.2.1
  have e0 := pt_div b n
  have e1 := pt_mod b n
  funext a
  apply Fin.ext
  refine (Pipeline.Window.rect_emb_val win0_3 (pt b n) _ a).trans ?_
  match a with
  | ⟨0, _⟩ => show win0_3.index (pt b n) 0 * 1 + 0 = 0; omega
  | ⟨1, _⟩ => show win0_3.index (pt b n) 1 * 1024 + v.val = v.val; omega

theorem emb4 (b : Fin 2) (n : Fin 16) (w : Fin 1024) :
    (win0_4.rect (pt b n)).emb (ix3 0 0 w : S1x1x1024.Idx) = (ix3 b 0 w : S2x1x1024.Idx) := by
  have hf := (idx_facts (pt b n)).2.2.2.2.1
  have e0 := pt_div b n
  have e1 := pt_mod b n
  funext a
  apply Fin.ext
  refine (Pipeline.Window.rect_emb_val win0_4 (pt b n) _ a).trans ?_
  match a with
  | ⟨0, _⟩ => show win0_4.index (pt b n) 0 * 1 + 0 = b.val; omega
  | ⟨1, _⟩ => show win0_4.index (pt b n) 1 * 1 + 0 = 0; omega
  | ⟨2, _⟩ => show win0_4.index (pt b n) 2 * 1024 + w.val = w.val; omega

theorem emb5 (b : Fin 2) (n : Fin 16) (v : Fin 512) (w : Fin 512) :
    (win0_5.rect (pt b n)).emb (ix3 0 v w : S1x512x512.Idx) = (ix3 b ⟨n.val * 512 + v.val, by omega⟩ w : S2x8192x512.Idx) := by
  have hf := (idx_facts (pt b n)).2.2.2.2.2.1
  have e0 := pt_div b n
  have e1 := pt_mod b n
  funext a
  apply Fin.ext
  refine (Pipeline.Window.rect_emb_val win0_5 (pt b n) _ a).trans ?_
  match a with
  | ⟨0, _⟩ => show win0_5.index (pt b n) 0 * 1 + 0 = b.val; omega
  | ⟨1, _⟩ => show win0_5.index (pt b n) 1 * 512 + v.val = n.val * 512 + v.val; omega
  | ⟨2, _⟩ => show win0_5.index (pt b n) 2 * 512 + w.val = w.val; omega

theorem emb6 (b : Fin 2) (n : Fin 16) (v : Fin 512) (w : Fin 512) :
    (win0_6.rect (pt b n)).emb (ix3 0 v w : S1x512x512.Idx) = (ix3 b ⟨n.val * 512 + v.val, by omega⟩ w : S2x8192x512.Idx) := by
  have hf := (idx_facts (pt b n)).2.2.2.2.2.2.1
  have e0 := pt_div b n
  have e1 := pt_mod b n
  funext a
  apply Fin.ext
  refine (Pipeline.Window.rect_emb_val win0_6 (pt b n) _ a).trans ?_
  match a with
  | ⟨0, _⟩ => show win0_6.index (pt b n) 0 * 1 + 0 = b.val; omega
  | ⟨1, _⟩ => show win0_6.index (pt b n) 1 * 512 + v.val = n.val * 512 + v.val; omega
  | ⟨2, _⟩ => show win0_6.index (pt b n) 2 * 512 + w.val = w.val; omega

theorem emb7 (b : Fin 2) (n : Fin 16) (v : Fin 512) (w : Fin 512) :
    (win0_7.rect (pt b n)).emb (ix3 0 v w : S1x512x512.Idx) = (ix3 b ⟨n.val * 512 + v.val, by omega⟩ w : S2x8192x512.Idx) := by
  have hf := (idx_facts (pt b n)).2.2.2.2.2.2.2.1
  have e0 := pt_div b n
  have e1 := pt_mod b n
  funext a
  apply Fin.ext
  refine (Pipeline.Window.rect_emb_val win0_7 (pt b n) _ a).trans ?_
  match a with
  | ⟨0, _⟩ => show win0_7.index (pt b n) 0 * 1 + 0 = b.val; omega
  | ⟨1, _⟩ => show win0_7.index (pt b n) 1 * 512 + v.val = n.val * 512 + v.val; omega
  | ⟨2, _⟩ => show win0_7.index (pt b n) 2 * 512 + w.val = w.val; omega

theorem emb8 (b : Fin 2) (n : Fin 16) (u : Fin 1024) (v : Fin 2560) :
    (win0_8.rect (pt b n)).emb (ix2 u v : S1024x2560.Idx) = (ix2 u v : S1024x2560.Idx) := by
  have hf := (idx_facts (pt b n)).2.2.2.2.2.2.2.2.1
  have e0 := pt_div b n
  have e1 := pt_mod b n
  funext a
  apply Fin.ext
  refine (Pipeline.Window.rect_emb_val win0_8 (pt b n) _ a).trans ?_
  match a with
  | ⟨0, _⟩ => show win0_8.index (pt b n) 0 * 1024 + u.val = u.val; omega
  | ⟨1, _⟩ => show win0_8.index (pt b n) 1 * 2560 + v.val = v.val; omega

theorem emb9 (b : Fin 2) (n : Fin 16) (v : Fin 512) :
    (win0_9.rect (pt b n)).emb (ix2 0 v : S1x512.Idx) = (ix2 0 v : S1x512.Idx) := by
  have hf := (idx_facts (pt b n)).2.2.2.2.2.2.2.2.2.1
  have e0 := pt_div b n
  have e1 := pt_mod b n
  funext a
  apply Fin.ext
  refine (Pipeline.Window.rect_emb_val win0_9 (pt b n) _ a).trans ?_
  match a with
  | ⟨0, _⟩ => show win0_9.index (pt b n) 0 * 1 + 0 = 0; omega
  | ⟨1, _⟩ => show win0_9.index (pt b n) 1 * 512 + v.val = v.val; omega

theorem emb10 (b : Fin 2) (n : Fin 16) (u : Fin 512) (v : Fin 1024) :
    (win0_10.rect (pt b n)).emb (ix2 u v : S512x1024.Idx) = (ix2 u v : S512x1024.Idx) := by
  have hf := (idx_facts (pt b n)).2.2.2.2.2.2.2.2.2.2.1
  have e0 := pt_div b n
  have e1 := pt_mod b n
  funext a
  apply Fin.ext
  refine (Pipeline.Window.rect_emb_val win0_10 (pt b n) _ a).trans ?_
  match a with
  | ⟨0, _⟩ => show win0_10.index (pt b n) 0 * 512 + u.val = u.val; omega
  | ⟨1, _⟩ => show win0_10.index (pt b n) 1 * 1024 + v.val = v.val; omega

theorem emb11 (b : Fin 2) (n : Fin 16) (u : Fin 512) (v : Fin 1024) :
    (win0_11.rect (pt b n)).emb (ix2 u v : S512x1024.Idx) = (ix2 u v : S512x1024.Idx) := by
  have hf := (idx_facts (pt b n)).2.2.2.2.2.2.2.2.2.2.2.1
  have e0 := pt_div b n
  have e1 := pt_mod b n
  funext a
  apply Fin.ext
  refine (Pipeline.Window.rect_emb_val win0_11 (pt b n) _ a).trans ?_
  match a with
  | ⟨0, _⟩ => show win0_11.index (pt b n) 0 * 512 + u.val = u.val; omega
  | ⟨1, _⟩ => show win0_11.index (pt b n) 1 * 1024 + v.val = v.val; omega

theorem emb12 (b : Fin 2) (n : Fin 16) (u : Fin 1024) (v : Fin 1024) :
    (win0_12.rect (pt b n)).emb (ix2 u v : S1024x1024.Idx) = (ix2 u v : S1024x1024.Idx) := by
  have hf := (idx_facts (pt b n)).2.2.2.2.2.2.2.2.2.2.2.2.1
  have e0 := pt_div b n
  have e1 := pt_mod b n
  funext a
  apply Fin.ext
  refine (Pipeline.Window.rect_emb_val win0_12 (pt b n) _ a).trans ?_
  match a with
  | ⟨0, _⟩ => show win0_12.index (pt b n) 0 * 1024 + u.val = u.val; omega
  | ⟨1, _⟩ => show win0_12.index (pt b n) 1 * 1024 + v.val = v.val; omega

theorem emb13 (b : Fin 2) (n : Fin 16) (v : Fin 512) (w : Fin 1024) :
    (win0_13.rect (pt b n)).emb (ix3 0 v w : S1x512x1024.Idx) = (ix3 b ⟨n.val * 512 + v.val, by omega⟩ w : S2x8192x1024.Idx) := by
  have hf := (idx_facts (pt b n)).2.2.2.2.2.2.2.2.2.2.2.2.2
  have e0 := pt_div b n
  have e1 := pt_mod b n
  funext a
  apply Fin.ext
  refine (Pipeline.Window.rect_emb_val win0_13 (pt b n) _ a).trans ?_
  match a with
  | ⟨0, _⟩ => show win0_13.index (pt b n) 0 * 1 + 0 = b.val; omega
  | ⟨1, _⟩ => show win0_13.index (pt b n) 1 * 512 + v.val = n.val * 512 + v.val; omega
  | ⟨2, _⟩ => show win0_13.index (pt b n) 2 * 1024 + w.val = w.val; omega

/-! ## The attention branch's matrix, its heads taken in the order in which the attention leaves them -/

/-- The head that stands at position `p`: the two key-value heads side by side within each group. -/
def ord (p : Fin 8) : Fin 8 := ⟨p.val % 2 * 4 + p.val / 2, by omega⟩

/-- A gather of whole rows of a three-axis array reads, at `(p, u, v)`, the operand at its start index for `p`. -/
theorem gather_heads {α : Type} (x : S8x64x1024.Idx → α) (s : IVec S8x1 32) (o : Fin 8 → Fin 8)
    (ho : ∀ p : Fin 8, min (s (ix2 p 0)).toInt.toNat 7 = (o p).val) (p : Fin 8) (u : Fin 64) (v : Fin 1024) :
    Host.gather gather_S8x64x1024_S8x1_S8x64x1024_12_0_n_n_0_1_1641024 x s (ix3 p u v) = x (ix3 (o p) u v) := by
  unfold Host.gather
  congr 1
  funext a
  refine Fin.ext ?_
  show GatherDims.start _ _ s a + GatherDims.batchCoord _ _ a + GatherDims.offCoord _ _ a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S8x64x1024.rank) ∈ gather_S8x64x1024_S8x1_S8x64x1024_12_0_n_n_0_1_1641024.startIndexMap from List.mem_singleton.mpr rfl)]
    refine Eq.trans ?_ (ho p)
    refine congrArg (fun i => min (s i).toInt.toNat 7) ?_
    funext b
    refine Fin.ext ?_
    match b with
    | ⟨0, _⟩ => rfl
    | ⟨1, _⟩ => rfl
  | ⟨1, hk⟩ =>
    unfold GatherDims.start
    rw [dif_neg (show ¬ (⟨1, hk⟩ : Fin S8x64x1024.rank) ∈ gather_S8x64x1024_S8x1_S8x64x1024_12_0_n_n_0_1_1641024.startIndexMap from
      fun h => absurd (congrArg Fin.val (List.mem_singleton.mp h)) (show ¬ 1 = 0 by decide))]
    simp only [Nat.zero_add]
    rfl
  | ⟨2, hk⟩ =>
    unfold GatherDims.start
    rw [dif_neg (show ¬ (⟨2, hk⟩ : Fin S8x64x1024.rank) ∈ gather_S8x64x1024_S8x1_S8x64x1024_12_0_n_n_0_1_1641024.startIndexMap from
      fun h => absurd (congrArg Fin.val (List.mem_singleton.mp h)) (show ¬ 2 = 0 by decide))]
    simp only [Nat.zero_add]
    rfl

/-! ## The blocks of the arguments, read at an index -/

theorem blk0 (c : Dev nD) (b : Fin 2) (n : Fin 16) (r : Fin 512) (d : Fin 1024) :
    iblk m c 0 (pt b n) (ix3 0 r d : S1x512x1024.Idx) = m ((c : Thread nD τ).loc main_arg0) (ix3 b ⟨n.val * 512 + r.val, by omega⟩ d : S2x8192x1024.Idx) := by
  show V m c main_arg0 ((win0_0.rect (pt b n)).emb _) = _
  rw [emb0]
  rw [V_main_arg0]

theorem blk1 (c : Dev nD) (b : Fin 2) (n : Fin 16) (d : Fin 1024) :
    iblk m c 1 (pt b n) (ix3 0 0 d : S1x1x1024.Idx) = m ((c : Thread nD τ).loc main_arg1) (ix3 b 0 d : S2x1x1024.Idx) := by
  show V m c main_arg1 ((win0_1.rect (pt b n)).emb _) = _
  rw [emb1]
  rw [V_main_arg1]

theorem blk2 (c : Dev nD) (b : Fin 2) (n : Fin 16) (d : Fin 1024) :
    iblk m c 2 (pt b n) (ix3 0 0 d : S1x1x1024.Idx) = m ((c : Thread nD τ).loc main_arg2) (ix3 b 0 d : S2x1x1024.Idx) := by
  show V m c main_arg2 ((win0_2.rect (pt b n)).emb _) = _
  rw [emb2]
  rw [V_main_arg2]

theorem blk4 (c : Dev nD) (b : Fin 2) (n : Fin 16) (d : Fin 1024) :
    iblk m c 4 (pt b n) (ix3 0 0 d : S1x1x1024.Idx) = m ((c : Thread nD τ).loc main_arg4) (ix3 b 0 d : S2x1x1024.Idx) := by
  show V m c main_arg4 ((win0_4.rect (pt b n)).emb _) = _
  rw [emb4]
  rw [V_main_arg4]

theorem blk3 (c : Dev nD) (b : Fin 2) (n : Fin 16) (d : Fin 1024) :
    iblk m c 3 (pt b n) (ix2 0 d : S1x1024.Idx) = m ((c : Thread nD τ).loc main_arg3) (ix1 d : S1024.Idx) := by
  show V m c main_v7 ((win0_3.rect (pt b n)).emb _) = _
  rw [emb3]
  after_reads_at

theorem blk5 (c : Dev nD) (b : Fin 2) (n : Fin 16) (r d : Fin 512) :
    iblk m c 5 (pt b n) (ix3 0 r d : S1x512x512.Idx) = m ((c : Thread nD τ).loc main_arg5) (ix3 b ⟨n.val * 512 + r.val, by omega⟩ d : S2x8192x512.Idx) := by
  show V m c main_arg5 ((win0_5.rect (pt b n)).emb _) = _
  rw [emb5]
  rw [V_main_arg5]

theorem blk6 (c : Dev nD) (b : Fin 2) (n : Fin 16) (r d : Fin 512) :
    iblk m c 6 (pt b n) (ix3 0 r d : S1x512x512.Idx) = m ((c : Thread nD τ).loc main_arg6) (ix3 b ⟨n.val * 512 + r.val, by omega⟩ d : S2x8192x512.Idx) := by
  show V m c main_arg6 ((win0_6.rect (pt b n)).emb _) = _
  rw [emb6]
  rw [V_main_arg6]

theorem blk7 (c : Dev nD) (b : Fin 2) (n : Fin 16) (r d : Fin 512) :
    iblk m c 7 (pt b n) (ix3 0 r d : S1x512x512.Idx) = m ((c : Thread nD τ).loc main_arg7) (ix3 b ⟨n.val * 512 + r.val, by omega⟩ d : S2x8192x512.Idx) := by
  show V m c main_arg7 ((win0_7.rect (pt b n)).emb _) = _
  rw [emb7]
  rw [V_main_arg7]

/-- The columns of the input projection this call uses: the output gate's, then the two merge gates'. -/
def col (j : Fin 2560) : Fin 4880 := ⟨if j.val < 512 then 1536 + j.val else 2320 + j.val, by split <;> omega⟩

theorem blk8 (c : Dev nD) (b : Fin 2) (n : Fin 16) (d : Fin 1024) (j : Fin 2560) :
    iblk m c 8 (pt b n) (ix2 d j : S1024x2560.Idx) = m ((c : Thread nD τ).loc main_arg8) (ix2 d (col j) : S1024x4880.Idx) := by
  show V m c main_v6 ((win0_8.rect (pt b n)).emb _) = _
  rw [emb8]
  after_reads_at
  split
  · next h =>
    after_reads_at
    exact congrArg (fun k => m (c, Proc.tc.devRef main_arg8) (ix2 d k)) (Fin.ext (if_pos h).symm)
  · next h =>
    after_reads_at
    refine congrArg (fun k => m (c, Proc.tc.devRef main_arg8) (ix2 d k)) (Fin.ext (Eq.trans ?_ (if_neg h).symm))
    show 2832 + (j.val - 512) = _
    omega

theorem blk9 (c : Dev nD) (b : Fin 2) (n : Fin 16) (d : Fin 512) :
    iblk m c 9 (pt b n) (ix2 0 d : S1x512.Idx) = m ((c : Thread nD τ).loc main_arg9) (ix1 d : S512.Idx) := by
  show V m c main_v18 ((win0_9.rect (pt b n)).emb _) = _
  rw [emb9]
  after_reads_at

theorem blk10 (c : Dev nD) (b : Fin 2) (n : Fin 16) (r : Fin 512) (d : Fin 1024) :
    iblk m c 10 (pt b n) (ix2 r d : S512x1024.Idx) = m ((c : Thread nD τ).loc main_arg10) (ix2 r d : S512x1024.Idx) := by
  show V m c main_v19 ((win0_10.rect (pt b n)).emb _) = _
  rw [emb10]
  after_reads_at

/-- The row of the attention branch's matrix that meets column `r` of the attention's result. -/
def nat (r : Fin 512) : Fin 512 := ⟨(ord ⟨r.val / 64, by omega⟩).val * 64 + r.val % 64, by omega⟩

theorem blk11 (c : Dev nD) (b : Fin 2) (n : Fin 16) (r : Fin 512) (d : Fin 1024) :
    iblk m c 11 (pt b n) (ix2 r d : S512x1024.Idx) = m ((c : Thread nD τ).loc main_arg11) (ix2 (nat r) d : S512x1024.Idx) := by
  show V m c main_v17 ((win0_11.rect (pt b n)).emb _) = _
  rw [emb11]
  after_reads_at
  rw [gather_heads _ _ ord (by decide +kernel)]
  rfl

theorem blk12 (c : Dev nD) (b : Fin 2) (n : Fin 16) (r d : Fin 1024) :
    iblk m c 12 (pt b n) (ix2 r d : S1024x1024.Idx) = m ((c : Thread nD τ).loc main_arg12) (ix2 r d : S1024x1024.Idx) := by
  show V m c main_v20 ((win0_12.rect (pt b n)).emb _) = _
  rw [emb12]
  after_reads_at

/-! ## What the body leaves in the result's block, read at an index -/

/-- The modulated normalised row: `x · rsqrt (mean x² + ε) · g · (1 + scale) + shift`. -/
def modu (x : Fin 1024 → EReal) (g sc sh : Fin 1024 → EReal) (d : Fin 1024) : EReal :=
  x d * Ideal.rsqrt (Ideal.div (∑ e, x e * x e) (Ideal.ofBits FTy.f32 1149239296#32) + Ideal.ofBits FTy.f32 897988541#32)
    * g d * (1 + sc d) + sh d

/-- The logistic function. -/
def sg (v : EReal) : EReal := Ideal.div 1 (1 + Ideal.exp (-v))

/-- A row of 512 entries, each of its four groups of 128 divided by the root of its mean square. -/
def nrm (s : Fin 512 → EReal) (j : Fin 512) : EReal :=
  s j * Ideal.rsqrt (Ideal.div (∑ x : Fin 128, s ⟨j.val / 128 * 128 + x.val, by omega⟩ * s ⟨j.val / 128 * 128 + x.val, by omega⟩) (Ideal.ofBits FTy.f32 1124073472#32)
    + Ideal.ofBits FTy.f32 897988541#32)

/-- An entry of a group, written with the group's columns spelt out. -/
theorem group (s : Fin 512 → EReal) (j k : Fin 512) (q : Fin 128 → Fin 512) (hk : k.val = j.val)
    (hq : ∀ x, (q x).val = j.val / 128 * 128 + x.val) :
    s k * Ideal.rsqrt (Ideal.div (∑ x, s (q x) * s (q x)) (Ideal.ofBits FTy.f32 1124073472#32) + Ideal.ofBits FTy.f32 897988541#32) = nrm s j := by
  obtain rfl : k = j := Fin.ext hk
  have e : q = fun x => ⟨k.val / 128 * 128 + x.val, by omega⟩ := funext fun x => Fin.ext (hq x)
  rw [e]
  rfl

section block

variable (x0 : Vec Ideal S1x512x1024 .f32) (x1 x2 x4 : Vec Ideal S1x1x1024 .f32) (x3 : Vec Ideal S1x1024 .f32)
  (x5 x6 : Vec Ideal S1x512x512 .f32) (x7 : Vec Ideal S1x512x512 .bf16) (x8 : Vec Ideal S1024x2560 .bf16)
  (x9 : Vec Ideal S1x512 .f32) (x10 x11 : Vec Ideal S512x1024 .bf16) (x12 : Vec Ideal S1024x1024 .bf16)

/-- The gates' columns: the modulated rows times those columns of the input projection. -/
theorem proj_apply (r : Fin 512) (j : Fin 2560) :
    k0_pay3 x0 x3 x1 x2 x8 (ix2 r j) = ∑ d, modu (fun e => x0 (ix3 0 r e)) (fun e => x3 (ix2 0 e)) (fun e => x2 (ix3 0 0 e)) (fun e => x1 (ix3 0 0 e)) d * x8 (ix2 d j) := by
  unfold_payloads
  pointwise [modu]

theorem tile_apply (r : Fin 512) (d : Fin 1024) : k0_pay2 x0 (ix2 r d) = x0 (ix3 0 r d) := by
  unfold_payloads
  pointwise

/-- The normalised heads of the sum of the two directions. -/
theorem heads_apply (v31 v33 : FVec Ideal S512x512 .f32) (r j : Fin 512) :
    k0_pay6 v31 v33 (ix2 r j) = nrm (fun x => v31 (ix2 r x) + v33 (ix2 r x)) j := by
  unfold_payloads
  pointwise []
  have g := group (fun x => v31 (ix2 r x) + v33 (ix2 r x)) j
  split
  · next h => exact g j (fun x => ⟨x.val, by omega⟩) rfl (fun x => by show x.val = _; omega)
  · split
    · next h h1 => exact g ⟨128 + (j.val - 128), by omega⟩ (fun x => ⟨128 + x.val, by omega⟩) (by show 128 + _ = _; omega) (fun x => by show 128 + x.val = _; omega)
    · split
      · next h h1 h2 => exact g ⟨256 + (j.val - 128 - 128), by omega⟩ (fun x => ⟨256 + x.val, by omega⟩) (by show 256 + _ = _; omega) (fun x => by show 256 + x.val = _; omega)
      · next h h1 h2 => exact g ⟨384 + (j.val - 128 - 128 - 128), by omega⟩ (fun x => ⟨384 + x.val, by omega⟩) (by show 384 + _ = _; omega) (fun x => by show 384 + x.val = _; omega)

/-- The gated sum of the two branches. -/
theorem gated_apply (v29 : FVec Ideal S512x2560 .f32) (v79 : FVec Ideal S512x512 .f32) (r : Fin 512) (j : Fin 1024) :
    k0_pay7 v29 v79 x9 x10 x7 x11 (ix2 r j)
      = sg (v29 (ix2 r ⟨512 + j.val, by omega⟩)) * (∑ x, v79 (ix2 r x) * x9 (ix2 0 x) * sg (v29 (ix2 r ⟨x.val, by omega⟩)) * x10 (ix2 x j))
        + sg (v29 (ix2 r ⟨1536 + j.val, by omega⟩)) * ∑ x, x7 (ix3 0 r x) * x11 (ix2 x j) := by
  unfold_payloads
  pointwise []
  simp only [zero_sub]
  rfl

/-- The gated sum times the output projection, scaled and added to the tokens. -/
theorem outer_apply (v2 : FVec Ideal S512x1024 .f32) (y : FVec Ideal S512x1024 .f32) (r : Fin 512) (d : Fin 1024) :
    k0_pay1 v2 y x4 x12 (ix3 0 r d) = v2 (ix2 r d) + x4 (ix3 0 0 d) * ∑ j, y (ix2 r j) * x12 (ix2 j d) := by
  unfold_payloads
  pointwise

/-- The body's result block, read at an index. -/
theorem out13_apply (r : Fin 512) (d : Fin 1024) :
    out0_13 x0 x1 x2 x3 x4 x5 x6 x7 x8 x9 x10 x11 x12 (ix3 0 r d)
      = k0_pay1 (k0_pay2 x0) (k0_pay7 (k0_pay3 x0 x3 x1 x2 x8) (k0_pay6 (k0_pay4 x5) (k0_pay5 x6)) x9 x10 x7 x11) x4 x12 (ix3 0 r d) := by
  unfold out0_13
  rw [View.canon_unit_zero (by funext a; fin_cases a <;> rfl)]
  rw [show View.ld x0 r0_0 = x0 from View.ld_unit_zero (by funext a; fin_cases a <;> rfl) _ x0]
  rw [show View.ld x3 r0_1 = x3 from View.ld_unit_zero (by funext a; fin_cases a <;> rfl) _ x3]
  rw [show View.ld x1 r0_2 = x1 from View.ld_unit_zero (by funext a; fin_cases a <;> rfl) _ x1]
  rw [show View.ld x2 r0_2 = x2 from View.ld_unit_zero (by funext a; fin_cases a <;> rfl) _ x2]
  rw [show View.ld x8 r0_3 = x8 from View.ld_unit_zero (by funext a; fin_cases a <;> rfl) _ x8]
  rw [show View.ld x5 r0_4 = x5 from View.ld_unit_zero (by funext a; fin_cases a <;> rfl) _ x5]
  rw [show View.ld x6 r0_4 = x6 from View.ld_unit_zero (by funext a; fin_cases a <;> rfl) _ x6]
  rw [show View.ld x9 r0_5 = x9 from View.ld_unit_zero (by funext a; fin_cases a <;> rfl) _ x9]
  rw [show View.ld x10 r0_6 = x10 from View.ld_unit_zero (by funext a; fin_cases a <;> rfl) _ x10]
  rw [show View.ld x7 r0_4 = x7 from View.ld_unit_zero (by funext a; fin_cases a <;> rfl) _ x7]
  rw [show View.ld x11 r0_6 = x11 from View.ld_unit_zero (by funext a; fin_cases a <;> rfl) _ x11]
  rw [show View.ld x4 r0_2 = x4 from View.ld_unit_zero (by funext a; fin_cases a <;> rfl) _ x4]
  rw [show View.ld x12 r0_7 = x12 from View.ld_unit_zero (by funext a; fin_cases a <;> rfl) _ x12]

theorem dir_apply (r d : Fin 512) : k0_pay4 x5 (ix2 r d) = x5 (ix3 0 r d) := by
  unfold_payloads
  pointwise

theorem dir_apply' (r d : Fin 512) : k0_pay5 x6 (ix2 r d) = x6 (ix3 0 r d) := by
  unfold_payloads
  pointwise

end block

/-! ## The result array after the run -/

/-- Column `k` of the input projection of the modulated token `(b, t)`. -/
def pval (x : FVec Ideal S2x8192x1024 .f32) (sh sc : FVec Ideal S2x1x1024 .f32) (g : FVec Ideal S1024 .f32)
    (w : FVec Ideal S1024x4880 .f32) (b : Fin 2) (t : Fin 8192) (k : Fin 4880) : EReal :=
  ∑ d : Fin 1024, modu (fun e => x (ix3 b t e)) (fun e => g (ix1 e)) (fun e => sc (ix3 b 0 e)) (fun e => sh (ix3 b 0 e)) d * w (ix2 d k)

/-- The gated sum of the two branches from the projection's columns `p`, the summed directions `s` and the attention's row `a`. -/
def yval (p : Fin 4880 → EReal) (s a : Fin 512 → EReal) (gn : FVec Ideal S512 .f32) (wm wa : FVec Ideal S512x1024 .f32) (j : Fin 1024) : EReal :=
  sg (p ⟨2832 + j.val, by omega⟩) * (∑ x : Fin 512, nrm s x * gn (ix1 x) * sg (p ⟨1536 + x.val, by omega⟩) * wm (ix2 x j))
    + sg (p ⟨3856 + j.val, by omega⟩) * ∑ x : Fin 512, a x * wa (ix2 (nat x) j)

/-- The merged tokens, index by index. -/
def mval (x : FVec Ideal S2x8192x1024 .f32) (sh sc : FVec Ideal S2x1x1024 .f32) (g : FVec Ideal S1024 .f32) (g1 : FVec Ideal S2x1x1024 .f32)
    (hf hb : FVec Ideal S2x8192x512 .f32) (a : FVec Ideal S2x8192x512 .bf16) (w : FVec Ideal S1024x4880 .f32) (gn : FVec Ideal S512 .f32)
    (wm wa : FVec Ideal S512x1024 .f32) (wo : FVec Ideal S1024x1024 .f32) (i : S2x8192x1024.Idx) : EReal :=
  x (ix3 (i 0) (i 1) (i 2)) + g1 (ix3 (i 0) 0 (i 2)) * ∑ j : Fin 1024, yval (pval x sh sc g w (i 0) (i 1))
    (fun k => hf (ix3 (i 0) (i 1) k) + hb (ix3 (i 0) (i 1) k)) (fun k => a (ix3 (i 0) (i 1) k)) gn wm wa j * wo (ix2 j (i 2))

/-- `mval` of the arguments, as the contents of the result. -/
def G (c : Dev nD) : Buf (Elt Ideal) ((c : Thread nD τ).loc main_v21) :=
  mval (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What point `t` writes back is block `t` of `G`. -/
theorem flushed_eq (c : Dev nD) (t : Fin cfg0.N) :
    (dats m 0 c).flushed 13 t = (win0_13.blk t).view.read (Elt Ideal) (G m c) := by
  obtain ⟨b, n, rfl⟩ := eq_pt t
  rw [Value.flushed13]
  have key : ∀ y : S1x512x1024.Idx, out0_13 (iblk m c 0 (pt b n)) (iblk m c 1 (pt b n)) (iblk m c 2 (pt b n)) (iblk m c 3 (pt b n)) (iblk m c 4 (pt b n)) (iblk m c 5 (pt b n)) (iblk m c 6 (pt b n)) (iblk m c 7 (pt b n)) (iblk m c 8 (pt b n)) (iblk m c 9 (pt b n)) (iblk m c 10 (pt b n)) (iblk m c 11 (pt b n)) (iblk m c 12 (pt b n)) y
      = G m c ((win0_13.rect (pt b n)).emb y) := by
    intro y
    idx_vars y
    obtain rfl : y0 = 0 := Subsingleton.elim _ _
    rw [out13_apply, emb13, outer_apply, tile_apply]
    have hp (j : Fin 2560) : k0_pay3 (iblk m c 0 (pt b n)) (iblk m c 3 (pt b n)) (iblk m c 1 (pt b n)) (iblk m c 2 (pt b n)) (iblk m c 8 (pt b n)) (ix2 y1 j)
        = pval (m ((c : Thread nD τ).loc main_arg0)) (m ((c : Thread nD τ).loc main_arg1)) (m ((c : Thread nD τ).loc main_arg2))
            (m ((c : Thread nD τ).loc main_arg3)) (m ((c : Thread nD τ).loc main_arg8)) b ⟨n.val * 512 + y1.val, by omega⟩ (col j) := by
      rw [proj_apply]
      refine Finset.sum_congr rfl fun d _ => Ideal.mul_congr ?_ (blk8 m c b n d j)
      simp only [blk0, blk1, blk2, blk3]
    have hs : (fun x => k0_pay4 (iblk m c 5 (pt b n)) (ix2 y1 x) + k0_pay5 (iblk m c 6 (pt b n)) (ix2 y1 x))
        = fun k : Fin 512 => (show EReal from m ((c : Thread nD τ).loc main_arg5) (ix3 b ⟨n.val * 512 + y1.val, by omega⟩ k : S2x8192x512.Idx))
          + (show EReal from m ((c : Thread nD τ).loc main_arg6) (ix3 b ⟨n.val * 512 + y1.val, by omega⟩ k : S2x8192x512.Idx)) := by
      funext x
      rw [dir_apply, dir_apply']
      exact Ideal.add_congr (blk5 m c b n y1 x) (blk6 m c b n y1 x)
    refine Ideal.add_congr (blk0 m c b n y1 y2) (Ideal.mul_congr (blk4 m c b n y2) (Finset.sum_congr rfl fun j _ => Ideal.mul_congr ?_ (blk12 m c b n j y2)))
    rw [gated_apply]
    refine Ideal.add_congr (Ideal.mul_congr ?_ (Finset.sum_congr rfl fun x _ => Ideal.mul_congr (Ideal.mul_congr (Ideal.mul_congr ?_ (blk9 m c b n x)) ?_) (blk10 m c b n x j)))
      (Ideal.mul_congr ?_ (Finset.sum_congr rfl fun x _ => Ideal.mul_congr (blk7 m c b n y1 x) (blk11 m c b n x j)))
    · rw [hp]
      exact congrArg (fun k => sg (pval _ _ _ _ _ b _ k)) (Fin.ext ((if_neg (by show ¬ 512 + j.val < 512; omega)).trans (by show 2320 + (512 + j.val) = 2832 + j.val; omega)))
    · rw [heads_apply, hs]
      rfl
    · rw [hp]
      exact congrArg (fun k => sg (pval _ _ _ _ _ b _ k)) (Fin.ext (if_pos x.isLt))
    · rw [hp]
      exact congrArg (fun k => sg (pval _ _ _ _ _ b _ k)) (Fin.ext ((if_neg (by show ¬ 1536 + j.val < 512; omega)).trans (by show 2320 + (1536 + j.val) = 3856 + j.val; omega)))
  exact funext key

/-- The blocks tile the result array. -/
theorem cover (i : S2x8192x1024.Idx) : ∃ t : Fin cfg0.N, (cfg0.win 13).flush t = true ∧ i ∈ ((cfg0.win 13).blk t).view.set := by
  idx_vars i
  refine ⟨pt i0 ⟨i1.val / 512, by omega⟩, flush0_13 _, ?_⟩
  have e := emb13 i0 ⟨i1.val / 512, by omega⟩ ⟨i1.val % 512, by omega⟩ i2
  have h := ((cfg0.win 13).blk (pt i0 ⟨i1.val / 512, by omega⟩)).view.emb_mem_set (ix3 0 ⟨i1.val % 512, by omega⟩ i2 : S1x512x1024.Idx)
  have e' : (⟨i1.val / 512 * 512 + i1.val % 512, by omega⟩ : Fin 8192) = i1 := Fin.ext (by show i1.val / 512 * 512 + i1.val % 512 = i1.val; omega)
  rw [e'] at e
  exact e ▸ h

/-- The result ends at the merged tokens. -/
theorem final (c : Dev nD) : (dats m 0 c).arrAt 13 cfg0.N = G m c :=
  (dats m 0 c).arrAt_eq_of_cover 13 (G m c) (fun t _ => flushed_eq m c t) cover

/-! ## The heads' order -/

/-- Where column `k` of the attention's own layout stands in the layout the attention leaves. -/
def pos (k : Fin 512) : Fin 512 := ⟨k.val / 64 % 4 * 128 + k.val / 256 * 64 + k.val % 64, by omega⟩

/-- The two layouts are a permutation of each other. -/
def heads : Fin 512 ≃ Fin 512 where
  toFun := nat
  invFun := pos
  left_inv := by decide +kernel
  right_inv := by decide +kernel

/-- A sum over the columns, taken in either layout. -/
theorem sum_heads (f h : Fin 512 → EReal) : ∑ x, f x * h (nat x) = ∑ k, f (pos k) * h k :=
  Fintype.sum_equiv heads _ _ fun x => by
    show f x * h (nat x) = f (pos (nat x)) * h (nat x)
    rw [show pos (nat x) = x from heads.left_inv x]

end Cert.MergeIdeal.RefValue

namespace Cert.Proof.MergeClaim

open Cert.MergeIdeal.RefValue

/-- The kernel's result is the reference's, from equal arguments. -/
theorem algebraic : Cert.algebraic_MergeIdeal_MergeRefIdeal := by
  intro m g m' g' _ hagree
  refine ⟨fun c => G m c, ?_, ?_⟩
  · refine (θ_run Cert.MergeIdeal.defs _ _).mono (fun _ h c => ?_) (Cert.MergeIdeal.Value.run_blocks (F := Ideal) m g)
    exact ⟨(h c).1.trans (final m c), (h c).2⟩
  · refine (θ_run Cert.MergeRefIdeal.defs _ _).mono (fun _ h c => ⟨(h c).1.trans ?_, (h c).2⟩)
      (Cert.MergeRefIdeal.Value.run (F := Ideal) m' g')
    obtain ⟨h0, h1, h2, h3, h4, h5, h6, h7, h8, h9, h10, h11, h12⟩ := hagree c
    show Cert.MergeRefIdeal.Value.res_main_v70 m' c = G m c
    unfold Cert.MergeRefIdeal.Value.res_main_v70
    rw [h0, h1, h2, h3, h4, h5, h6, h7, h8, h9, h10, h11, h12]
    funext i
    change Cert.MergeIdeal.S2x8192x1024.Idx at i
    idx_vars i
    clean_types
    unfold G
    pointwise [mval, yval, pval, modu, nrm]
    refine Ideal.add_congr rfl (Ideal.mul_congr rfl (Finset.sum_congr rfl fun j _ => Ideal.mul_congr (Ideal.add_congr rfl (Ideal.mul_congr rfl ?_)) rfl))
    exact (sum_heads (fun k => m ((c.tc : Thread Cert.MergeIdeal.nD Cert.MergeIdeal.τ).loc Cert.MergeIdeal.main_arg7) (ix3 i0 i1 k : Cert.MergeIdeal.S2x8192x512.Idx))
      (fun k => m ((c.tc : Thread Cert.MergeIdeal.nD Cert.MergeIdeal.τ).loc Cert.MergeIdeal.main_arg11) (ix2 k j : Cert.MergeIdeal.S512x1024.Idx))).symm

end Cert.Proof.MergeClaim
-- ==== Proof.PQueryValue.lean ====
module

public import proofs.«01_k».proof.Defs
public import proofs.«01_k».proof.Proof.Gen.PQueryIdeal.Value
public import proofs.«01_k».proof.Proof.Gen.PQueryRefIdeal.Run
public import Idealize.ShloMosaic.Lib.Pointwise
public import Idealize.ShloMosaic.Lib.Claim
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.PQueryIdeal.RefValue

open Cert.PQueryIdeal Cert.PQueryIdeal.Gen

variable (m : (ℓ : Loc nD τ sig) → Buf (Elt Ideal) ℓ)

/-! ## Where the blocks lie -/

/-- The block indices of the six argument windows and of the two result windows at each grid point. -/
theorem idx_facts : ∀ t : Fin cfg0.N,
    (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_2.index t 0 = t.val / 8 ∧ win0_2.index t 1 = 0 ∧ win0_2.index t 2 = 0)
    ∧ (win0_3.index t 0 = 0 ∧ win0_3.index t 1 = 0)
    ∧ (win0_4.index t 0 = 0 ∧ win0_4.index t 1 = 0)
    ∧ (win0_5.index t 0 = 0 ∧ win0_5.index t 1 = 0 ∧ win0_5.index t 2 = 0)
    ∧ (win0_6.index t 0 = t.val / 8 ∧ win0_6.index t 1 = t.val % 8 ∧ win0_6.index t 2 = 0)
    ∧ (win0_7.index t 0 = t.val / 8 ∧ win0_7.index t 1 = 0 ∧ win0_7.index t 2 = 0 ∧ win0_7.index t 3 = t.val % 8) :=
  (by decide +kernel : ∀ t : Fin grid0.N, _)

/-- The grid point of batch `b` and token tile `n`. -/
def pt (b : Fin 2) (n : Fin 8) : Fin cfg0.N := ⟨8 * b.val + n.val, by have h : cfg0.N = 16 := N_0; omega⟩

theorem pt_div (b : Fin 2) (n : Fin 8) : (pt b n).val / 8 = b.val := by show (8 * b.val + n.val) / 8 = _; omega
theorem pt_mod (b : Fin 2) (n : Fin 8) : (pt b n).val % 8 = n.val := by show (8 * b.val + n.val) % 8 = _; omega

/-- Every grid point is the point of some batch and some tile. -/
theorem eq_pt (t : Fin cfg0.N) : ∃ b n, t = pt b n := by
  have h : cfg0.N = 16 := N_0
  have ht := t.isLt
  exact ⟨⟨t.val / 8, by omega⟩, ⟨t.val % 8, by omega⟩, Fin.ext (by show t.val = 8 * (t.val / 8) + t.val % 8; omega)⟩

theorem emb0 (b : Fin 2) (n : Fin 8) (v : Fin 1024) (w : Fin 1024) :
    (win0_0.rect (pt b n)).emb (ix3 0 v w : S1x1024x1024.Idx) = (ix3 b ⟨n.val * 1024 + v.val, by omega⟩ w : S2x8192x1024.Idx) := by
  have hf := (idx_facts (pt b n)).1
  have e0 := pt_div b n
  have e1 := pt_mod b n
  funext a
  apply Fin.ext
  refine (Pipeline.Window.rect_emb_val win0_0 (pt b n) _ a).trans ?_
  match a with
  | ⟨0, _⟩ => show win0_0.index (pt b n) 0 * 1 + 0 = b.val; omega
  | ⟨1, _⟩ => show win0_0.index (pt b n) 1 * 1024 + v.val = n.val * 1024 + v.val; omega
  | ⟨2, _⟩ => show win0_0.index (pt b n) 2 * 1024 + w.val = w.val; omega

theorem emb1 (b : Fin 2) (n : Fin 8) (w : Fin 1024) :
    (win0_1.rect (pt b n)).emb (ix3 0 0 w : S1x1x1024.Idx) = (ix3 b 0 w : S2x1x1024.Idx) := by
  have hf := (idx_facts (pt b n)).2.1
  have e0 := pt_div b n
  have e1 := pt_mod b n
  funext a
  apply Fin.ext
  refine (Pipeline.Window.rect_emb_val win0_1 (pt b n) _ a).trans ?_
  match a with
  | ⟨0, _⟩ => show win0_1.index (pt b n) 0 * 1 + 0 = b.val; omega
  | ⟨1, _⟩ => show win0_1.index (pt b n) 1 * 1 + 0 = 0; omega
  | ⟨2, _⟩ => show win0_1.index (pt b n) 2 * 1024 + w.val = w.val; omega

theorem emb2 (b : Fin 2) (n : Fin 8) (w : Fin 1024) :
    (win0_2.rect (pt b n)).emb (ix3 0 0 w : S1x1x1024.Idx) = (ix3 b 0 w : S2x1x1024.Idx) := by
  have hf := (idx_facts (pt b n)).2.2.1
  have e0 := pt_div b n
  have e1 := pt_mod b n
  funext a
  apply Fin.ext
  refine (Pipeline.Window.rect_emb_val win0_2 (pt b n) _ a).trans ?_
  match a with
  | ⟨0, _⟩ => show win0_2.index (pt b n) 0 * 1 + 0 = b.val; omega
  | ⟨1, _⟩ => show win0_2.index (pt b n) 1 * 1 + 0 = 0; omega
  | ⟨2, _⟩ => show win0_2.index (pt b n) 2 * 1024 + w.val = w.val; omega

theorem emb3 (b : Fin 2) (n : Fin 8) (v : Fin 1024) :
    (win0_3.rect (pt b n)).emb (ix2 0 v : S1x1024.Idx) = (ix2 0 v : S1x1024.Idx) := by
  have hf := (idx_facts (pt b n)).2.2.2.1
  have e0 := pt_div b n
  have e1 := pt_mod b n
  funext a
  apply Fin.ext
  refine (Pipeline.Window.rect_emb_val win0_3 (pt b n) _ a).trans ?_
  match a with
  | ⟨0, _⟩ => show win0_3.index (pt b n) 0 * 1 + 0 = 0; omega
  | ⟨1, _⟩ => show win0_3.index (pt b n) 1 * 1024 + v.val = v.val; omega

theorem emb4 (b : Fin 2) (n : Fin 8) (u : Fin 1024) (v : Fin 2048) :
    (win0_4.rect (pt b n)).emb (ix2 u v : S1024x2048.Idx) = (ix2 u v : S1024x2048.Idx) := by
  have hf := (idx_facts (pt b n)).2.2.2.2.1
  have e0 := pt_div b n
  have e1 := pt_mod b n
  funext a
  apply Fin.ext
  refine (Pipeline.Window.rect_emb_val win0_4 (pt b n) _ a).trans ?_
  match a with
  | ⟨0, _⟩ => show win0_4.index (pt b n) 0 * 1024 + u.val = u.val; omega
  | ⟨1, _⟩ => show win0_4.index (pt b n) 1 * 2048 + v.val = v.val; omega

theorem emb5 (b : Fin 2) (n : Fin 8) (u : Fin 16) (v : Fin 128) (w : Fin 128) :
    (win0_5.rect (pt b n)).emb (ix3 u v w : S16x128x128.Idx) = (ix3 u v w : S16x128x128.Idx) := by
  have hf := (idx_facts (pt b n)).2.2.2.2.2.1
  have e0 := pt_div b n
  have e1 := pt_mod b n
  funext a
  apply Fin.ext
  refine (Pipeline.Window.rect_emb_val win0_5 (pt b n) _ a).trans ?_
  match a with
  | ⟨0, _⟩ => show win0_5.index (pt b n) 0 * 16 + u.val = u.val; omega
  | ⟨1, _⟩ => show win0_5.index (pt b n) 1 * 128 + v.val = v.val; omega
  | ⟨2, _⟩ => show win0_5.index (pt b n) 2 * 128 + w.val = w.val; omega

theorem emb6 (b : Fin 2) (n : Fin 8) (v : Fin 1024) (w : Fin 1024) :
    (win0_6.rect (pt b n)).emb (ix3 0 v w : S1x1024x1024.Idx) = (ix3 b ⟨n.val * 1024 + v.val, by omega⟩ w : S2x8192x1024.Idx) := by
  have hf := (idx_facts (pt b n)).2.2.2.2.2.2.1
  have e0 := pt_div b n
  have e1 := pt_mod b n
  funext a
  apply Fin.ext
  refine (Pipeline.Window.rect_emb_val win0_6 (pt b n) _ a).trans ?_
  match a with
  | ⟨0, _⟩ => show win0_6.index (pt b n) 0 * 1 + 0 = b.val; omega
  | ⟨1, _⟩ => show win0_6.index (pt b n) 1 * 1024 + v.val = n.val * 1024 + v.val; omega
  | ⟨2, _⟩ => show win0_6.index (pt b n) 2 * 1024 + w.val = w.val; omega

theorem emb7 (b : Fin 2) (n : Fin 8) (v : Fin 16) (w : Fin 128) (x : Fin 1024) :
    (win0_7.rect (pt b n)).emb (ix4 0 v w x : S1x16x128x1024.Idx) = (ix4 b v w ⟨n.val * 1024 + x.val, by omega⟩ : S2x16x128x8192.Idx) := by
  have hf := (idx_facts (pt b n)).2.2.2.2.2.2.2
  have e0 := pt_div b n
  have e1 := pt_mod b n
  funext a
  apply Fin.ext
  refine (Pipeline.Window.rect_emb_val win0_7 (pt b n) _ a).trans ?_
  match a with
  | ⟨0, _⟩ => show win0_7.index (pt b n) 0 * 1 + 0 = b.val; omega
  | ⟨1, _⟩ => show win0_7.index (pt b n) 1 * 16 + v.val = v.val; omega
  | ⟨2, _⟩ => show win0_7.index (pt b n) 2 * 128 + w.val = w.val; omega
  | ⟨3, _⟩ => show win0_7.index (pt b n) 3 * 1024 + x.val = n.val * 1024 + x.val; omega

/-! ## The blocks of the arguments, read at an index -/

theorem blk0 (c : Dev nD) (b : Fin 2) (n : Fin 8) (r d : Fin 1024) :
    iblk m c 0 (pt b n) (ix3 0 r d : S1x1024x1024.Idx) = m ((c : Thread nD τ).loc main_arg0) (ix3 b ⟨n.val * 1024 + r.val, by omega⟩ d : S2x8192x1024.Idx) := by
  show V m c main_arg0 ((win0_0.rect (pt b n)).emb _) = _
  rw [emb0]
  rw [V_main_arg0]

theorem blk1 (c : Dev nD) (b : Fin 2) (n : Fin 8) (d : Fin 1024) :
    iblk m c 1 (pt b n) (ix3 0 0 d : S1x1x1024.Idx) = m ((c : Thread nD τ).loc main_arg1) (ix3 b 0 d : S2x1x1024.Idx) := by
  show V m c main_arg1 ((win0_1.rect (pt b n)).emb _) = _
  rw [emb1]
  rw [V_main_arg1]

theorem blk2 (c : Dev nD) (b : Fin 2) (n : Fin 8) (d : Fin 1024) :
    iblk m c 2 (pt b n) (ix3 0 0 d : S1x1x1024.Idx) = m ((c : Thread nD τ).loc main_arg2) (ix3 b 0 d : S2x1x1024.Idx) := by
  show V m c main_arg2 ((win0_2.rect (pt b n)).emb _) = _
  rw [emb2]
  rw [V_main_arg2]

theorem blk3 (c : Dev nD) (b : Fin 2) (n : Fin 8) (d : Fin 1024) :
    iblk m c 3 (pt b n) (ix2 0 d : S1x1024.Idx) = m ((c : Thread nD τ).loc main_arg3) (ix1 d : S1024.Idx) := by
  show V m c main_v2 ((win0_3.rect (pt b n)).emb _) = _
  rw [emb3]
  after_reads_at

theorem blk4 (c : Dev nD) (b : Fin 2) (n : Fin 8) (d : Fin 1024) (j : Fin 2048) :
    iblk m c 4 (pt b n) (ix2 d j : S1024x2048.Idx) = m ((c : Thread nD τ).loc main_arg4) (ix2 d j : S1024x2048.Idx) := by
  show V m c main_v3 ((win0_4.rect (pt b n)).emb _) = _
  rw [emb4]
  after_reads_at

theorem blk5 (c : Dev nD) (b : Fin 2) (n : Fin 8) (j : Fin 16) (k d : Fin 128) :
    iblk m c 5 (pt b n) (ix3 j k d : S16x128x128.Idx) = m ((c : Thread nD τ).loc main_arg5) (ix4 ⟨j.val / 2, by omega⟩ ⟨j.val % 2, by omega⟩ k d : S8x2x128x128.Idx) := by
  show V m c main_v1 ((win0_5.rect (pt b n)).emb _) = _
  rw [emb5]
  after_reads_at

/-! ## What the body leaves in a result's block, read at an index -/

/-- The modulated normalised row: `x · rsqrt (mean x² + ε) · g · (1 + scale) + shift`. -/
def modu (x : Fin 1024 → EReal) (g sc sh : Fin 1024 → EReal) (d : Fin 1024) : EReal :=
  x d * Ideal.rsqrt (Ideal.div (∑ e, x e * x e) (Ideal.ofBits FTy.f32 1149239296#32) + Ideal.ofBits FTy.f32 897988541#32)
    * g d * (1 + sc d) + sh d

section block
variable (x0 : Vec Ideal S1x1024x1024 .f32) (x1 x2 : Vec Ideal S1x1x1024 .f32) (x3 : Vec Ideal S1x1024 .f32)
  (x4 : Vec Ideal S1024x2048 .bf16) (x5 : Vec Ideal S16x128x128 .bf16)

/-- The first result's block is the modulated row of each token. -/
theorem out6_apply (r d : Fin 1024) :
    out0_6 x0 x1 x2 x3 x4 x5 (ix3 0 r d) = modu (fun e => x0 (ix3 0 r e)) (fun e => x3 (ix2 0 e)) (fun e => x2 (ix3 0 0 e)) (fun e => x1 (ix3 0 0 e)) d := by
  unfold out0_6
  rw [View.canon_unit_zero (by funext a; fin_cases a <;> rfl)]
  unfold_payloads
  pointwise [modu]

/-- The queries: the modulated rows times the query matrix. -/
theorem query_apply (r : Fin 1024) (j : Fin 2048) :
    k0_pay24 x0 x1 x2 x3 x4 x5 (ix2 r j) = ∑ d, modu (fun e => x0 (ix3 0 r e)) (fun e => x3 (ix2 0 e)) (fun e => x2 (ix3 0 0 e)) (fun e => x1 (ix3 0 0 e)) d * x4 (ix2 d j) := by
  unfold_payloads
  pointwise [modu]

/-- The scores of a block of queries `q`: sub-key `k` of table `j` against the table's 128 columns of token `r`. -/
def score (q : Vec Ideal S1024x2048 .bf16) (y : S1x16x128x1024.Idx) : EReal :=
  ∑ x : Fin 128, x5 (ix3 (y 1) (y 2) x) * q (ix2 (y 3) ⟨128 * (y 1).val + x.val, by have h : (y 1).val < 16 := (y 1).isLt; omega⟩)

/-- The second result's block is the score of each table, sub-key and token. -/
theorem out7_apply (y : S1x16x128x1024.Idx) :
    out0_7 x0 x1 x2 x3 x4 x5 y = score x5 (k0_pay24 x0 x1 x2 x3 x4 x5) y := by
  unfold out0_7
  generalize k0_pay24 x0 x1 x2 x3 x4 x5 = q
  refine View.canon_apply_of_pieces (Val := Elt Ideal) (score x5 q) _ ?_ y (cover0_7 (_) (_) (_) (_) (_) (_) (_) (_) (_) (_) (_) (_) (_) (_) (_) (_) y)
  intro pc hpc
  simp only [List.mem_cons, List.not_mem_nil, or_false] at hpc
  rcases hpc with rfl | rfl | rfl | rfl | rfl | rfl | rfl | rfl | rfl | rfl | rfl | rfl | rfl | rfl | rfl | rfl
  all_goals
    intro x
    change _ = View.ld (Val := Elt Ideal) (e' := .f32) (score x5 q) _ x
    idx_vars x
    unfold_payloads
    pointwise [score]
end block

/-! ## The result arrays after the run -/

/-- The modulated normalised tokens, index by index. -/
def hval (x : FVec Ideal S2x8192x1024 .f32) (sh sc : FVec Ideal S2x1x1024 .f32) (g : FVec Ideal S1024 .f32) (i : S2x8192x1024.Idx) : EReal :=
  modu (fun e => x (ix3 (i 0) (i 1) e)) (fun e => g (ix1 e)) (fun e => sc (ix3 (i 0) 0 e)) (fun e => sh (ix3 (i 0) 0 e)) (i 2)

/-- The scores, index by index: each sub-key against its table's columns of the token's query. -/
def sval (x : FVec Ideal S2x8192x1024 .f32) (sh sc : FVec Ideal S2x1x1024 .f32) (g : FVec Ideal S1024 .f32)
    (w : FVec Ideal S1024x2048 .f32) (k : FVec Ideal S8x2x128x128 .f32) (i : S2x16x128x8192.Idx) : EReal :=
  ∑ e : Fin 128, k (ix4 ⟨(i 1).val / 2, by have h : (i 1).val < 16 := (i 1).isLt; omega⟩ ⟨(i 1).val % 2, by omega⟩ (i 2) e)
    * ∑ d : Fin 1024, hval x sh sc g (ix3 (i 0) (i 3) d) * w (ix2 d ⟨128 * (i 1).val + e.val, by have h : (i 1).val < 16 := (i 1).isLt; omega⟩)

/-- `hval` of the arguments, as the contents of the first result. -/
def G6 (c : Dev nD) : Buf (Elt Ideal) ((c : Thread nD τ).loc main_v4_0) :=
  hval (m ((c : Thread nD τ).loc main_arg0)) (m ((c : Thread nD τ).loc main_arg1)) (m ((c : Thread nD τ).loc main_arg2)) (m ((c : Thread nD τ).loc main_arg3))

/-- `sval` of the arguments, as the contents of the second result. -/
def G7 (c : Dev nD) : Buf (Elt Ideal) ((c : Thread nD τ).loc main_v4_1) :=
  sval (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- What point `t` writes back to the first result is block `t` of `G6`. -/
theorem flushed6_eq (c : Dev nD) (t : Fin cfg0.N) :
    (dats m 0 c).flushed 6 t = (win0_6.blk t).view.read (Elt Ideal) (G6 m c) := by
  obtain ⟨b, n, rfl⟩ := eq_pt t
  rw [Value.flushed6]
  have key : ∀ y : S1x1024x1024.Idx, out0_6 (iblk m c 0 (pt b n)) (iblk m c 1 (pt b n)) (iblk m c 2 (pt b n)) (iblk m c 3 (pt b n))
      (iblk m c 4 (pt b n)) (iblk m c 5 (pt b n)) y = G6 m c ((win0_6.rect (pt b n)).emb y) := by
    intro y
    idx_vars y
    obtain rfl : y0 = 0 := Subsingleton.elim _ _
    rw [out6_apply, emb6]
    simp only [blk0, blk1, blk2, blk3]
    rfl
  exact funext key

/-- What point `t` writes back to the second result is block `t` of `G7`. -/
theorem flushed7_eq (c : Dev nD) (t : Fin cfg0.N) :
    (dats m 0 c).flushed 7 t = (win0_7.blk t).view.read (Elt Ideal) (G7 m c) := by
  obtain ⟨b, n, rfl⟩ := eq_pt t
  rw [Value.flushed7]
  have key : ∀ y : S1x16x128x1024.Idx, out0_7 (iblk m c 0 (pt b n)) (iblk m c 1 (pt b n)) (iblk m c 2 (pt b n)) (iblk m c 3 (pt b n))
      (iblk m c 4 (pt b n)) (iblk m c 5 (pt b n)) y = G7 m c ((win0_7.rect (pt b n)).emb y) := by
    intro y
    idx_vars y
    obtain rfl : y0 = 0 := Subsingleton.elim _ _
    rw [out7_apply, emb7]
    have hq (r : Fin 1024) (j : Fin 2048) : k0_pay24 (iblk m c 0 (pt b n)) (iblk m c 1 (pt b n)) (iblk m c 2 (pt b n)) (iblk m c 3 (pt b n))
        (iblk m c 4 (pt b n)) (iblk m c 5 (pt b n)) (ix2 r j)
        = ∑ d : Fin 1024, hval (m ((c : Thread nD τ).loc main_arg0)) (m ((c : Thread nD τ).loc main_arg1)) (m ((c : Thread nD τ).loc main_arg2))
            (m ((c : Thread nD τ).loc main_arg3)) (ix3 b ⟨n.val * 1024 + r.val, by omega⟩ d) * (show EReal from m ((c : Thread nD τ).loc main_arg4) (ix2 d j : S1024x2048.Idx)) := by
      rw [query_apply]
      refine Finset.sum_congr rfl fun d _ => Ideal.mul_congr ?_ (blk4 m c b n d j)
      simp only [blk0, blk1, blk2, blk3]
      rfl
    exact Finset.sum_congr rfl fun x _ => Ideal.mul_congr (blk5 m c b n y1 y2 x) (hq y3 _)
  exact funext key

/-- The first result's blocks tile its array. -/
theorem cover6 (i : S2x8192x1024.Idx) : ∃ t : Fin cfg0.N, (cfg0.win 6).flush t = true ∧ i ∈ ((cfg0.win 6).blk t).view.set := by
  idx_vars i
  refine ⟨pt i0 ⟨i1.val / 1024, by omega⟩, flush0_6 _, ?_⟩
  have e := emb6 i0 ⟨i1.val / 1024, by omega⟩ ⟨i1.val % 1024, by omega⟩ i2
  have h := ((cfg0.win 6).blk (pt i0 ⟨i1.val / 1024, by omega⟩)).view.emb_mem_set (ix3 0 ⟨i1.val % 1024, by omega⟩ i2 : S1x1024x1024.Idx)
  have e' : (⟨i1.val / 1024 * 1024 + i1.val % 1024, by omega⟩ : Fin 8192) = i1 := Fin.ext (by show i1.val / 1024 * 1024 + i1.val % 1024 = i1.val; omega)
  rw [e'] at e
  exact e ▸ h

/-- The second result's blocks tile its array. -/
theorem cover7 (i : S2x16x128x8192.Idx) : ∃ t : Fin cfg0.N, (cfg0.win 7).flush t = true ∧ i ∈ ((cfg0.win 7).blk t).view.set := by
  idx_vars i
  refine ⟨pt i0 ⟨i3.val / 1024, by omega⟩, flush0_7 _, ?_⟩
  have e := emb7 i0 ⟨i3.val / 1024, by omega⟩ i1 i2 ⟨i3.val % 1024, by omega⟩
  have h := ((cfg0.win 7).blk (pt i0 ⟨i3.val / 1024, by omega⟩)).view.emb_mem_set (ix4 0 i1 i2 ⟨i3.val % 1024, by omega⟩ : S1x16x128x1024.Idx)
  have e' : (⟨i3.val / 1024 * 1024 + i3.val % 1024, by omega⟩ : Fin 8192) = i3 := Fin.ext (by show i3.val / 1024 * 1024 + i3.val % 1024 = i3.val; omega)
  rw [e'] at e
  exact e ▸ h

/-- The first result ends at the modulated normalised tokens. -/
theorem final6 (c : Dev nD) : (dats m 0 c).arrAt 6 cfg0.N = G6 m c :=
  (dats m 0 c).arrAt_eq_of_cover 6 (G6 m c) (fun t _ => flushed6_eq m c t) cover6

/-- The second result ends at the scores. -/
theorem final7 (c : Dev nD) : (dats m 0 c).arrAt 7 cfg0.N = G7 m c :=
  (dats m 0 c).arrAt_eq_of_cover 7 (G7 m c) (fun t _ => flushed7_eq m c t) cover7

end Cert.PQueryIdeal.RefValue

namespace Cert.Proof.PQueryClaim

open Cert.PQueryIdeal.RefValue

/-- The kernel's two results are the reference's, from equal arguments. -/
theorem algebraic : Cert.algebraic_PQueryIdeal_PQueryRefIdeal := by
  intro m g m' g' _ hagree
  refine ⟨fun c => G6 m c, fun c => G7 m c, ?_, ?_⟩
  · refine (θ_run Cert.PQueryIdeal.defs _ _).mono (fun _ h c => ?_) (Cert.PQueryIdeal.Value.run_blocks (F := Ideal) m g)
    exact ⟨(h c).1.trans (final6 m c), (h c).2.1.trans (final7 m c), (h c).2.2⟩
  · refine (θ_run Cert.PQueryRefIdeal.defs _ _).mono (fun _ h c => ⟨(h c).1.trans ?_, (h c).2.1.trans ?_, (h c).2.2⟩)
      (Cert.PQueryRefIdeal.Value.run (F := Ideal) m' g')
    · obtain ⟨h0, h1, h2, h3, h4, h5⟩ := hagree c
      rw [h0, h1, h2, h3]
      funext i
      change Cert.PQueryIdeal.S2x8192x1024.Idx at i
      idx_vars i
      clean_types
      unfold G6
      pointwise [hval, modu]
    · obtain ⟨h0, h1, h2, h3, h4, h5⟩ := hagree c
      rw [h0, h1, h2, h3, h4, h5]
      funext i
      change Cert.PQueryIdeal.S2x16x128x8192.Idx at i
      idx_vars i
      clean_types
      unfold G7
      pointwise [sval, hval, modu]
      have e (x : Fin 128) (h h') : (⟨i1.val / 2 * 256 + i1.val % 2 * 128 + x.val, h⟩ : Fin 2048) = ⟨128 * i1.val + x.val, h'⟩ :=
        Fin.ext (by show i1.val / 2 * 256 + i1.val % 2 * 128 + x.val = 128 * i1.val + x.val; omega)
      refine Finset.sum_congr rfl fun x _ => Ideal.mul_congr rfl (Finset.sum_congr rfl fun d _ => Ideal.mul_congr rfl ?_)
      rw [e x]

end Cert.Proof.PQueryClaim
-- ==== Proof.lean ====
module

public import proofs.«01_k».proof.Defs
public import proofs.«01_k».proof.Proof.Gen.Kernel.Frame
public import proofs.«01_k».proof.Proof.Gen.KernelIdeal.Frame
public import proofs.«01_k».proof.Proof.Gen.Proj.Frame
public import proofs.«01_k».proof.Proof.Gen.ProjIdeal.Frame
public import proofs.«01_k».proof.Proof.Gen.Merge.Frame
public import proofs.«01_k».proof.Proof.Gen.MergeIdeal.Frame
public import proofs.«01_k».proof.Proof.Gen.PQuery.Frame
public import proofs.«01_k».proof.Proof.Gen.PQueryIdeal.Frame
public import proofs.«01_k».proof.Proof.Gen.ReferenceIdeal.Run
public import proofs.«01_k».proof.Proof.Gen.ProjRefIdeal.Run
public import proofs.«01_k».proof.Proof.Gen.MergeRefIdeal.Run
public import proofs.«01_k».proof.Proof.Gen.PQueryRefIdeal.Run
public import proofs.«01_k».proof.Proof.AttnFinite
public import proofs.«01_k».proof.Proof.AttnValue
public import proofs.«01_k».proof.Proof.ProjFinite
public import proofs.«01_k».proof.Proof.ProjValue
public import proofs.«01_k».proof.Proof.MergeValue
public import proofs.«01_k».proof.Proof.PQueryValue
public import Idealize.ShloMosaic.Adequacy
public import Idealize.ShloMosaic.Init

@[expose] public section

noncomputable section

namespace Cert.Proof

open Idealize.ShloMosaic Idealize.SL.Sem

/-- The claim: every launch runs to its end leaving its arguments alone, and the launches' values are the references'. -/
theorem claim : Cert.Claim :=
  ⟨Cert.Kernel.Gen.facts, Cert.KernelIdeal.Gen.facts, Cert.ReferenceIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.PQuery.Gen.facts, Cert.PQueryIdeal.Gen.facts, Cert.PQueryRefIdeal.Gen.facts, Cert.AttnFinite.facts, Cert.ProjFinite.facts, by
    refine ⟨?_, ?_, ?_, ?_, ?_, ?_, ?_, ?_, ?_, ?_, ?_, ?_, ?_, ?_, ?_, ?_, ?_, ?_, ?_, ?_, ?_, ?_, ?_, ?_⟩
    · exact fun m ρ _ => Cert.Kernel.Gen.frame m ρ
    · exact fun m ρ _ => Cert.KernelIdeal.Gen.frame m ρ
    · exact fun m ρ _ => Cert.KernelIdeal.Gen.frame m ρ
    · exact fun m ρ _ => (θ_run Cert.ReferenceIdeal.defs _ _).mono
        (fun r h => ⟨fun c => (h c).2, Idealize.ShloMosaic.sem_eq_zero_of_no_sems (by decide) r.2⟩)
        (Cert.ReferenceIdeal.Value.run (F := Ideal) m ρ)
    · exact fun m ρ _ => (θ_run Cert.ReferenceIdeal.defs _ _).mono
        (fun r h => ⟨fun c => (h c).2, Idealize.ShloMosaic.sem_eq_zero_of_no_sems (by decide) r.2⟩)
        (Cert.ReferenceIdeal.Value.run (F := Ideal) m ρ)
    · exact fun m ρ _ => Cert.Proj.Gen.frame m ρ
    · exact fun m ρ _ => Cert.ProjIdeal.Gen.frame m ρ
    · exact fun m ρ _ => Cert.ProjIdeal.Gen.frame m ρ
    · exact fun m ρ _ => (θ_run Cert.ProjRefIdeal.defs _ _).mono
        (fun r h => ⟨fun c => (h c).2.2.2.2.2.2.2, Idealize.ShloMosaic.sem_eq_zero_of_no_sems (by decide) r.2⟩)
        (Cert.ProjRefIdeal.Value.run (F := Ideal) m ρ)
    · exact fun m ρ _ => (θ_run Cert.ProjRefIdeal.defs _ _).mono
        (fun r h => ⟨fun c => (h c).2.2.2.2.2.2.2, Idealize.ShloMosaic.sem_eq_zero_of_no_sems (by decide) r.2⟩)
        (Cert.ProjRefIdeal.Value.run (F := Ideal) m ρ)
    · exact fun m ρ _ => Cert.Merge.Gen.frame m ρ
    · exact fun m ρ _ => Cert.MergeIdeal.Gen.frame m ρ
    · exact fun m ρ _ => (θ_run Cert.MergeRefIdeal.defs _ _).mono
        (fun r h => ⟨fun c => (h c).2, Idealize.ShloMosaic.sem_eq_zero_of_no_sems (by decide) r.2⟩)
        (Cert.MergeRefIdeal.Value.run (F := Ideal) m ρ)
    · exact fun m ρ _ => Cert.PQuery.Gen.frame m ρ
    · exact fun m ρ _ => Cert.PQueryIdeal.Gen.frame m ρ
    · exact fun m ρ _ => (θ_run Cert.PQueryRefIdeal.defs _ _).mono
        (fun r h => ⟨fun c => (h c).2.2, Idealize.ShloMosaic.sem_eq_zero_of_no_sems (by decide) r.2⟩)
        (Cert.PQueryRefIdeal.Value.run (F := Ideal) m ρ)
    · exact trivial
    · exact AttnClaim.algebraic
    · exact trivial
    · exact ProjClaim.algebraic
    · exact trivial
    · exact MergeClaim.algebraic
    · exact trivial
    · exact PQueryClaim.algebraic⟩

end Cert.Proof

end
